-- ==== Defs.lean ====
def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelK (m : (ℓ : Loc Cert.KernelK.nD Cert.KernelK.τ Cert.KernelK.sig) → Buf (Elt Bits) ℓ) : Prop :=
  True

def Pre_KernelKIdeal (m : (ℓ : Loc Cert.KernelKIdeal.nD Cert.KernelKIdeal.τ Cert.KernelKIdeal.sig) → Buf (Elt Ideal) ℓ) : Prop :=
  True

def Pre_ReferenceKIdeal (m : (ℓ : Loc Cert.ReferenceKIdeal.nD Cert.ReferenceKIdeal.τ Cert.ReferenceKIdeal.sig) → Buf (Elt Ideal) ℓ) : Prop :=
  True

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_ReferenceVIdeal (m : (ℓ : Loc Cert.ReferenceVIdeal.nD Cert.ReferenceVIdeal.τ Cert.ReferenceVIdeal.sig) → Buf (Elt Ideal) ℓ) : Prop :=
  True

def Pre_KernelQf (m : (ℓ : Loc Cert.KernelQf.nD Cert.KernelQf.τ Cert.KernelQf.sig) → Buf (Elt Bits) ℓ) : Prop :=
  True

def Pre_KernelQfIdeal (m : (ℓ : Loc Cert.KernelQfIdeal.nD Cert.KernelQfIdeal.τ Cert.KernelQfIdeal.sig) → Buf (Elt Ideal) ℓ) : Prop :=
  True

def Pre_ReferenceQfIdeal (m : (ℓ : Loc Cert.ReferenceQfIdeal.nD Cert.ReferenceQfIdeal.τ Cert.ReferenceQfIdeal.sig) → Buf (Elt Ideal) ℓ) : Prop :=
  True

def Pre_KernelI (m : (ℓ : Loc Cert.KernelI.nD Cert.KernelI.τ Cert.KernelI.sig) → Buf (Elt Bits) ℓ) : Prop :=
  True

def Pre_KernelIIdeal (m : (ℓ : Loc Cert.KernelIIdeal.nD Cert.KernelIIdeal.τ Cert.KernelIIdeal.sig) → Buf (Elt Ideal) ℓ) : Prop :=
  True

def Pre_ReferenceIIdeal (m : (ℓ : Loc Cert.ReferenceIIdeal.nD Cert.ReferenceIIdeal.τ Cert.ReferenceIIdeal.sig) → Buf (Elt Ideal) ℓ) : Prop :=
  True

def Pre_KernelG (m : (ℓ : Loc Cert.KernelG.nD Cert.KernelG.τ Cert.KernelG.sig) → Buf (Elt Bits) ℓ) : Prop :=
  True

def Pre_KernelGIdeal (m : (ℓ : Loc Cert.KernelGIdeal.nD Cert.KernelGIdeal.τ Cert.KernelGIdeal.sig) → Buf (Elt Ideal) ℓ) : Prop :=
  True

def Pre_ReferenceGIdeal (m : (ℓ : Loc Cert.ReferenceGIdeal.nD Cert.ReferenceGIdeal.τ Cert.ReferenceGIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_ReferenceFinalIdeal (m : (ℓ : Loc Cert.ReferenceFinalIdeal.nD Cert.ReferenceFinalIdeal.τ Cert.ReferenceFinalIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelFox (m : (ℓ : Loc Cert.KernelFox.nD Cert.KernelFox.τ Cert.KernelFox.sig) → Buf (Elt Bits) ℓ) : Prop :=
  True

def Pre_KernelFoxIdeal (m : (ℓ : Loc Cert.KernelFoxIdeal.nD Cert.KernelFoxIdeal.τ Cert.KernelFoxIdeal.sig) → Buf (Elt Ideal) ℓ) : Prop :=
  True

def Pre_KernelFoxIdeal_all_finite [hPre_all_finite : Cert.Pre_all_finite.Facts] (m : (ℓ : Loc Cert.KernelFoxIdeal.nD Cert.KernelFoxIdeal.τ Cert.KernelFoxIdeal.sig) → Buf (Elt Ideal) ℓ) : Prop :=
  ∀ c : Dev Cert.KernelFoxIdeal.nD,
    (Cert.Pre_all_finite.fn (F := Ideal) (m ((c.tc : Thread Cert.KernelFoxIdeal.nD Cert.KernelFoxIdeal.τ).loc Cert.KernelFoxIdeal.main_arg0)) (m ((c.tc : Thread Cert.KernelFoxIdeal.nD Cert.KernelFoxIdeal.τ).loc Cert.KernelFoxIdeal.main_arg1)) (m ((c.tc : Thread Cert.KernelFoxIdeal.nD Cert.KernelFoxIdeal.τ).loc Cert.KernelFoxIdeal.main_arg2)) (m ((c.tc : Thread Cert.KernelFoxIdeal.nD Cert.KernelFoxIdeal.τ).loc Cert.KernelFoxIdeal.main_arg3)) (m ((c.tc : Thread Cert.KernelFoxIdeal.nD Cert.KernelFoxIdeal.τ).loc Cert.KernelFoxIdeal.main_arg4)) (m ((c.tc : Thread Cert.KernelFoxIdeal.nD Cert.KernelFoxIdeal.τ).loc Cert.KernelFoxIdeal.main_arg5))) = (fun _ => 1#1)

def Pre_ReferenceFoxIdeal (m : (ℓ : Loc Cert.ReferenceFoxIdeal.nD Cert.ReferenceFoxIdeal.τ Cert.ReferenceFoxIdeal.sig) → Buf (Elt Ideal) ℓ) : Prop :=
  True

def Pre_ReferenceFoxIdeal_all_finite [hPre_all_finite : Cert.Pre_all_finite.Facts] (m : (ℓ : Loc Cert.ReferenceFoxIdeal.nD Cert.ReferenceFoxIdeal.τ Cert.ReferenceFoxIdeal.sig) → Buf (Elt Ideal) ℓ) : Prop :=
  ∀ c : Dev Cert.ReferenceFoxIdeal.nD,
    (Cert.Pre_all_finite.fn (F := Ideal) (m ((c.tc : Thread Cert.ReferenceFoxIdeal.nD Cert.ReferenceFoxIdeal.τ).loc Cert.ReferenceFoxIdeal.main_arg0)) (m ((c.tc : Thread Cert.ReferenceFoxIdeal.nD Cert.ReferenceFoxIdeal.τ).loc Cert.ReferenceFoxIdeal.main_arg1)) (m ((c.tc : Thread Cert.ReferenceFoxIdeal.nD Cert.ReferenceFoxIdeal.τ).loc Cert.ReferenceFoxIdeal.main_arg2)) (m ((c.tc : Thread Cert.ReferenceFoxIdeal.nD Cert.ReferenceFoxIdeal.τ).loc Cert.ReferenceFoxIdeal.main_arg3)) (m ((c.tc : Thread Cert.ReferenceFoxIdeal.nD Cert.ReferenceFoxIdeal.τ).loc Cert.ReferenceFoxIdeal.main_arg4)) (m ((c.tc : Thread Cert.ReferenceFoxIdeal.nD Cert.ReferenceFoxIdeal.τ).loc Cert.ReferenceFoxIdeal.main_arg5))) = (fun _ => 1#1)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1))
      ∧ r.2.sem = fun _ => 0)

def quiescent_KernelK [hKernelK : Cert.KernelK.Facts] : Prop :=
  ∀ (m : (ℓ : Loc Cert.KernelK.nD Cert.KernelK.τ Cert.KernelK.sig) → Buf (Elt Bits) ℓ) (g : Dev Cert.KernelK.nD → PrngReg), Pre_KernelK m →
    θ_run (Cert.KernelK.defs (F := Bits)) (onTc (τ := Cert.KernelK.τ) (Cert.KernelK.main (F := Bits))) ⟨m, fun _ => 0, g⟩ (fun r => (∀ c : Dev Cert.KernelK.nD,
      r.2.mem ((c.tc : Thread Cert.KernelK.nD Cert.KernelK.τ).loc Cert.KernelK.main_arg0) = m ((c.tc : Thread Cert.KernelK.nD Cert.KernelK.τ).loc Cert.KernelK.main_arg0)
      ∧ r.2.mem ((c.tc : Thread Cert.KernelK.nD Cert.KernelK.τ).loc Cert.KernelK.main_arg1) = m ((c.tc : Thread Cert.KernelK.nD Cert.KernelK.τ).loc Cert.KernelK.main_arg1))
      ∧ r.2.sem = fun _ => 0)

def quiescent_KernelKIdeal [hKernelKIdeal : Cert.KernelKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg), Pre_KernelKIdeal m →
    θ_run (Cert.KernelKIdeal.defs (F := Ideal)) (onTc (τ := Cert.KernelKIdeal.τ) (Cert.KernelKIdeal.main (F := Ideal))) ⟨m, fun _ => 0, g⟩ (fun r => (∀ c : Dev Cert.KernelKIdeal.nD,
      r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0)
      ∧ r.2.mem ((c.tc : Thread Cert.KernelKIdeal.nD Cert.KernelKIdeal.τ).loc Cert.KernelKIdeal.main_arg1) = m ((c.tc : Thread Cert.KernelKIdeal.nD Cert.KernelKIdeal.τ).loc Cert.KernelKIdeal.main_arg1))
      ∧ r.2.sem = fun _ => 0)

def quiescent_ReferenceKIdeal [hReferenceKIdeal : Cert.ReferenceKIdeal.Facts] : Prop :=
  ∀ (m : (ℓ : Loc Cert.ReferenceKIdeal.nD Cert.ReferenceKIdeal.τ Cert.ReferenceKIdeal.sig) → Buf (Elt Ideal) ℓ) (g : Dev Cert.ReferenceKIdeal.nD → PrngReg), Pre_ReferenceKIdeal m →
    θ_run (Cert.ReferenceKIdeal.defs (F := Ideal)) (onTc (τ := Cert.ReferenceKIdeal.τ) (Cert.ReferenceKIdeal.main (F := Ideal))) ⟨m, fun _ => 0, g⟩ (fun r => (∀ c : Dev Cert.ReferenceKIdeal.nD,
      r.2.mem ((c.tc : Thread Cert.ReferenceKIdeal.nD Cert.ReferenceKIdeal.τ).loc Cert.ReferenceKIdeal.main_arg0) = m ((c.tc : Thread Cert.ReferenceKIdeal.nD Cert.ReferenceKIdeal.τ).loc Cert.ReferenceKIdeal.main_arg0)
      ∧ r.2.mem ((c.tc : Thread Cert.ReferenceKIdeal.nD Cert.ReferenceKIdeal.τ).loc Cert.ReferenceKIdeal.main_arg1) = m ((c.tc : Thread Cert.ReferenceKIdeal.nD Cert.ReferenceKIdeal.τ).loc Cert.ReferenceKIdeal.main_arg1))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1))
      ∧ r.2.sem = fun _ => 0)

def quiescent_KernelQf [hKernelQf : Cert.KernelQf.Facts] : Prop :=
  ∀ (m : (ℓ : Loc Cert.KernelQf.nD Cert.KernelQf.τ Cert.KernelQf.sig) → Buf (Elt Bits) ℓ) (g : Dev Cert.KernelQf.nD → PrngReg), Pre_KernelQf m →
    θ_run (Cert.KernelQf.defs (F := Bits)) (onTc (τ := Cert.KernelQf.τ) (Cert.KernelQf.main (F := Bits))) ⟨m, fun _ => 0, g⟩ (fun r => (∀ c : Dev Cert.KernelQf.nD,
      r.2.mem ((c.tc : Thread Cert.KernelQf.nD Cert.KernelQf.τ).loc Cert.KernelQf.main_arg0) = m ((c.tc : Thread Cert.KernelQf.nD Cert.KernelQf.τ).loc Cert.KernelQf.main_arg0)
      ∧ r.2.mem ((c.tc : Thread Cert.KernelQf.nD Cert.KernelQf.τ).loc Cert.KernelQf.main_arg1) = m ((c.tc : Thread Cert.KernelQf.nD Cert.KernelQf.τ).loc Cert.KernelQf.main_arg1))
      ∧ r.2.sem = fun _ => 0)

def quiescent_KernelQfIdeal [hKernelQfIdeal : Cert.KernelQfIdeal.Facts] : Prop :=
  ∀ (m : (ℓ : Loc Cert.KernelQfIdeal.nD Cert.KernelQfIdeal.τ Cert.KernelQfIdeal.sig) → Buf (Elt Ideal) ℓ) (g : Dev Cert.KernelQfIdeal.nD → PrngReg), Pre_KernelQfIdeal m →
    θ_run (Cert.KernelQfIdeal.defs (F := Ideal)) (onTc (τ := Cert.KernelQfIdeal.τ) (Cert.KernelQfIdeal.main (F := Ideal))) ⟨m, fun _ => 0, g⟩ (fun r => (∀ c : Dev Cert.KernelQfIdeal.nD,
      r.2.mem ((c.tc : Thread Cert.KernelQfIdeal.nD Cert.KernelQfIdeal.τ).loc Cert.KernelQfIdeal.main_arg0) = m ((c.tc : Thread Cert.KernelQfIdeal.nD Cert.KernelQfIdeal.τ).loc Cert.KernelQfIdeal.main_arg0)
      ∧ r.2.mem ((c.tc : Thread Cert.KernelQfIdeal.nD Cert.KernelQfIdeal.τ).loc Cert.KernelQfIdeal.main_arg1) = m ((c.tc : Thread Cert.KernelQfIdeal.nD Cert.KernelQfIdeal.τ).loc Cert.KernelQfIdeal.main_arg1))
      ∧ r.2.sem = fun _ => 0)

def quiescent_ReferenceQfIdeal [hReferenceQfIdeal : Cert.ReferenceQfIdeal.Facts] : Prop :=
  ∀ (m : (ℓ : Loc Cert.ReferenceQfIdeal.nD Cert.ReferenceQfIdeal.τ Cert.ReferenceQfIdeal.sig) → Buf (Elt Ideal) ℓ) (g : Dev Cert.ReferenceQfIdeal.nD → PrngReg), Pre_ReferenceQfIdeal m →
    θ_run (Cert.ReferenceQfIdeal.defs (F := Ideal)) (onTc (τ := Cert.ReferenceQfIdeal.τ) (Cert.ReferenceQfIdeal.main (F := Ideal))) ⟨m, fun _ => 0, g⟩ (fun r => (∀ c : Dev Cert.ReferenceQfIdeal.nD,
      r.2.mem ((c.tc : Thread Cert.ReferenceQfIdeal.nD Cert.ReferenceQfIdeal.τ).loc Cert.ReferenceQfIdeal.main_arg0) = m ((c.tc : Thread Cert.ReferenceQfIdeal.nD Cert.ReferenceQfIdeal.τ).loc Cert.ReferenceQfIdeal.main_arg0)
      ∧ r.2.mem ((c.tc : Thread Cert.ReferenceQfIdeal.nD Cert.ReferenceQfIdeal.τ).loc Cert.ReferenceQfIdeal.main_arg1) = m ((c.tc : Thread Cert.ReferenceQfIdeal.nD Cert.ReferenceQfIdeal.τ).loc Cert.ReferenceQfIdeal.main_arg1))
      ∧ r.2.sem = fun _ => 0)

def quiescent_KernelI [hKernelI : Cert.KernelI.Facts] : Prop :=
  ∀ (m : (ℓ : Loc Cert.KernelI.nD Cert.KernelI.τ Cert.KernelI.sig) → Buf (Elt Bits) ℓ) (g : Dev Cert.KernelI.nD → PrngReg), Pre_KernelI m →
    θ_run (Cert.KernelI.defs (F := Bits)) (onTc (τ := Cert.KernelI.τ) (Cert.KernelI.main (F := Bits))) ⟨m, fun _ => 0, g⟩ (fun r => (∀ c : Dev Cert.KernelI.nD,
      r.2.mem ((c.tc : Thread Cert.KernelI.nD Cert.KernelI.τ).loc Cert.KernelI.main_arg0) = m ((c.tc : Thread Cert.KernelI.nD Cert.KernelI.τ).loc Cert.KernelI.main_arg0)
      ∧ r.2.mem ((c.tc : Thread Cert.KernelI.nD Cert.KernelI.τ).loc Cert.KernelI.main_arg1) = m ((c.tc : Thread Cert.KernelI.nD Cert.KernelI.τ).loc Cert.KernelI.main_arg1))
      ∧ r.2.sem = fun _ => 0)

def quiescent_KernelIIdeal [hKernelIIdeal : Cert.KernelIIdeal.Facts] : Prop :=
  ∀ (m : (ℓ : Loc Cert.KernelIIdeal.nD Cert.KernelIIdeal.τ Cert.KernelIIdeal.sig) → Buf (Elt Ideal) ℓ) (g : Dev Cert.KernelIIdeal.nD → PrngReg), Pre_KernelIIdeal m →
    θ_run (Cert.KernelIIdeal.defs (F := Ideal)) (onTc (τ := Cert.KernelIIdeal.τ) (Cert.KernelIIdeal.main (F := Ideal))) ⟨m, fun _ => 0, g⟩ (fun r => (∀ c : Dev Cert.KernelIIdeal.nD,
      r.2.mem ((c.tc : Thread Cert.KernelIIdeal.nD Cert.KernelIIdeal.τ).loc Cert.KernelIIdeal.main_arg0) = m ((c.tc : Thread Cert.KernelIIdeal.nD Cert.KernelIIdeal.τ).loc Cert.KernelIIdeal.main_arg0)
      ∧ r.2.mem ((c.tc : Thread Cert.KernelIIdeal.nD Cert.KernelIIdeal.τ).loc Cert.KernelIIdeal.main_arg1) = m ((c.tc : Thread Cert.KernelIIdeal.nD Cert.KernelIIdeal.τ).loc Cert.KernelIIdeal.main_arg1))
      ∧ r.2.sem = fun _ => 0)

def quiescent_ReferenceIIdeal [hReferenceIIdeal : Cert.ReferenceIIdeal.Facts] : Prop :=
  ∀ (m : (ℓ : Loc Cert.ReferenceIIdeal.nD Cert.ReferenceIIdeal.τ Cert.ReferenceIIdeal.sig) → Buf (Elt Ideal) ℓ) (g : Dev Cert.ReferenceIIdeal.nD → PrngReg), Pre_ReferenceIIdeal m →
    θ_run (Cert.ReferenceIIdeal.defs (F := Ideal)) (onTc (τ := Cert.ReferenceIIdeal.τ) (Cert.ReferenceIIdeal.main (F := Ideal))) ⟨m, fun _ => 0, g⟩ (fun r => (∀ c : Dev Cert.ReferenceIIdeal.nD,
      r.2.mem ((c.tc : Thread Cert.ReferenceIIdeal.nD Cert.ReferenceIIdeal.τ).loc Cert.ReferenceIIdeal.main_arg0) = m ((c.tc : Thread Cert.ReferenceIIdeal.nD Cert.ReferenceIIdeal.τ).loc Cert.ReferenceIIdeal.main_arg0)
      ∧ r.2.mem ((c.tc : Thread Cert.ReferenceIIdeal.nD Cert.ReferenceIIdeal.τ).loc Cert.ReferenceIIdeal.main_arg1) = m ((c.tc : Thread Cert.ReferenceIIdeal.nD Cert.ReferenceIIdeal.τ).loc Cert.ReferenceIIdeal.main_arg1))
      ∧ r.2.sem = fun _ => 0)

def quiescent_KernelG [hKernelG : Cert.KernelG.Facts] : Prop :=
  ∀ (m : (ℓ : Loc Cert.KernelG.nD Cert.KernelG.τ Cert.KernelG.sig) → Buf (Elt Bits) ℓ) (g : Dev Cert.KernelG.nD → PrngReg), Pre_KernelG m →
    θ_run (Cert.KernelG.defs (F := Bits)) (onTc (τ := Cert.KernelG.τ) (Cert.KernelG.main (F := Bits))) ⟨m, fun _ => 0, g⟩ (fun r => (∀ c : Dev Cert.KernelG.nD,
      r.2.mem ((c.tc : Thread Cert.KernelG.nD Cert.KernelG.τ).loc Cert.KernelG.main_arg0) = m ((c.tc : Thread Cert.KernelG.nD Cert.KernelG.τ).loc Cert.KernelG.main_arg0)
      ∧ r.2.mem ((c.tc : Thread Cert.KernelG.nD Cert.KernelG.τ).loc Cert.KernelG.main_arg1) = m ((c.tc : Thread Cert.KernelG.nD Cert.KernelG.τ).loc Cert.KernelG.main_arg1))
      ∧ r.2.sem = fun _ => 0)

def quiescent_KernelGIdeal [hKernelGIdeal : Cert.KernelGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg), Pre_KernelGIdeal m →
    θ_run (Cert.KernelGIdeal.defs (F := Ideal)) (onTc (τ := Cert.KernelGIdeal.τ) (Cert.KernelGIdeal.main (F := Ideal))) ⟨m, fun _ => 0, g⟩ (fun r => (∀ c : Dev Cert.KernelGIdeal.nD,
      r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
      ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1))
      ∧ r.2.sem = fun _ => 0)

def quiescent_ReferenceGIdeal [hReferenceGIdeal : Cert.ReferenceGIdeal.Facts] : Prop :=
  ∀ (m : (ℓ : Loc Cert.ReferenceGIdeal.nD Cert.ReferenceGIdeal.τ Cert.ReferenceGIdeal.sig) → Buf (Elt Ideal) ℓ) (g : Dev Cert.ReferenceGIdeal.nD → PrngReg), Pre_ReferenceGIdeal m →
    θ_run (Cert.ReferenceGIdeal.defs (F := Ideal)) (onTc (τ := Cert.ReferenceGIdeal.τ) (Cert.ReferenceGIdeal.main (F := Ideal))) ⟨m, fun _ => 0, g⟩ (fun r => (∀ c : Dev Cert.ReferenceGIdeal.nD,
      r.2.mem ((c.tc : Thread Cert.ReferenceGIdeal.nD Cert.ReferenceGIdeal.τ).loc Cert.ReferenceGIdeal.main_arg0) = m ((c.tc : Thread Cert.ReferenceGIdeal.nD Cert.ReferenceGIdeal.τ).loc Cert.ReferenceGIdeal.main_arg0)
      ∧ r.2.mem ((c.tc : Thread Cert.ReferenceGIdeal.nD Cert.ReferenceGIdeal.τ).loc Cert.ReferenceGIdeal.main_arg1) = m ((c.tc : Thread Cert.ReferenceGIdeal.nD Cert.ReferenceGIdeal.τ).loc Cert.ReferenceGIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def quiescent_KernelFox [hKernelFox : Cert.KernelFox.Facts] : Prop :=
  ∀ (m : (ℓ : Loc Cert.KernelFox.nD Cert.KernelFox.τ Cert.KernelFox.sig) → Buf (Elt Bits) ℓ) (g : Dev Cert.KernelFox.nD → PrngReg), Pre_KernelFox m →
    θ_run (Cert.KernelFox.defs (F := Bits)) (onTc (τ := Cert.KernelFox.τ) (Cert.KernelFox.main (F := Bits))) ⟨m, fun _ => 0, g⟩ (fun r => (∀ c : Dev Cert.KernelFox.nD,
      r.2.mem ((c.tc : Thread Cert.KernelFox.nD Cert.KernelFox.τ).loc Cert.KernelFox.main_arg0) = m ((c.tc : Thread Cert.KernelFox.nD Cert.KernelFox.τ).loc Cert.KernelFox.main_arg0)
      ∧ r.2.mem ((c.tc : Thread Cert.KernelFox.nD Cert.KernelFox.τ).loc Cert.KernelFox.main_arg1) = m ((c.tc : Thread Cert.KernelFox.nD Cert.KernelFox.τ).loc Cert.KernelFox.main_arg1)
      ∧ r.2.mem ((c.tc : Thread Cert.KernelFox.nD Cert.KernelFox.τ).loc Cert.KernelFox.main_arg2) = m ((c.tc : Thread Cert.KernelFox.nD Cert.KernelFox.τ).loc Cert.KernelFox.main_arg2)
      ∧ r.2.mem ((c.tc : Thread Cert.KernelFox.nD Cert.KernelFox.τ).loc Cert.KernelFox.main_arg3) = m ((c.tc : Thread Cert.KernelFox.nD Cert.KernelFox.τ).loc Cert.KernelFox.main_arg3)
      ∧ r.2.mem ((c.tc : Thread Cert.KernelFox.nD Cert.KernelFox.τ).loc Cert.KernelFox.main_arg4) = m ((c.tc : Thread Cert.KernelFox.nD Cert.KernelFox.τ).loc Cert.KernelFox.main_arg4)
      ∧ r.2.mem ((c.tc : Thread Cert.KernelFox.nD Cert.KernelFox.τ).loc Cert.KernelFox.main_arg5) = m ((c.tc : Thread Cert.KernelFox.nD Cert.KernelFox.τ).loc Cert.KernelFox.main_arg5))
      ∧ r.2.sem = fun _ => 0)

def quiescent_KernelFoxIdeal [hKernelFoxIdeal : Cert.KernelFoxIdeal.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg), Pre_KernelFoxIdeal m →
    θ_run (Cert.KernelFoxIdeal.defs (F := Ideal)) (onTc (τ := Cert.KernelFoxIdeal.τ) (Cert.KernelFoxIdeal.main (F := Ideal))) ⟨m, fun _ => 0, g⟩ (fun r => (∀ c : Dev Cert.KernelFoxIdeal.nD,
      r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
      ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
      ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2)
      ∧ r.2.mem ((c.tc : Thread Cert.KernelFoxIdeal.nD Cert.KernelFoxIdeal.τ).loc Cert.KernelFoxIdeal.main_arg3) = m ((c.tc : Thread Cert.KernelFoxIdeal.nD Cert.KernelFoxIdeal.τ).loc Cert.KernelFoxIdeal.main_arg3)
      ∧ r.2.mem ((c.tc : Thread Cert.KernelFoxIdeal.nD Cert.KernelFoxIdeal.τ).loc Cert.KernelFoxIdeal.main_arg4) = m ((c.tc : Thread Cert.KernelFoxIdeal.nD Cert.KernelFoxIdeal.τ).loc Cert.KernelFoxIdeal.main_arg4)
      ∧ r.2.mem ((c.tc : Thread Cert.KernelFoxIdeal.nD Cert.KernelFoxIdeal.τ).loc Cert.KernelFoxIdeal.main_arg5) = m ((c.tc : Thread Cert.KernelFoxIdeal.nD Cert.KernelFoxIdeal.τ).loc Cert.KernelFoxIdeal.main_arg5))
      ∧ r.2.sem = fun _ => 0)

def quiescent_KernelFoxIdeal_pre_all_finite [hKernelFoxIdeal : Cert.KernelFoxIdeal.Facts] [hPre_all_finite : Cert.Pre_all_finite.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg), Pre_KernelFoxIdeal_all_finite m →
    θ_run (Cert.KernelFoxIdeal.defs (F := Ideal)) (onTc (τ := Cert.KernelFoxIdeal.τ) (Cert.KernelFoxIdeal.main (F := Ideal))) ⟨m, fun _ => 0, g⟩ (fun r => (∀ c : Dev Cert.KernelFoxIdeal.nD,
      r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
      ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
      ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2)
      ∧ r.2.mem ((c.tc : Thread Cert.KernelFoxIdeal.nD Cert.KernelFoxIdeal.τ).loc Cert.KernelFoxIdeal.main_arg3) = m ((c.tc : Thread Cert.KernelFoxIdeal.nD Cert.KernelFoxIdeal.τ).loc Cert.KernelFoxIdeal.main_arg3)
      ∧ r.2.mem ((c.tc : Thread Cert.KernelFoxIdeal.nD Cert.KernelFoxIdeal.τ).loc Cert.KernelFoxIdeal.main_arg4) = m ((c.tc : Thread Cert.KernelFoxIdeal.nD Cert.KernelFoxIdeal.τ).loc Cert.KernelFoxIdeal.main_arg4)
      ∧ r.2.mem ((c.tc : Thread Cert.KernelFoxIdeal.nD Cert.KernelFoxIdeal.τ).loc Cert.KernelFoxIdeal.main_arg5) = m ((c.tc : Thread Cert.KernelFoxIdeal.nD Cert.KernelFoxIdeal.τ).loc Cert.KernelFoxIdeal.main_arg5))
      ∧ r.2.sem = fun _ => 0)

def quiescent_ReferenceFoxIdeal [hReferenceFoxIdeal : Cert.ReferenceFoxIdeal.Facts] : Prop :=
  ∀ (m : (ℓ : Loc Cert.ReferenceFoxIdeal.nD Cert.ReferenceFoxIdeal.τ Cert.ReferenceFoxIdeal.sig) → Buf (Elt Ideal) ℓ) (g : Dev Cert.ReferenceFoxIdeal.nD → PrngReg), Pre_ReferenceFoxIdeal m →
    θ_run (Cert.ReferenceFoxIdeal.defs (F := Ideal)) (onTc (τ := Cert.ReferenceFoxIdeal.τ) (Cert.ReferenceFoxIdeal.main (F := Ideal))) ⟨m, fun _ => 0, g⟩ (fun r => (∀ c : Dev Cert.ReferenceFoxIdeal.nD,
      r.2.mem ((c.tc : Thread Cert.ReferenceFoxIdeal.nD Cert.ReferenceFoxIdeal.τ).loc Cert.ReferenceFoxIdeal.main_arg0) = m ((c.tc : Thread Cert.ReferenceFoxIdeal.nD Cert.ReferenceFoxIdeal.τ).loc Cert.ReferenceFoxIdeal.main_arg0)
      ∧ r.2.mem ((c.tc : Thread Cert.ReferenceFoxIdeal.nD Cert.ReferenceFoxIdeal.τ).loc Cert.ReferenceFoxIdeal.main_arg1) = m ((c.tc : Thread Cert.ReferenceFoxIdeal.nD Cert.ReferenceFoxIdeal.τ).loc Cert.ReferenceFoxIdeal.main_arg1)
      ∧ r.2.mem ((c.tc : Thread Cert.ReferenceFoxIdeal.nD Cert.ReferenceFoxIdeal.τ).loc Cert.ReferenceFoxIdeal.main_arg2) = m ((c.tc : Thread Cert.ReferenceFoxIdeal.nD Cert.ReferenceFoxIdeal.τ).loc Cert.ReferenceFoxIdeal.main_arg2)
      ∧ r.2.mem ((c.tc : Thread Cert.ReferenceFoxIdeal.nD Cert.ReferenceFoxIdeal.τ).loc Cert.ReferenceFoxIdeal.main_arg3) = m ((c.tc : Thread Cert.ReferenceFoxIdeal.nD Cert.ReferenceFoxIdeal.τ).loc Cert.ReferenceFoxIdeal.main_arg3)
      ∧ r.2.mem ((c.tc : Thread Cert.ReferenceFoxIdeal.nD Cert.ReferenceFoxIdeal.τ).loc Cert.ReferenceFoxIdeal.main_arg4) = m ((c.tc : Thread Cert.ReferenceFoxIdeal.nD Cert.ReferenceFoxIdeal.τ).loc Cert.ReferenceFoxIdeal.main_arg4)
      ∧ r.2.mem ((c.tc : Thread Cert.ReferenceFoxIdeal.nD Cert.ReferenceFoxIdeal.τ).loc Cert.ReferenceFoxIdeal.main_arg5) = m ((c.tc : Thread Cert.ReferenceFoxIdeal.nD Cert.ReferenceFoxIdeal.τ).loc Cert.ReferenceFoxIdeal.main_arg5))
      ∧ r.2.sem = fun _ => 0)

def quiescent_ReferenceFoxIdeal_pre_all_finite [hReferenceFoxIdeal : Cert.ReferenceFoxIdeal.Facts] [hPre_all_finite : Cert.Pre_all_finite.Facts] : Prop :=
  ∀ (m : (ℓ : Loc Cert.ReferenceFoxIdeal.nD Cert.ReferenceFoxIdeal.τ Cert.ReferenceFoxIdeal.sig) → Buf (Elt Ideal) ℓ) (g : Dev Cert.ReferenceFoxIdeal.nD → PrngReg), Pre_ReferenceFoxIdeal_all_finite m →
    θ_run (Cert.ReferenceFoxIdeal.defs (F := Ideal)) (onTc (τ := Cert.ReferenceFoxIdeal.τ) (Cert.ReferenceFoxIdeal.main (F := Ideal))) ⟨m, fun _ => 0, g⟩ (fun r => (∀ c : Dev Cert.ReferenceFoxIdeal.nD,
      r.2.mem ((c.tc : Thread Cert.ReferenceFoxIdeal.nD Cert.ReferenceFoxIdeal.τ).loc Cert.ReferenceFoxIdeal.main_arg0) = m ((c.tc : Thread Cert.ReferenceFoxIdeal.nD Cert.ReferenceFoxIdeal.τ).loc Cert.ReferenceFoxIdeal.main_arg0)
      ∧ r.2.mem ((c.tc : Thread Cert.ReferenceFoxIdeal.nD Cert.ReferenceFoxIdeal.τ).loc Cert.ReferenceFoxIdeal.main_arg1) = m ((c.tc : Thread Cert.ReferenceFoxIdeal.nD Cert.ReferenceFoxIdeal.τ).loc Cert.ReferenceFoxIdeal.main_arg1)
      ∧ r.2.mem ((c.tc : Thread Cert.ReferenceFoxIdeal.nD Cert.ReferenceFoxIdeal.τ).loc Cert.ReferenceFoxIdeal.main_arg2) = m ((c.tc : Thread Cert.ReferenceFoxIdeal.nD Cert.ReferenceFoxIdeal.τ).loc Cert.ReferenceFoxIdeal.main_arg2)
      ∧ r.2.mem ((c.tc : Thread Cert.ReferenceFoxIdeal.nD Cert.ReferenceFoxIdeal.τ).loc Cert.ReferenceFoxIdeal.main_arg3) = m ((c.tc : Thread Cert.ReferenceFoxIdeal.nD Cert.ReferenceFoxIdeal.τ).loc Cert.ReferenceFoxIdeal.main_arg3)
      ∧ r.2.mem ((c.tc : Thread Cert.ReferenceFoxIdeal.nD Cert.ReferenceFoxIdeal.τ).loc Cert.ReferenceFoxIdeal.main_arg4) = m ((c.tc : Thread Cert.ReferenceFoxIdeal.nD Cert.ReferenceFoxIdeal.τ).loc Cert.ReferenceFoxIdeal.main_arg4)
      ∧ r.2.mem ((c.tc : Thread Cert.ReferenceFoxIdeal.nD Cert.ReferenceFoxIdeal.τ).loc Cert.ReferenceFoxIdeal.main_arg5) = m ((c.tc : Thread Cert.ReferenceFoxIdeal.nD Cert.ReferenceFoxIdeal.τ).loc Cert.ReferenceFoxIdeal.main_arg5))
      ∧ r.2.sem = fun _ => 0)

def preserves_KernelQ_KernelQIdeal : Prop :=
  IdealRules.named_const.Statement Cert.KernelQIdeal.κ "q_scale" .f32 0x3E0293EE#32 (((Real.log 2)⁻¹ * (Real.sqrt 128)⁻¹ : ℝ) : EReal)

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)) →
    ∃ (v0 : (c : Dev Cert.KernelQIdeal.nD) → Buf (Elt Ideal) ((c.tc : Thread Cert.KernelQIdeal.nD Cert.KernelQIdeal.τ).loc Cert.KernelQIdeal.main_v2)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v2) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v11) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1))

def preserves_KernelK_KernelKIdeal : Prop :=
  True

def algebraic_KernelKIdeal_ReferenceKIdeal [hKernelKIdeal : Cert.KernelKIdeal.Facts] [hReferenceKIdeal : Cert.ReferenceKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg)
    (m' : (ℓ : Loc Cert.ReferenceKIdeal.nD Cert.ReferenceKIdeal.τ Cert.ReferenceKIdeal.sig) → Buf (Elt Ideal) ℓ) (g' : Dev Cert.ReferenceKIdeal.nD → PrngReg), Pre_KernelKIdeal m →
    (∀ c : Dev Cert.KernelKIdeal.nD,
      m' ((c.tc : Thread Cert.ReferenceKIdeal.nD Cert.ReferenceKIdeal.τ).loc Cert.ReferenceKIdeal.main_arg0) = m ((c.tc : Thread Cert.KernelKIdeal.nD Cert.KernelKIdeal.τ).loc Cert.KernelKIdeal.main_arg0)
      ∧ m' ((c.tc : Thread Cert.ReferenceKIdeal.nD Cert.ReferenceKIdeal.τ).loc Cert.ReferenceKIdeal.main_arg1) = m ((c.tc : Thread Cert.KernelKIdeal.nD Cert.KernelKIdeal.τ).loc Cert.KernelKIdeal.main_arg1)) →
    ∃ (v0 : (c : Dev Cert.KernelKIdeal.nD) → Buf (Elt Ideal) ((c.tc : Thread Cert.KernelKIdeal.nD Cert.KernelKIdeal.τ).loc Cert.KernelKIdeal.main_v2)),
      θ_run (Cert.KernelKIdeal.defs (F := Ideal)) (onTc (τ := Cert.KernelKIdeal.τ) (Cert.KernelKIdeal.main (F := Ideal))) ⟨m, fun _ => 0, g⟩ (fun r => ∀ c : Dev Cert.KernelKIdeal.nD,
          r.2.mem ((c.tc : Thread Cert.KernelKIdeal.nD Cert.KernelKIdeal.τ).loc Cert.KernelKIdeal.main_v2) = v0 c
          ∧ r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0)
          ∧ r.2.mem ((c.tc : Thread Cert.KernelKIdeal.nD Cert.KernelKIdeal.τ).loc Cert.KernelKIdeal.main_arg1) = m ((c.tc : Thread Cert.KernelKIdeal.nD Cert.KernelKIdeal.τ).loc Cert.KernelKIdeal.main_arg1))
      ∧ θ_run (Cert.ReferenceKIdeal.defs (F := Ideal)) (onTc (τ := Cert.ReferenceKIdeal.τ) (Cert.ReferenceKIdeal.main (F := Ideal))) ⟨m', fun _ => 0, g'⟩ (fun r => ∀ c : Dev Cert.ReferenceKIdeal.nD,
          r.2.mem ((c.tc : Thread Cert.ReferenceKIdeal.nD Cert.ReferenceKIdeal.τ).loc Cert.ReferenceKIdeal.main_v4) = v0 c
          ∧ r.2.mem ((c.tc : Thread Cert.ReferenceKIdeal.nD Cert.ReferenceKIdeal.τ).loc Cert.ReferenceKIdeal.main_arg0) = m' ((c.tc : Thread Cert.ReferenceKIdeal.nD Cert.ReferenceKIdeal.τ).loc Cert.ReferenceKIdeal.main_arg0)
          ∧ r.2.mem ((c.tc : Thread Cert.ReferenceKIdeal.nD Cert.ReferenceKIdeal.τ).loc Cert.ReferenceKIdeal.main_arg1) = m' ((c.tc : Thread Cert.ReferenceKIdeal.nD Cert.ReferenceKIdeal.τ).loc Cert.ReferenceKIdeal.main_arg1))

def preserves_KernelV_KernelVIdeal : Prop :=
  True

def algebraic_KernelVIdeal_ReferenceVIdeal [hKernelVIdeal : Cert.KernelVIdeal.Facts] [hReferenceVIdeal : Cert.ReferenceVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)
      ∧ m' ((c.tc : Thread Cert.ReferenceVIdeal.nD Cert.ReferenceVIdeal.τ).loc Cert.ReferenceVIdeal.main_arg1) = m ((c.tc : Thread Cert.KernelVIdeal.nD Cert.KernelVIdeal.τ).loc Cert.KernelVIdeal.main_arg1)) →
    ∃ (v0 : (c : Dev Cert.KernelVIdeal.nD) → Buf (Elt Ideal) ((c.tc : Thread Cert.KernelVIdeal.nD Cert.KernelVIdeal.τ).loc Cert.KernelVIdeal.main_v2)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v2) = v0 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v5) = v0 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0)
          ∧ r.2.mem ((c.tc : Thread Cert.ReferenceVIdeal.nD Cert.ReferenceVIdeal.τ).loc Cert.ReferenceVIdeal.main_arg1) = m' ((c.tc : Thread Cert.ReferenceVIdeal.nD Cert.ReferenceVIdeal.τ).loc Cert.ReferenceVIdeal.main_arg1))

def preserves_KernelQf_KernelQfIdeal : Prop :=
  True

def algebraic_KernelQfIdeal_ReferenceQfIdeal [hKernelQfIdeal : Cert.KernelQfIdeal.Facts] [hReferenceQfIdeal : Cert.ReferenceQfIdeal.Facts] : Prop :=
  ∀ (m : (ℓ : Loc Cert.KernelQfIdeal.nD Cert.KernelQfIdeal.τ Cert.KernelQfIdeal.sig) → Buf (Elt Ideal) ℓ) (g : Dev Cert.KernelQfIdeal.nD → PrngReg)
    (m' : (ℓ : Loc Cert.ReferenceQfIdeal.nD Cert.ReferenceQfIdeal.τ Cert.ReferenceQfIdeal.sig) → Buf (Elt Ideal) ℓ) (g' : Dev Cert.ReferenceQfIdeal.nD → PrngReg), Pre_KernelQfIdeal m →
    (∀ c : Dev Cert.KernelQfIdeal.nD,
      m' ((c.tc : Thread Cert.ReferenceQfIdeal.nD Cert.ReferenceQfIdeal.τ).loc Cert.ReferenceQfIdeal.main_arg0) = m ((c.tc : Thread Cert.KernelQfIdeal.nD Cert.KernelQfIdeal.τ).loc Cert.KernelQfIdeal.main_arg0)
      ∧ m' ((c.tc : Thread Cert.ReferenceQfIdeal.nD Cert.ReferenceQfIdeal.τ).loc Cert.ReferenceQfIdeal.main_arg1) = m ((c.tc : Thread Cert.KernelQfIdeal.nD Cert.KernelQfIdeal.τ).loc Cert.KernelQfIdeal.main_arg1)) →
    ∃ (v0 : (c : Dev Cert.KernelQfIdeal.nD) → Buf (Elt Ideal) ((c.tc : Thread Cert.KernelQfIdeal.nD Cert.KernelQfIdeal.τ).loc Cert.KernelQfIdeal.main_v2)),
      θ_run (Cert.KernelQfIdeal.defs (F := Ideal)) (onTc (τ := Cert.KernelQfIdeal.τ) (Cert.KernelQfIdeal.main (F := Ideal))) ⟨m, fun _ => 0, g⟩ (fun r => ∀ c : Dev Cert.KernelQfIdeal.nD,
          r.2.mem ((c.tc : Thread Cert.KernelQfIdeal.nD Cert.KernelQfIdeal.τ).loc Cert.KernelQfIdeal.main_v2) = v0 c
          ∧ r.2.mem ((c.tc : Thread Cert.KernelQfIdeal.nD Cert.KernelQfIdeal.τ).loc Cert.KernelQfIdeal.main_arg0) = m ((c.tc : Thread Cert.KernelQfIdeal.nD Cert.KernelQfIdeal.τ).loc Cert.KernelQfIdeal.main_arg0)
          ∧ r.2.mem ((c.tc : Thread Cert.KernelQfIdeal.nD Cert.KernelQfIdeal.τ).loc Cert.KernelQfIdeal.main_arg1) = m ((c.tc : Thread Cert.KernelQfIdeal.nD Cert.KernelQfIdeal.τ).loc Cert.KernelQfIdeal.main_arg1))
      ∧ θ_run (Cert.ReferenceQfIdeal.defs (F := Ideal)) (onTc (τ := Cert.ReferenceQfIdeal.τ) (Cert.ReferenceQfIdeal.main (F := Ideal))) ⟨m', fun _ => 0, g'⟩ (fun r => ∀ c : Dev Cert.ReferenceQfIdeal.nD,
          r.2.mem ((c.tc : Thread Cert.ReferenceQfIdeal.nD Cert.ReferenceQfIdeal.τ).loc Cert.ReferenceQfIdeal.main_v3) = v0 c
          ∧ r.2.mem ((c.tc : Thread Cert.ReferenceQfIdeal.nD Cert.ReferenceQfIdeal.τ).loc Cert.ReferenceQfIdeal.main_arg0) = m' ((c.tc : Thread Cert.ReferenceQfIdeal.nD Cert.ReferenceQfIdeal.τ).loc Cert.ReferenceQfIdeal.main_arg0)
          ∧ r.2.mem ((c.tc : Thread Cert.ReferenceQfIdeal.nD Cert.ReferenceQfIdeal.τ).loc Cert.ReferenceQfIdeal.main_arg1) = m' ((c.tc : Thread Cert.ReferenceQfIdeal.nD Cert.ReferenceQfIdeal.τ).loc Cert.ReferenceQfIdeal.main_arg1))

def preserves_KernelI_KernelIIdeal : Prop :=
  True

def algebraic_KernelIIdeal_ReferenceIIdeal [hKernelIIdeal : Cert.KernelIIdeal.Facts] [hReferenceIIdeal : Cert.ReferenceIIdeal.Facts] : Prop :=
  ∀ (m : (ℓ : Loc Cert.KernelIIdeal.nD Cert.KernelIIdeal.τ Cert.KernelIIdeal.sig) → Buf (Elt Ideal) ℓ) (g : Dev Cert.KernelIIdeal.nD → PrngReg)
    (m' : (ℓ : Loc Cert.ReferenceIIdeal.nD Cert.ReferenceIIdeal.τ Cert.ReferenceIIdeal.sig) → Buf (Elt Ideal) ℓ) (g' : Dev Cert.ReferenceIIdeal.nD → PrngReg), Pre_KernelIIdeal m →
    (∀ c : Dev Cert.KernelIIdeal.nD,
      m' ((c.tc : Thread Cert.ReferenceIIdeal.nD Cert.ReferenceIIdeal.τ).loc Cert.ReferenceIIdeal.main_arg0) = m ((c.tc : Thread Cert.KernelIIdeal.nD Cert.KernelIIdeal.τ).loc Cert.KernelIIdeal.main_arg0)
      ∧ m' ((c.tc : Thread Cert.ReferenceIIdeal.nD Cert.ReferenceIIdeal.τ).loc Cert.ReferenceIIdeal.main_arg1) = m ((c.tc : Thread Cert.KernelIIdeal.nD Cert.KernelIIdeal.τ).loc Cert.KernelIIdeal.main_arg1)) →
    ∃ (v0 : (c : Dev Cert.KernelIIdeal.nD) → Buf (Elt Ideal) ((c.tc : Thread Cert.KernelIIdeal.nD Cert.KernelIIdeal.τ).loc Cert.KernelIIdeal.main_v2)),
      θ_run (Cert.KernelIIdeal.defs (F := Ideal)) (onTc (τ := Cert.KernelIIdeal.τ) (Cert.KernelIIdeal.main (F := Ideal))) ⟨m, fun _ => 0, g⟩ (fun r => ∀ c : Dev Cert.KernelIIdeal.nD,
          r.2.mem ((c.tc : Thread Cert.KernelIIdeal.nD Cert.KernelIIdeal.τ).loc Cert.KernelIIdeal.main_v2) = v0 c
          ∧ r.2.mem ((c.tc : Thread Cert.KernelIIdeal.nD Cert.KernelIIdeal.τ).loc Cert.KernelIIdeal.main_arg0) = m ((c.tc : Thread Cert.KernelIIdeal.nD Cert.KernelIIdeal.τ).loc Cert.KernelIIdeal.main_arg0)
          ∧ r.2.mem ((c.tc : Thread Cert.KernelIIdeal.nD Cert.KernelIIdeal.τ).loc Cert.KernelIIdeal.main_arg1) = m ((c.tc : Thread Cert.KernelIIdeal.nD Cert.KernelIIdeal.τ).loc Cert.KernelIIdeal.main_arg1))
      ∧ θ_run (Cert.ReferenceIIdeal.defs (F := Ideal)) (onTc (τ := Cert.ReferenceIIdeal.τ) (Cert.ReferenceIIdeal.main (F := Ideal))) ⟨m', fun _ => 0, g'⟩ (fun r => ∀ c : Dev Cert.ReferenceIIdeal.nD,
          r.2.mem ((c.tc : Thread Cert.ReferenceIIdeal.nD Cert.ReferenceIIdeal.τ).loc Cert.ReferenceIIdeal.main_v4) = v0 c
          ∧ r.2.mem ((c.tc : Thread Cert.ReferenceIIdeal.nD Cert.ReferenceIIdeal.τ).loc Cert.ReferenceIIdeal.main_arg0) = m' ((c.tc : Thread Cert.ReferenceIIdeal.nD Cert.ReferenceIIdeal.τ).loc Cert.ReferenceIIdeal.main_arg0)
          ∧ r.2.mem ((c.tc : Thread Cert.ReferenceIIdeal.nD Cert.ReferenceIIdeal.τ).loc Cert.ReferenceIIdeal.main_arg1) = m' ((c.tc : Thread Cert.ReferenceIIdeal.nD Cert.ReferenceIIdeal.τ).loc Cert.ReferenceIIdeal.main_arg1))

def preserves_KernelG_KernelGIdeal : Prop :=
  True

def algebraic_KernelGIdeal_ReferenceGIdeal [hKernelGIdeal : Cert.KernelGIdeal.Facts] [hReferenceGIdeal : Cert.ReferenceGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg)
    (m' : (ℓ : Loc Cert.ReferenceGIdeal.nD Cert.ReferenceGIdeal.τ Cert.ReferenceGIdeal.sig) → Buf (Elt Ideal) ℓ) (g' : Dev Cert.ReferenceGIdeal.nD → PrngReg), Pre_KernelGIdeal m →
    (∀ c : Dev Cert.KernelGIdeal.nD,
      m' ((c.tc : Thread Cert.ReferenceGIdeal.nD Cert.ReferenceGIdeal.τ).loc Cert.ReferenceGIdeal.main_arg0) = m ((c.tc : Thread Cert.KernelGIdeal.nD Cert.KernelGIdeal.τ).loc Cert.KernelGIdeal.main_arg0)
      ∧ m' ((c.tc : Thread Cert.ReferenceGIdeal.nD Cert.ReferenceGIdeal.τ).loc Cert.ReferenceGIdeal.main_arg1) = m ((c.tc : Thread Cert.KernelGIdeal.nD Cert.KernelGIdeal.τ).loc Cert.KernelGIdeal.main_arg1)) →
    ∃ (v0 : (c : Dev Cert.KernelGIdeal.nD) → Buf (Elt Ideal) ((c.tc : Thread Cert.KernelGIdeal.nD Cert.KernelGIdeal.τ).loc Cert.KernelGIdeal.main_v2)),
      θ_run (Cert.KernelGIdeal.defs (F := Ideal)) (onTc (τ := Cert.KernelGIdeal.τ) (Cert.KernelGIdeal.main (F := Ideal))) ⟨m, fun _ => 0, g⟩ (fun r => ∀ c : Dev Cert.KernelGIdeal.nD,
          r.2.mem ((c.tc : Thread Cert.KernelGIdeal.nD Cert.KernelGIdeal.τ).loc Cert.KernelGIdeal.main_v2) = v0 c
          ∧ r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
          ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1))
      ∧ θ_run (Cert.ReferenceGIdeal.defs (F := Ideal)) (onTc (τ := Cert.ReferenceGIdeal.τ) (Cert.ReferenceGIdeal.main (F := Ideal))) ⟨m', fun _ => 0, g'⟩ (fun r => ∀ c : Dev Cert.ReferenceGIdeal.nD,
          r.2.mem ((c.tc : Thread Cert.ReferenceGIdeal.nD Cert.ReferenceGIdeal.τ).loc Cert.ReferenceGIdeal.main_v3) = v0 c
          ∧ r.2.mem ((c.tc : Thread Cert.ReferenceGIdeal.nD Cert.ReferenceGIdeal.τ).loc Cert.ReferenceGIdeal.main_arg0) = m' ((c.tc : Thread Cert.ReferenceGIdeal.nD Cert.ReferenceGIdeal.τ).loc Cert.ReferenceGIdeal.main_arg0)
          ∧ r.2.mem ((c.tc : Thread Cert.ReferenceGIdeal.nD Cert.ReferenceGIdeal.τ).loc Cert.ReferenceGIdeal.main_arg1) = m' ((c.tc : Thread Cert.ReferenceGIdeal.nD Cert.ReferenceGIdeal.τ).loc Cert.ReferenceGIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v6) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v2)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v2) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v20) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelFinal_KernelFinalIdeal : Prop :=
  True

def algebraic_KernelFinalIdeal_ReferenceFinalIdeal [hKernelFinalIdeal : Cert.KernelFinalIdeal.Facts] [hReferenceFinalIdeal : Cert.ReferenceFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)) →
    ∃ (v0 : (c : Dev Cert.KernelFinalIdeal.nD) → Buf (Elt Ideal) ((c.tc : Thread Cert.KernelFinalIdeal.nD Cert.KernelFinalIdeal.τ).loc Cert.KernelFinalIdeal.main_v1)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v1) = v0 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v12) = v0 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)) →
    ∃ (v0 : (c : Dev Cert.KernelAdaIdeal.nD) → Buf (Elt Ideal) ((c.tc : Thread Cert.KernelAdaIdeal.nD Cert.KernelAdaIdeal.τ).loc Cert.KernelAdaIdeal.main_v5)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v5) = v0 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v5) = v0 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)) →
    ∃ (v0 : (c : Dev Cert.KernelUpIdeal.nD) → Buf (Elt Ideal) ((c.tc : Thread Cert.KernelUpIdeal.nD Cert.KernelUpIdeal.τ).loc Cert.KernelUpIdeal.main_v5_0)) (v1 : (c : Dev Cert.KernelUpIdeal.nD) → Buf (Elt Ideal) ((c.tc : Thread Cert.KernelUpIdeal.nD Cert.KernelUpIdeal.τ).loc Cert.KernelUpIdeal.main_v5_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v5_0) = v0 c
          ∧ r.2.mem ((c.tc : Thread Cert.KernelUpIdeal.nD Cert.KernelUpIdeal.τ).loc Cert.KernelUpIdeal.main_v5_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v33) = v0 c
          ∧ r.2.mem ((c.tc : Thread Cert.ReferenceUpIdeal.nD Cert.ReferenceUpIdeal.τ).loc Cert.ReferenceUpIdeal.main_v35) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4))

def preserves_KernelFox_KernelFoxIdeal : Prop :=
  IdealRules.named_const.Statement Cert.KernelFoxIdeal.κ "log2_e" .f32 0x3FB8AA3B#32 (((Real.log 2)⁻¹ : ℝ) : EReal)

def algebraic_KernelFoxIdeal_ReferenceFoxIdeal_pre_all_finite [hKernelFoxIdeal : Cert.KernelFoxIdeal.Facts] [hReferenceFoxIdeal : Cert.ReferenceFoxIdeal.Facts] [hPre_all_finite : Cert.Pre_all_finite.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg)
    (m' : (ℓ : Loc Cert.ReferenceFoxIdeal.nD Cert.ReferenceFoxIdeal.τ Cert.ReferenceFoxIdeal.sig) → Buf (Elt Ideal) ℓ) (g' : Dev Cert.ReferenceFoxIdeal.nD → PrngReg), Pre_KernelFoxIdeal_all_finite m →
    (∀ c : Dev Cert.KernelFoxIdeal.nD,
      m' ((c.tc : Thread Cert.ReferenceFoxIdeal.nD Cert.ReferenceFoxIdeal.τ).loc Cert.ReferenceFoxIdeal.main_arg0) = m ((c.tc : Thread Cert.KernelFoxIdeal.nD Cert.KernelFoxIdeal.τ).loc Cert.KernelFoxIdeal.main_arg0)
      ∧ m' ((c.tc : Thread Cert.ReferenceFoxIdeal.nD Cert.ReferenceFoxIdeal.τ).loc Cert.ReferenceFoxIdeal.main_arg1) = m ((c.tc : Thread Cert.KernelFoxIdeal.nD Cert.KernelFoxIdeal.τ).loc Cert.KernelFoxIdeal.main_arg1)
      ∧ m' ((c.tc : Thread Cert.ReferenceFoxIdeal.nD Cert.ReferenceFoxIdeal.τ).loc Cert.ReferenceFoxIdeal.main_arg2) = m ((c.tc : Thread Cert.KernelFoxIdeal.nD Cert.KernelFoxIdeal.τ).loc Cert.KernelFoxIdeal.main_arg2)
      ∧ m' ((c.tc : Thread Cert.ReferenceFoxIdeal.nD Cert.ReferenceFoxIdeal.τ).loc Cert.ReferenceFoxIdeal.main_arg3) = m ((c.tc : Thread Cert.KernelFoxIdeal.nD Cert.KernelFoxIdeal.τ).loc Cert.KernelFoxIdeal.main_arg3)
      ∧ m' ((c.tc : Thread Cert.ReferenceFoxIdeal.nD Cert.ReferenceFoxIdeal.τ).loc Cert.ReferenceFoxIdeal.main_arg4) = m ((c.tc : Thread Cert.KernelFoxIdeal.nD Cert.KernelFoxIdeal.τ).loc Cert.KernelFoxIdeal.main_arg4)
      ∧ m' ((c.tc : Thread Cert.ReferenceFoxIdeal.nD Cert.ReferenceFoxIdeal.τ).loc Cert.ReferenceFoxIdeal.main_arg5) = m ((c.tc : Thread Cert.KernelFoxIdeal.nD Cert.KernelFoxIdeal.τ).loc Cert.KernelFoxIdeal.main_arg5)) →
    ∃ (v0 : (c : Dev Cert.KernelFoxIdeal.nD) → Buf (Elt Ideal) ((c.tc : Thread Cert.KernelFoxIdeal.nD Cert.KernelFoxIdeal.τ).loc Cert.KernelFoxIdeal.main_v29_0)) (v1 : (c : Dev Cert.KernelFoxIdeal.nD) → Buf (Elt Ideal) ((c.tc : Thread Cert.KernelFoxIdeal.nD Cert.KernelFoxIdeal.τ).loc Cert.KernelFoxIdeal.main_v29_1)) (v2 : (c : Dev Cert.KernelFoxIdeal.nD) → Buf (Elt Ideal) ((c.tc : Thread Cert.KernelFoxIdeal.nD Cert.KernelFoxIdeal.τ).loc Cert.KernelFoxIdeal.main_v29_2)),
      θ_run (Cert.KernelFoxIdeal.defs (F := Ideal)) (onTc (τ := Cert.KernelFoxIdeal.τ) (Cert.KernelFoxIdeal.main (F := Ideal))) ⟨m, fun _ => 0, g⟩ (fun r => ∀ c : Dev Cert.KernelFoxIdeal.nD,
          r.2.mem ((c.tc : Thread Cert.KernelFoxIdeal.nD Cert.KernelFoxIdeal.τ).loc Cert.KernelFoxIdeal.main_v29_0) = v0 c
          ∧ r.2.mem ((c.tc : Thread Cert.KernelFoxIdeal.nD Cert.KernelFoxIdeal.τ).loc Cert.KernelFoxIdeal.main_v29_1) = v1 c
          ∧ r.2.mem ((c.tc : Thread Cert.KernelFoxIdeal.nD Cert.KernelFoxIdeal.τ).loc Cert.KernelFoxIdeal.main_v29_2) = v2 c
          ∧ r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
          ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
          ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2)
          ∧ r.2.mem ((c.tc : Thread Cert.KernelFoxIdeal.nD Cert.KernelFoxIdeal.τ).loc Cert.KernelFoxIdeal.main_arg3) = m ((c.tc : Thread Cert.KernelFoxIdeal.nD Cert.KernelFoxIdeal.τ).loc Cert.KernelFoxIdeal.main_arg3)
          ∧ r.2.mem ((c.tc : Thread Cert.KernelFoxIdeal.nD Cert.KernelFoxIdeal.τ).loc Cert.KernelFoxIdeal.main_arg4) = m ((c.tc : Thread Cert.KernelFoxIdeal.nD Cert.KernelFoxIdeal.τ).loc Cert.KernelFoxIdeal.main_arg4)
          ∧ r.2.mem ((c.tc : Thread Cert.KernelFoxIdeal.nD Cert.KernelFoxIdeal.τ).loc Cert.KernelFoxIdeal.main_arg5) = m ((c.tc : Thread Cert.KernelFoxIdeal.nD Cert.KernelFoxIdeal.τ).loc Cert.KernelFoxIdeal.main_arg5))
      ∧ θ_run (Cert.ReferenceFoxIdeal.defs (F := Ideal)) (onTc (τ := Cert.ReferenceFoxIdeal.τ) (Cert.ReferenceFoxIdeal.main (F := Ideal))) ⟨m', fun _ => 0, g'⟩ (fun r => ∀ c : Dev Cert.ReferenceFoxIdeal.nD,
          r.2.mem ((c.tc : Thread Cert.ReferenceFoxIdeal.nD Cert.ReferenceFoxIdeal.τ).loc Cert.ReferenceFoxIdeal.main_v55) = v0 c
          ∧ r.2.mem ((c.tc : Thread Cert.ReferenceFoxIdeal.nD Cert.ReferenceFoxIdeal.τ).loc Cert.ReferenceFoxIdeal.main_v44) = v1 c
          ∧ r.2.mem ((c.tc : Thread Cert.ReferenceFoxIdeal.nD Cert.ReferenceFoxIdeal.τ).loc Cert.ReferenceFoxIdeal.main_v56) = v2 c
          ∧ r.2.mem ((c.tc : Thread Cert.ReferenceFoxIdeal.nD Cert.ReferenceFoxIdeal.τ).loc Cert.ReferenceFoxIdeal.main_arg0) = m' ((c.tc : Thread Cert.ReferenceFoxIdeal.nD Cert.ReferenceFoxIdeal.τ).loc Cert.ReferenceFoxIdeal.main_arg0)
          ∧ r.2.mem ((c.tc : Thread Cert.ReferenceFoxIdeal.nD Cert.ReferenceFoxIdeal.τ).loc Cert.ReferenceFoxIdeal.main_arg1) = m' ((c.tc : Thread Cert.ReferenceFoxIdeal.nD Cert.ReferenceFoxIdeal.τ).loc Cert.ReferenceFoxIdeal.main_arg1)
          ∧ r.2.mem ((c.tc : Thread Cert.ReferenceFoxIdeal.nD Cert.ReferenceFoxIdeal.τ).loc Cert.ReferenceFoxIdeal.main_arg2) = m' ((c.tc : Thread Cert.ReferenceFoxIdeal.nD Cert.ReferenceFoxIdeal.τ).loc Cert.ReferenceFoxIdeal.main_arg2)
          ∧ r.2.mem ((c.tc : Thread Cert.ReferenceFoxIdeal.nD Cert.ReferenceFoxIdeal.τ).loc Cert.ReferenceFoxIdeal.main_arg3) = m' ((c.tc : Thread Cert.ReferenceFoxIdeal.nD Cert.ReferenceFoxIdeal.τ).loc Cert.ReferenceFoxIdeal.main_arg3)
          ∧ r.2.mem ((c.tc : Thread Cert.ReferenceFoxIdeal.nD Cert.ReferenceFoxIdeal.τ).loc Cert.ReferenceFoxIdeal.main_arg4) = m' ((c.tc : Thread Cert.ReferenceFoxIdeal.nD Cert.ReferenceFoxIdeal.τ).loc Cert.ReferenceFoxIdeal.main_arg4)
          ∧ r.2.mem ((c.tc : Thread Cert.ReferenceFoxIdeal.nD Cert.ReferenceFoxIdeal.τ).loc Cert.ReferenceFoxIdeal.main_arg5) = m' ((c.tc : Thread Cert.ReferenceFoxIdeal.nD Cert.ReferenceFoxIdeal.τ).loc Cert.ReferenceFoxIdeal.main_arg5))

def Claim : Prop :=
  ∃ (hKernelQ : Cert.KernelQ.Facts) (hKernelQIdeal : Cert.KernelQIdeal.Facts) (hReferenceQIdeal : Cert.ReferenceQIdeal.Facts) (hKernelK : Cert.KernelK.Facts) (hKernelKIdeal : Cert.KernelKIdeal.Facts) (hReferenceKIdeal : Cert.ReferenceKIdeal.Facts) (hKernelV : Cert.KernelV.Facts) (hKernelVIdeal : Cert.KernelVIdeal.Facts) (hReferenceVIdeal : Cert.ReferenceVIdeal.Facts) (hKernelQf : Cert.KernelQf.Facts) (hKernelQfIdeal : Cert.KernelQfIdeal.Facts) (hReferenceQfIdeal : Cert.ReferenceQfIdeal.Facts) (hKernelI : Cert.KernelI.Facts) (hKernelIIdeal : Cert.KernelIIdeal.Facts) (hReferenceIIdeal : Cert.ReferenceIIdeal.Facts) (hKernelG : Cert.KernelG.Facts) (hKernelGIdeal : Cert.KernelGIdeal.Facts) (hReferenceGIdeal : Cert.ReferenceGIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelNorm : Cert.KernelNorm.Facts) (hKernelNormIdeal : Cert.KernelNormIdeal.Facts) (hReferenceNormIdeal : Cert.ReferenceNormIdeal.Facts) (hKernelFinal : Cert.KernelFinal.Facts) (hKernelFinalIdeal : Cert.KernelFinalIdeal.Facts) (hReferenceFinalIdeal : Cert.ReferenceFinalIdeal.Facts) (hKernelAda : Cert.KernelAda.Facts) (hKernelAdaIdeal : Cert.KernelAdaIdeal.Facts) (hReferenceAdaIdeal : Cert.ReferenceAdaIdeal.Facts) (hKernelUp : Cert.KernelUp.Facts) (hKernelUpIdeal : Cert.KernelUpIdeal.Facts) (hReferenceUpIdeal : Cert.ReferenceUpIdeal.Facts) (hKernelFox : Cert.KernelFox.Facts) (hKernelFoxIdeal : Cert.KernelFoxIdeal.Facts) (hReferenceFoxIdeal : Cert.ReferenceFoxIdeal.Facts) (hPre_all_finite : Cert.Pre_all_finite.Facts),
    quiescent_KernelQ (hKernelQ := hKernelQ)
    ∧ quiescent_KernelQIdeal (hKernelQIdeal := hKernelQIdeal)
    ∧ quiescent_ReferenceQIdeal (hReferenceQIdeal := hReferenceQIdeal)
    ∧ quiescent_KernelK (hKernelK := hKernelK)
    ∧ quiescent_KernelKIdeal (hKernelKIdeal := hKernelKIdeal)
    ∧ quiescent_ReferenceKIdeal (hReferenceKIdeal := hReferenceKIdeal)
    ∧ quiescent_KernelV (hKernelV := hKernelV)
    ∧ quiescent_KernelVIdeal (hKernelVIdeal := hKernelVIdeal)
    ∧ quiescent_ReferenceVIdeal (hReferenceVIdeal := hReferenceVIdeal)
    ∧ quiescent_KernelQf (hKernelQf := hKernelQf)
    ∧ quiescent_KernelQfIdeal (hKernelQfIdeal := hKernelQfIdeal)
    ∧ quiescent_ReferenceQfIdeal (hReferenceQfIdeal := hReferenceQfIdeal)
    ∧ quiescent_KernelI (hKernelI := hKernelI)
    ∧ quiescent_KernelIIdeal (hKernelIIdeal := hKernelIIdeal)
    ∧ quiescent_ReferenceIIdeal (hReferenceIIdeal := hReferenceIIdeal)
    ∧ quiescent_KernelG (hKernelG := hKernelG)
    ∧ quiescent_KernelGIdeal (hKernelGIdeal := hKernelGIdeal)
    ∧ quiescent_ReferenceGIdeal (hReferenceGIdeal := hReferenceGIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelFinal (hKernelFinal := hKernelFinal)
    ∧ quiescent_KernelFinalIdeal (hKernelFinalIdeal := hKernelFinalIdeal)
    ∧ quiescent_ReferenceFinalIdeal (hReferenceFinalIdeal := hReferenceFinalIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelFox (hKernelFox := hKernelFox)
    ∧ quiescent_KernelFoxIdeal (hKernelFoxIdeal := hKernelFoxIdeal)
    ∧ quiescent_KernelFoxIdeal_pre_all_finite (hKernelFoxIdeal := hKernelFoxIdeal) (hPre_all_finite := hPre_all_finite)
    ∧ quiescent_ReferenceFoxIdeal (hReferenceFoxIdeal := hReferenceFoxIdeal)
    ∧ quiescent_ReferenceFoxIdeal_pre_all_finite (hReferenceFoxIdeal := hReferenceFoxIdeal) (hPre_all_finite := hPre_all_finite)
    ∧ preserves_KernelQ_KernelQIdeal
    ∧ algebraic_KernelQIdeal_ReferenceQIdeal (hKernelQIdeal := hKernelQIdeal) (hReferenceQIdeal := hReferenceQIdeal)
    ∧ preserves_KernelK_KernelKIdeal
    ∧ algebraic_KernelKIdeal_ReferenceKIdeal (hKernelKIdeal := hKernelKIdeal) (hReferenceKIdeal := hReferenceKIdeal)
    ∧ preserves_KernelV_KernelVIdeal
    ∧ algebraic_KernelVIdeal_ReferenceVIdeal (hKernelVIdeal := hKernelVIdeal) (hReferenceVIdeal := hReferenceVIdeal)
    ∧ preserves_KernelQf_KernelQfIdeal
    ∧ algebraic_KernelQfIdeal_ReferenceQfIdeal (hKernelQfIdeal := hKernelQfIdeal) (hReferenceQfIdeal := hReferenceQfIdeal)
    ∧ preserves_KernelI_KernelIIdeal
    ∧ algebraic_KernelIIdeal_ReferenceIIdeal (hKernelIIdeal := hKernelIIdeal) (hReferenceIIdeal := hReferenceIIdeal)
    ∧ preserves_KernelG_KernelGIdeal
    ∧ algebraic_KernelGIdeal_ReferenceGIdeal (hKernelGIdeal := hKernelGIdeal) (hReferenceGIdeal := hReferenceGIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelNorm_KernelNormIdeal
    ∧ algebraic_KernelNormIdeal_ReferenceNormIdeal (hKernelNormIdeal := hKernelNormIdeal) (hReferenceNormIdeal := hReferenceNormIdeal)
    ∧ preserves_KernelFinal_KernelFinalIdeal
    ∧ algebraic_KernelFinalIdeal_ReferenceFinalIdeal (hKernelFinalIdeal := hKernelFinalIdeal) (hReferenceFinalIdeal := hReferenceFinalIdeal)
    ∧ preserves_KernelAda_KernelAdaIdeal
    ∧ algebraic_KernelAdaIdeal_ReferenceAdaIdeal (hKernelAdaIdeal := hKernelAdaIdeal) (hReferenceAdaIdeal := hReferenceAdaIdeal)
    ∧ preserves_KernelUp_KernelUpIdeal
    ∧ algebraic_KernelUpIdeal_ReferenceUpIdeal (hKernelUpIdeal := hKernelUpIdeal) (hReferenceUpIdeal := hReferenceUpIdeal)
    ∧ preserves_KernelFox_KernelFoxIdeal
    ∧ algebraic_KernelFoxIdeal_ReferenceFoxIdeal_pre_all_finite (hKernelFoxIdeal := hKernelFoxIdeal) (hReferenceFoxIdeal := hReferenceFoxIdeal) (hPre_all_finite := hPre_all_finite)
-- ==== Pre_all_finite.lean ====
abbrev S8192x4096 : Shape := ⟨2, ![8192, 4096]⟩
abbrev S1x4096 : Shape := ⟨2, ![1, 4096]⟩
abbrev S1x4096x14352 : Shape := ⟨3, ![1, 4096, 14352]⟩
abbrev S1x16 : Shape := ⟨2, ![1, 16]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_
  bcast_S_S1x4096x14352 : S_.BroadcastsInDim S1x4096x14352 (![] : Fin 0 → Fin S1x4096x14352.rank)
  reducesTo_S1x4096x14352_S_d0_1_2 : S1x4096x14352.ReducesTo [0, 1, 2] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg4 : FVec F S1x4096x14352 .f32) (main_arg5 : FVec F S1x16 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S1x4096x14352 .f32 := Host.absf main_arg4
  let main_cst_6 : FVec F S_ .f32 := constant S_ .f32 0x7F800000#32
  let main_v20 : FVec F S1x4096x14352 .f32 := broadcastInDim S1x4096x14352 ![] bcast_S_S1x4096x14352 main_cst_6
  let main_v21 : IVec S1x4096x14352 1 := cmpf .olt main_v19 main_v20
  let main_c_7 : IVec S_ 1 := constantI S_ 1 1#1
  let main_v22 : IVec S_ 1 := (fun x v => Host.reduce IntOp.andi x v reducesTo_S1x4096x14352_S_d0_1_2 h_S_) main_v21 main_c_7
  let main_v23 : IVec S_ 1 := andi main_v18 main_v22
  let main_v24 : FVec F S1x16 .f32 := Host.absf main_arg5
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  main_v28

def fn {F : FTy → Type} [FloatOps F] (main_arg0 : FVec F S8192x4096 .f32) (main_arg1 : FVec F S1x4096 .f32) (main_arg2 : FVec F S1x4096 .f32) (main_arg3 : FVec F S1x4096 .f32) (main_arg4 : FVec F S1x4096x14352 .f32) (main_arg5 : FVec F S1x16 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_arg5 main_v13 main_v16
-- ==== KernelQ.lean ====
abbrev S8192x4096 : Shape := ⟨2, ![8192, 4096]⟩
abbrev S1x4096x14352 : Shape := ⟨3, ![1, 4096, 14352]⟩
abbrev S4096x14352 : Shape := ⟨2, ![4096, 14352]⟩
abbrev S14352x4096 : Shape := ⟨2, ![14352, 4096]⟩
abbrev S2048x8192 : Shape := ⟨2, ![2048, 8192]⟩
abbrev S1024x4096 : Shape := ⟨2, ![1024, 4096]⟩
abbrev S512x4096 : Shape := ⟨2, ![512, 4096]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S4096x14352, .f32⟩
  | .hbm, ⟨3, _⟩ => ⟨S14352x4096, .f32⟩
  | .hbm, ⟨4, _⟩ => ⟨S2048x8192, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c0_i32 : BitVec 32 := 0#32
  let arg0 : BitVec 32 := BitVec.ofNat 32 (i 0).val
  let c512_i32 : BitVec 32 := 512#32
  let v0 : BitVec 32 := Scalar.muli arg0 c512_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelQIdeal.lean ====
variable {F : FTy → Type} [FloatOps F] [Named F]
def κ : String → Option EReal := fun
  | "q_scale" => some (((Real.log 2)⁻¹ * (Real.sqrt 128)⁻¹ : ℝ) : EReal)
  | _ => none
-- ==== ReferenceQIdeal.lean ====
abbrev S8192x4096 : Shape := ⟨2, ![8192, 4096]⟩
abbrev S1x4096x14352 : Shape := ⟨3, ![1, 4096, 14352]⟩
abbrev S4096x14352 : Shape := ⟨2, ![4096, 14352]⟩
abbrev S8192x14352 : Shape := ⟨2, ![8192, 14352]⟩
abbrev S8192x2048 : Shape := ⟨2, ![8192, 2048]⟩
abbrev S_ : Shape := ⟨0, ![]⟩
abbrev S2048x8192 : Shape := ⟨2, ![2048, 8192]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S8192x4096, .f32⟩
  | .hbm, ⟨3, _⟩ => ⟨S4096x14352, .f32⟩
  | .hbm, ⟨4, _⟩ => ⟨S8192x14352, .f32⟩
  | .hbm, ⟨5, _⟩ => ⟨S8192x2048, .f32⟩
  | .hbm, ⟨6, _⟩ => ⟨S_, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S2048x8192, .f32⟩
  | .hbm, ⟨15, _⟩ => ⟨S2048x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== KernelK.lean ====
abbrev S8192x4096 : Shape := ⟨2, ![8192, 4096]⟩
abbrev S1x4096x14352 : Shape := ⟨3, ![1, 4096, 14352]⟩
abbrev S4096x14352 : Shape := ⟨2, ![4096, 14352]⟩
abbrev S14352x4096 : Shape := ⟨2, ![14352, 4096]⟩
abbrev S8192x2048 : Shape := ⟨2, ![8192, 2048]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S4096x14352, .f32⟩
  | .hbm, ⟨3, _⟩ => ⟨S14352x4096, .f32⟩
  | .hbm, ⟨4, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c2048_i32 : BitVec 32 := 2048#32
  let arg0 : BitVec 32 := BitVec.ofNat 32 (i 0).val
  let c512_i32 : BitVec 32 := 512#32
  let v0 : BitVec 32 := Scalar.muli arg0 c512_i32
  let v1 : BitVec 32 := Scalar.addi c2048_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.addi c2048_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceKIdeal.lean ====
abbrev S8192x4096 : Shape := ⟨2, ![8192, 4096]⟩
abbrev S1x4096x14352 : Shape := ⟨3, ![1, 4096, 14352]⟩
abbrev S4096x14352 : Shape := ⟨2, ![4096, 14352]⟩
abbrev S8192x14352 : Shape := ⟨2, ![8192, 14352]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S8192x4096, .f32⟩
  | .hbm, ⟨3, _⟩ => ⟨S4096x14352, .f32⟩
  | .hbm, ⟨4, _⟩ => ⟨S8192x14352, .f32⟩
  | .hbm, ⟨5, _⟩ => ⟨S8192x2048, .f32⟩
  | .hbm, ⟨6, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelV.lean ====
abbrev S8192x4096 : Shape := ⟨2, ![8192, 4096]⟩
abbrev S1x4096x14352 : Shape := ⟨3, ![1, 4096, 14352]⟩
abbrev S4096x14352 : Shape := ⟨2, ![4096, 14352]⟩
abbrev S14352x4096 : Shape := ⟨2, ![14352, 4096]⟩
abbrev S2048x8192 : Shape := ⟨2, ![2048, 8192]⟩
abbrev S1024x4096 : Shape := ⟨2, ![1024, 4096]⟩
abbrev S512x4096 : Shape := ⟨2, ![512, 4096]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S4096x14352, .f32⟩
  | .hbm, ⟨3, _⟩ => ⟨S14352x4096, .f32⟩
  | .hbm, ⟨4, _⟩ => ⟨S2048x8192, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c4096_i32 : BitVec 32 := 4096#32
  let arg0 : BitVec 32 := BitVec.ofNat 32 (i 0).val
  let c512_i32 : BitVec 32 := 512#32
  let v0 : BitVec 32 := Scalar.muli arg0 c512_i32
  let v1 : BitVec 32 := Scalar.addi c4096_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.addi c4096_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceVIdeal.lean ====
abbrev S8192x4096 : Shape := ⟨2, ![8192, 4096]⟩
abbrev S1x4096x14352 : Shape := ⟨3, ![1, 4096, 14352]⟩
abbrev S4096x14352 : Shape := ⟨2, ![4096, 14352]⟩
abbrev S8192x14352 : Shape := ⟨2, ![8192, 14352]⟩
abbrev S8192x2048 : Shape := ⟨2, ![8192, 2048]⟩
abbrev S2048x8192 : Shape := ⟨2, ![2048, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S8192x4096, .f32⟩
  | .hbm, ⟨3, _⟩ => ⟨S4096x14352, .f32⟩
  | .hbm, ⟨4, _⟩ => ⟨S8192x14352, .f32⟩
  | .hbm, ⟨5, _⟩ => ⟨S8192x2048, .f32⟩
  | .hbm, ⟨6, _⟩ => ⟨S2048x8192, .f32⟩
  | .hbm, ⟨7, _⟩ => ⟨S2048x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelQf.lean ====
abbrev S8192x4096 : Shape := ⟨2, ![8192, 4096]⟩
abbrev S1x4096x14352 : Shape := ⟨3, ![1, 4096, 14352]⟩
abbrev S4096x14352 : Shape := ⟨2, ![4096, 14352]⟩
abbrev S14352x4096 : Shape := ⟨2, ![14352, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S4096x14352, .f32⟩
  | .hbm, ⟨3, _⟩ => ⟨S14352x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c6160_i32 : BitVec 32 := 6160#32
  let arg0 : BitVec 32 := BitVec.ofNat 32 (i 0).val
  let c512_i32 : BitVec 32 := 512#32
  let v0 : BitVec 32 := Scalar.muli arg0 c512_i32
  let v1 : BitVec 32 := Scalar.addi c6160_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c6160_i32 : BitVec 32 := 6160#32
  let v1 : BitVec 32 := Scalar.addi c6160_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQfIdeal.lean ====
abbrev S8192x4096 : Shape := ⟨2, ![8192, 4096]⟩
abbrev S1x4096x14352 : Shape := ⟨3, ![1, 4096, 14352]⟩
abbrev S4096x14352 : Shape := ⟨2, ![4096, 14352]⟩
abbrev S8192x14352 : Shape := ⟨2, ![8192, 14352]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S8192x4096, .f32⟩
  | .hbm, ⟨3, _⟩ => ⟨S4096x14352, .f32⟩
  | .hbm, ⟨4, _⟩ => ⟨S8192x14352, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelI.lean ====
abbrev S8192x4096 : Shape := ⟨2, ![8192, 4096]⟩
abbrev S1x4096x14352 : Shape := ⟨3, ![1, 4096, 14352]⟩
abbrev S4096x14352 : Shape := ⟨2, ![4096, 14352]⟩
abbrev S14352x4096 : Shape := ⟨2, ![14352, 4096]⟩
abbrev S8192x2048 : Shape := ⟨2, ![8192, 2048]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S4096x14352, .f32⟩
  | .hbm, ⟨3, _⟩ => ⟨S14352x4096, .f32⟩
  | .hbm, ⟨4, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c10256_i32 : BitVec 32 := 10256#32
  let arg0 : BitVec 32 := BitVec.ofNat 32 (i 0).val
  let c512_i32 : BitVec 32 := 512#32
  let v0 : BitVec 32 := Scalar.muli arg0 c512_i32
  let v1 : BitVec 32 := Scalar.addi c10256_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c10256_i32 : BitVec 32 := 10256#32
  let v1 : BitVec 32 := Scalar.addi c10256_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIIdeal.lean ====
abbrev S8192x4096 : Shape := ⟨2, ![8192, 4096]⟩
abbrev S1x4096x14352 : Shape := ⟨3, ![1, 4096, 14352]⟩
abbrev S4096x14352 : Shape := ⟨2, ![4096, 14352]⟩
abbrev S8192x14352 : Shape := ⟨2, ![8192, 14352]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S8192x4096, .f32⟩
  | .hbm, ⟨3, _⟩ => ⟨S4096x14352, .f32⟩
  | .hbm, ⟨4, _⟩ => ⟨S8192x14352, .f32⟩
  | .hbm, ⟨5, _⟩ => ⟨S8192x2048, .f32⟩
  | .hbm, ⟨6, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelG.lean ====
abbrev S8192x4096 : Shape := ⟨2, ![8192, 4096]⟩
abbrev S1x4096x14352 : Shape := ⟨3, ![1, 4096, 14352]⟩
abbrev S4096x14352 : Shape := ⟨2, ![4096, 14352]⟩
abbrev S14352x4096 : Shape := ⟨2, ![14352, 4096]⟩
abbrev S8192x2048 : Shape := ⟨2, ![8192, 2048]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S4096x14352, .f32⟩
  | .hbm, ⟨3, _⟩ => ⟨S14352x4096, .f32⟩
  | .hbm, ⟨4, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c12304_i32 : BitVec 32 := 12304#32
  let arg0 : BitVec 32 := BitVec.ofNat 32 (i 0).val
  let c512_i32 : BitVec 32 := 512#32
  let v0 : BitVec 32 := Scalar.muli arg0 c512_i32
  let v1 : BitVec 32 := Scalar.addi c12304_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c12304_i32 : BitVec 32 := 12304#32
  let v1 : BitVec 32 := Scalar.addi c12304_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGIdeal.lean ====
abbrev S8192x4096 : Shape := ⟨2, ![8192, 4096]⟩
abbrev S1x4096x14352 : Shape := ⟨3, ![1, 4096, 14352]⟩
abbrev S4096x14352 : Shape := ⟨2, ![4096, 14352]⟩
abbrev S8192x14352 : Shape := ⟨2, ![8192, 14352]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S8192x4096, .f32⟩
  | .hbm, ⟨3, _⟩ => ⟨S4096x14352, .f32⟩
  | .hbm, ⟨4, _⟩ => ⟨S8192x14352, .f32⟩
  | .hbm, ⟨5, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelDown.lean ====
abbrev S8192x11008 : Shape := ⟨2, ![8192, 11008]⟩
abbrev S11008x4096 : Shape := ⟨2, ![11008, 4096]⟩
abbrev S8192x4096 : Shape := ⟨2, ![8192, 4096]⟩
abbrev S1x4096 : Shape := ⟨2, ![1, 4096]⟩
abbrev S512x11008 : Shape := ⟨2, ![512, 11008]⟩
abbrev S11008x512 : Shape := ⟨2, ![11008, 512]⟩
abbrev S512x512 : Shape := ⟨2, ![512, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S1x4096, .f32⟩
  | .hbm, ⟨4, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceDownIdeal.lean ====
abbrev S8192x11008 : Shape := ⟨2, ![8192, 11008]⟩
abbrev S11008x4096 : Shape := ⟨2, ![11008, 4096]⟩
abbrev S8192x4096 : Shape := ⟨2, ![8192, 4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S1x4096, .f32⟩
  | .hbm, ⟨4, _⟩ => ⟨S8192x11008, .f32⟩
  | .hbm, ⟨5, _⟩ => ⟨S11008x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelOut.lean ====
abbrev S8192x2048 : Shape := ⟨2, ![8192, 2048]⟩
abbrev S1x4096x4096 : Shape := ⟨3, ![1, 4096, 4096]⟩
abbrev S8192x4096 : Shape := ⟨2, ![8192, 4096]⟩
abbrev S1x4096 : Shape := ⟨2, ![1, 4096]⟩
abbrev S4096x4096 : Shape := ⟨2, ![4096, 4096]⟩
abbrev S1024x2048 : Shape := ⟨2, ![1024, 2048]⟩
abbrev S4096x512 : Shape := ⟨2, ![4096, 512]⟩
abbrev S1024x512 : Shape := ⟨2, ![1024, 512]⟩
abbrev S1x512 : Shape := ⟨2, ![1, 512]⟩
abbrev S2048x512 : Shape := ⟨2, ![2048, 512]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S8192x4096, .f32⟩
  | .hbm, ⟨4, _⟩ => ⟨S1x4096, .f32⟩
  | .hbm, ⟨5, _⟩ => ⟨S4096x4096, .f32⟩
  | .hbm, ⟨6, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x512, .f32⟩
  | .local _ .vmem, ⟨5, _⟩ => ⟨S4096x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S4096x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceOutIdeal.lean ====
abbrev S8192x2048 : Shape := ⟨2, ![8192, 2048]⟩
abbrev S1x4096x4096 : Shape := ⟨3, ![1, 4096, 4096]⟩
abbrev S8192x4096 : Shape := ⟨2, ![8192, 4096]⟩
abbrev S1x4096 : Shape := ⟨2, ![1, 4096]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S8192x4096, .f32⟩
  | .hbm, ⟨4, _⟩ => ⟨S1x4096, .f32⟩
  | .hbm, ⟨5, _⟩ => ⟨S8192x4096, .bf16⟩
  | .hbm, ⟨6, _⟩ => ⟨S8192x4096, .f32⟩
  | .hbm, ⟨7, _⟩ => ⟨S4096x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== KernelNorm.lean ====
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormIdeal.lean ====
abbrev S8192x4096 : Shape := ⟨2, ![8192, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S1x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== KernelFinal.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceFinalIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelAda.lean ====
abbrev S1x4096 : Shape := ⟨2, ![1, 4096]⟩
abbrev S1x4096x24576 : Shape := ⟨3, ![1, 4096, 24576]⟩
abbrev S1x24576 : Shape := ⟨2, ![1, 24576]⟩
abbrev S4096x24576 : Shape := ⟨2, ![4096, 24576]⟩
abbrev S24576 : Shape := ⟨1, ![24576]⟩
abbrev S4096x1 : Shape := ⟨2, ![4096, 1]⟩
abbrev S4096x128 : Shape := ⟨2, ![4096, 128]⟩
abbrev S4096x512 : Shape := ⟨2, ![4096, 512]⟩
abbrev S1x512 : Shape := ⟨2, ![1, 512]⟩
abbrev S128 : Shape := ⟨1, ![128]⟩
abbrev S1x128 : Shape := ⟨2, ![1, 128]⟩

abbrev nBuf : Space → Nat
  | .hbm => 9
  | .vmem => 8
  | .smem => 0
  | _ => 0

abbrev bufTy : (tb : Table) → Fin (tcTables nBuf tb) → BufTy
  | .hbm, ⟨0, _⟩ => ⟨S1x4096, .f32⟩
  | .hbm, ⟨1, _⟩ => ⟨S1x4096x24576, .f32⟩
  | .hbm, ⟨2, _⟩ => ⟨S1x24576, .f32⟩
  | .hbm, ⟨3, _⟩ => ⟨S4096x24576, .f32⟩
  | .hbm, ⟨4, _⟩ => ⟨S24576, .f32⟩
  | .hbm, ⟨5, _⟩ => ⟨S4096x1, .f32⟩
  | .hbm, ⟨6, _⟩ => ⟨S4096x128, .f32⟩
  | .hbm, ⟨7, _⟩ => ⟨S1x24576, .f32⟩
  | .hbm, ⟨8, _⟩ => ⟨S1x24576, .f32⟩
  | .local _ .vmem, ⟨0, _⟩ => ⟨S4096x128, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S4096x128, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceAdaIdeal.lean ====
abbrev S1x4096 : Shape := ⟨2, ![1, 4096]⟩
abbrev S1x4096x24576 : Shape := ⟨3, ![1, 4096, 24576]⟩
abbrev S1x24576 : Shape := ⟨2, ![1, 24576]⟩
abbrev S_ : Shape := ⟨0, ![]⟩
abbrev S4096x24576 : Shape := ⟨2, ![4096, 24576]⟩
abbrev S24576 : Shape := ⟨1, ![24576]⟩

abbrev nBuf : Space → Nat
  | .hbm => 17
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096x24576, .f32⟩
  | .hbm, ⟨2, _⟩ => ⟨S1x24576, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S1x4096, .f32⟩
  | .hbm, ⟨7, _⟩ => ⟨S1x4096, .f32⟩
  | .hbm, ⟨8, _⟩ => ⟨S_, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S4096x24576, .f32⟩
  | .hbm, ⟨13, _⟩ => ⟨S1x24576, .f32⟩
  | .hbm, ⟨14, _⟩ => ⟨S24576, .f32⟩
  | .hbm, ⟨15, _⟩ => ⟨S1x24576, .f32⟩
  | .hbm, ⟨16, _⟩ => ⟨S1x24576, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== KernelUp.lean ====
abbrev S8192x4096 : Shape := ⟨2, ![8192, 4096]⟩
abbrev S1x4096x22016 : Shape := ⟨3, ![1, 4096, 22016]⟩
abbrev S1x3x22016 : Shape := ⟨3, ![1, 3, 22016]⟩
abbrev S1x22016 : Shape := ⟨2, ![1, 22016]⟩
abbrev S1x11008x4096 : Shape := ⟨3, ![1, 11008, 4096]⟩
abbrev S4096x22016 : Shape := ⟨2, ![4096, 22016]⟩
abbrev S3x22016 : Shape := ⟨2, ![3, 22016]⟩
abbrev S22016 : Shape := ⟨1, ![22016]⟩
abbrev S11008x4096 : Shape := ⟨2, ![11008, 4096]⟩
abbrev S8192x11008 : Shape := ⟨2, ![8192, 11008]⟩
abbrev S1024x4096 : Shape := ⟨2, ![1024, 4096]⟩
abbrev S4096x256 : Shape := ⟨2, ![4096, 256]⟩
abbrev S3x256 : Shape := ⟨2, ![3, 256]⟩
abbrev S1x256 : Shape := ⟨2, ![1, 256]⟩
abbrev S32x4096 : Shape := ⟨2, ![32, 4096]⟩
abbrev S1024x256 : Shape := ⟨2, ![1024, 256]⟩
abbrev S2x1032x256 : Shape := ⟨3, ![2, 1032, 256]⟩
abbrev S1032x256 : Shape := ⟨2, ![1032, 256]⟩
abbrev S1x1032x256 : Shape := ⟨3, ![1, 1032, 256]⟩
abbrev S1x64x256 : Shape := ⟨3, ![1, 64, 256]⟩
abbrev S64x256 : Shape := ⟨2, ![64, 256]⟩
abbrev S16x128 : Shape := ⟨2, ![16, 128]⟩
abbrev S16x256 : Shape := ⟨2, ![16, 256]⟩
abbrev S1008x256 : Shape := ⟨2, ![1008, 256]⟩
abbrev S1x8x256 : Shape := ⟨3, ![1, 8, 256]⟩
abbrev S8x256 : Shape := ⟨2, ![8, 256]⟩
abbrev S1x1024x256 : Shape := ⟨3, ![1, 1024, 256]⟩

abbrev nBuf : Space → Nat
  | .hbm => 12
  | .vmem => 24
  | .smem => 0
  | _ => 0

abbrev bufTy : (tb : Table) → Fin (tcTables nBuf tb) → BufTy
  | .hbm, ⟨0, _⟩ => ⟨S8192x4096, .bf16⟩
  | .hbm, ⟨1, _⟩ => ⟨S1x4096x22016, .f32⟩
  | .hbm, ⟨2, _⟩ => ⟨S1x3x22016, .f32⟩
  | .hbm, ⟨3, _⟩ => ⟨S1x22016, .f32⟩
  | .hbm, ⟨4, _⟩ => ⟨S1x11008x4096, .f32⟩
  | .hbm, ⟨5, _⟩ => ⟨S4096x22016, .f32⟩
  | .hbm, ⟨6, _⟩ => ⟨S3x22016, .f32⟩
  | .hbm, ⟨7, _⟩ => ⟨S22016, .f32⟩
  | .hbm, ⟨8, _⟩ => ⟨S1x22016, .f32⟩
  | .hbm, ⟨9, _⟩ => ⟨S11008x4096, .f32⟩
  | .hbm, ⟨10, _⟩ => ⟨S8192x11008, .bf16⟩
  | .hbm, ⟨11, _⟩ => ⟨S11008x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S32x4096, .f32⟩
  | .local _ .vmem, ⟨15, _⟩ => ⟨S32x4096, .f32⟩
  | .local _ .vmem, ⟨16, _⟩ => ⟨S1024x256, .bf16⟩
  | .local _ .vmem, ⟨17, _⟩ => ⟨S1024x256, .bf16⟩
  | .local _ .vmem, ⟨18, _⟩ => ⟨S32x4096, .bf16⟩
  | .local _ .vmem, ⟨19, _⟩ => ⟨S32x4096, .bf16⟩
  | .local _ .vmem, ⟨20, _⟩ => ⟨S4096x256, .bf16⟩
  | .local _ .vmem, ⟨21, _⟩ => ⟨S4096x256, .bf16⟩
  | .local _ .vmem, ⟨22, _⟩ => ⟨S2x1032x256, .f32⟩
  | .local _ .vmem, ⟨23, _⟩ => ⟨S2x1032x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![345], ![false]⟩

def k0_off1 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v38 : Index := Scalar.indexCast v25
  let c6 : Index := 6#32
  let c0_20 : Index := 0#32
  ![v38.toNat, 6, 0]
def k0_off2 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v47 : Index := Scalar.indexCast v25
  let c7 : Index := 7#32
  let c0_22 : Index := 0#32
  ![v47.toNat, 7, 0]
def k0_off3 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v55 : Index := Scalar.indexCast v25
  let c8 : Index := 8#32
  let c0_24 : Index := 0#32
  ![v55.toNat, 8, 0]
def k0_off4 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v98 : Index := Scalar.indexCast v25
  let c70 : Index := 70#32
  let c0_45 : Index := 0#32
  ![v98.toNat, 70, 0]
def k0_off5 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v107 : Index := Scalar.indexCast v25
  let c71 : Index := 71#32
  let c0_48 : Index := 0#32
  ![v107.toNat, 71, 0]
def k0_off6 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v115 : Index := Scalar.indexCast v25
  let c72 : Index := 72#32
  let c0_51 : Index := 0#32
  ![v115.toNat, 72, 0]
def k0_off7 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v158 : Index := Scalar.indexCast v25
  let c134 : Index := 134#32
  let c0_72 : Index := 0#32
  ![v158.toNat, 134, 0]
def k0_off8 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v167 : Index := Scalar.indexCast v25
  let c135 : Index := 135#32
  let c0_75 : Index := 0#32
  ![v167.toNat, 135, 0]
def k0_off9 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v175 : Index := Scalar.indexCast v25
  let c136 : Index := 136#32
  let c0_78 : Index := 0#32
  ![v175.toNat, 136, 0]
def k0_off10 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v218 : Index := Scalar.indexCast v25
  let c198 : Index := 198#32
  let c0_99 : Index := 0#32
  ![v218.toNat, 198, 0]
def k0_off11 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v227 : Index := Scalar.indexCast v25
  let c199 : Index := 199#32
  let c0_102 : Index := 0#32
  ![v227.toNat, 199, 0]
def k0_off12 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v235 : Index := Scalar.indexCast v25
  let c200 : Index := 200#32
  let c0_105 : Index := 0#32
  ![v235.toNat, 200, 0]
def k0_off13 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v278 : Index := Scalar.indexCast v25
  let c262 : Index := 262#32
  let c0_126 : Index := 0#32
  ![v278.toNat, 262, 0]
def k0_off14 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v287 : Index := Scalar.indexCast v25
  let c263 : Index := 263#32
  let c0_129 : Index := 0#32
  ![v287.toNat, 263, 0]
def k0_off15 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v295 : Index := Scalar.indexCast v25
  let c264 : Index := 264#32
  let c0_132 : Index := 0#32
  ![v295.toNat, 264, 0]
def k0_off16 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v338 : Index := Scalar.indexCast v25
  let c326 : Index := 326#32
  let c0_153 : Index := 0#32
  ![v338.toNat, 326, 0]
def k0_off17 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v347 : Index := Scalar.indexCast v25
  let c327 : Index := 327#32
  let c0_156 : Index := 0#32
  ![v347.toNat, 327, 0]
def k0_off18 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v355 : Index := Scalar.indexCast v25
  let c328 : Index := 328#32
  let c0_159 : Index := 0#32
  ![v355.toNat, 328, 0]
def k0_off19 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v398 : Index := Scalar.indexCast v25
  let c390 : Index := 390#32
  let c0_180 : Index := 0#32
  ![v398.toNat, 390, 0]
def k0_off20 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v407 : Index := Scalar.indexCast v25
  let c391 : Index := 391#32
  let c0_183 : Index := 0#32
  ![v407.toNat, 391, 0]
def k0_off21 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v415 : Index := Scalar.indexCast v25
  let c392 : Index := 392#32
  let c0_186 : Index := 0#32
  ![v415.toNat, 392, 0]
def k0_off22 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v458 : Index := Scalar.indexCast v25
  let c454 : Index := 454#32
  let c0_207 : Index := 0#32
  ![v458.toNat, 454, 0]
def k0_off23 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v467 : Index := Scalar.indexCast v25
  let c455 : Index := 455#32
  let c0_210 : Index := 0#32
  ![v467.toNat, 455, 0]
def k0_off24 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v475 : Index := Scalar.indexCast v25
  let c456 : Index := 456#32
  let c0_213 : Index := 0#32
  ![v475.toNat, 456, 0]
def k0_off25 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v518 : Index := Scalar.indexCast v25
  let c518 : Index := 518#32
  let c0_234 : Index := 0#32
  ![v518.toNat, 518, 0]
def k0_off26 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v527 : Index := Scalar.indexCast v25
  let c519 : Index := 519#32
  let c0_237 : Index := 0#32
  ![v527.toNat, 519, 0]
def k0_off27 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v535 : Index := Scalar.indexCast v25
  let c520 : Index := 520#32
  let c0_240 : Index := 0#32
  ![v535.toNat, 520, 0]
def k0_off28 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v578 : Index := Scalar.indexCast v25
  let c582 : Index := 582#32
  let c0_261 : Index := 0#32
  ![v578.toNat, 582, 0]
def k0_off29 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v587 : Index := Scalar.indexCast v25
  let c583 : Index := 583#32
  let c0_264 : Index := 0#32
  ![v587.toNat, 583, 0]
def k0_off30 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v595 : Index := Scalar.indexCast v25
  let c584 : Index := 584#32
  let c0_267 : Index := 0#32
  ![v595.toNat, 584, 0]
def k0_off31 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v638 : Index := Scalar.indexCast v25
  let c646 : Index := 646#32
  let c0_288 : Index := 0#32
  ![v638.toNat, 646, 0]
def k0_off32 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v647 : Index := Scalar.indexCast v25
  let c647 : Index := 647#32
  let c0_291 : Index := 0#32
  ![v647.toNat, 647, 0]
def k0_off33 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v655 : Index := Scalar.indexCast v25
  let c648 : Index := 648#32
  let c0_294 : Index := 0#32
  ![v655.toNat, 648, 0]
def k0_off34 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v698 : Index := Scalar.indexCast v25
  let c710 : Index := 710#32
  let c0_315 : Index := 0#32
  ![v698.toNat, 710, 0]
def k0_off35 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v707 : Index := Scalar.indexCast v25
  let c711 : Index := 711#32
  let c0_318 : Index := 0#32
  ![v707.toNat, 711, 0]
def k0_off36 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v715 : Index := Scalar.indexCast v25
  let c712 : Index := 712#32
  let c0_321 : Index := 0#32
  ![v715.toNat, 712, 0]
def k0_off37 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v758 : Index := Scalar.indexCast v25
  let c774 : Index := 774#32
  let c0_342 : Index := 0#32
  ![v758.toNat, 774, 0]
def k0_off38 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v767 : Index := Scalar.indexCast v25
  let c775 : Index := 775#32
  let c0_345 : Index := 0#32
  ![v767.toNat, 775, 0]
def k0_off39 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v775 : Index := Scalar.indexCast v25
  let c776 : Index := 776#32
  let c0_348 : Index := 0#32
  ![v775.toNat, 776, 0]
def k0_off40 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v818 : Index := Scalar.indexCast v25
  let c838 : Index := 838#32
  let c0_369 : Index := 0#32
  ![v818.toNat, 838, 0]
def k0_off41 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v827 : Index := Scalar.indexCast v25
  let c839 : Index := 839#32
  let c0_372 : Index := 0#32
  ![v827.toNat, 839, 0]
def k0_off42 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v835 : Index := Scalar.indexCast v25
  let c840 : Index := 840#32
  let c0_375 : Index := 0#32
  ![v835.toNat, 840, 0]
def k0_off43 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v878 : Index := Scalar.indexCast v25
  let c902 : Index := 902#32
  let c0_396 : Index := 0#32
  ![v878.toNat, 902, 0]
def k0_off44 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v887 : Index := Scalar.indexCast v25
  let c903 : Index := 903#32
  let c0_399 : Index := 0#32
  ![v887.toNat, 903, 0]
def k0_off45 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v895 : Index := Scalar.indexCast v25
  let c904 : Index := 904#32
  let c0_402 : Index := 0#32
  ![v895.toNat, 904, 0]
def k0_off46 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v938 : Index := Scalar.indexCast v25
  let c966 : Index := 966#32
  let c0_423 : Index := 0#32
  ![v938.toNat, 966, 0]
def k0_off47 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v947 : Index := Scalar.indexCast v25
  let c967 : Index := 967#32
  let c0_426 : Index := 0#32
  ![v947.toNat, 967, 0]
def k0_off48 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v955 : Index := Scalar.indexCast v25
  let c968 : Index := 968#32
  let c0_429 : Index := 0#32
  ![v955.toNat, 968, 0]
def k0_off49 (i : grid0.Coords) : Fin 3 → Nat :=
  let c1_i32_11 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.subi c1_i32_11 v24
  let v1092 : Index := Scalar.indexCast v25
  let c1024_467 : Index := 1024#32
  let c0_468 : Index := 0#32
  ![v1092.toNat, 1024, 0]
def k0_off50 (i : grid0.Coords) : Fin 3 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1097 : Index := Scalar.indexCast v24
  let c0_470 : Index := 0#32
  let c0_471 : Index := 0#32
  ![v1097.toNat, 0, 0]
def k0_off51 (i : grid0.Coords) : Fin 3 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1103 : Index := Scalar.indexCast v24
  let c8_475 : Index := 8#32
  let c0_476 : Index := 0#32
  ![v1103.toNat, 8, 0]
def cc0_transform_0 (i : grid0.Coords) : Fin 2 → Nat :=
  let arg0 : BitVec 32 := BitVec.ofNat 32 (i 0).val
  let c343_i32 : BitVec 32 := 343#32
  let v0 : BitVec 32 := Scalar.minsi arg0 c343_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 2 → Nat :=
  let arg0 : BitVec 32 := BitVec.ofNat 32 (i 0).val
  let c343_i32 : BitVec 32 := 343#32
  let v0 : BitVec 32 := Scalar.minsi arg0 c343_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_2 (i : grid0.Coords) : Fin 2 → Nat :=
  let arg0 : BitVec 32 := BitVec.ofNat 32 (i 0).val
  let c343_i32 : BitVec 32 := 343#32
  let v0 : BitVec 32 := Scalar.minsi arg0 c343_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c43_i32 : BitVec 32 := 43#32
  let v18 : BitVec 32 := Scalar.addi c43_i32 v17
  let c0_i32_4 : BitVec 32 := 0#32
  let c0_i32_5 : BitVec 32 := 0#32
  ![c0_i32_4.toNat, v18.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![c0_i32_6.toNat, v18.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c43_i32 : BitVec 32 := 43#32
  let v19 : BitVec 32 := Scalar.addi c43_i32 v18
  let c0_i32_6 : BitVec 32 := 0#32
  let c0_i32_7 : BitVec 32 := 0#32
  ![c0_i32_6.toNat, v19.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![c0_i32_6.toNat, v18.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c43_i32 : BitVec 32 := 43#32
  let v19 : BitVec 32 := Scalar.addi c43_i32 v18
  let c0_i32_6 : BitVec 32 := 0#32
  let c0_i32_7 : BitVec 32 := 0#32
  ![c0_i32_6.toNat, v19.toNat]

def cc0_transform_7 (i : grid0.Coords) : Fin 2 → Nat :=
  let arg0 : BitVec 32 := BitVec.ofNat 32 (i 0).val
  let c343_i32 : BitVec 32 := 343#32
  let v0 : BitVec 32 := Scalar.minsi arg0 c343_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c8_i32_7 : BitVec 32 := 8#32
  let v14 : BitVec 32 := Scalar.divsi v13 c8_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c8_i32_7 c0_i32_10
  let v21 : BitVec 32 := Scalar.extui v20
  let c0_i32_11 : BitVec 32 := 0#32
  let v22 : BitVec 1 := Scalar.cmpi .slt c8_i32_7 c0_i32_11
  let v23 : BitVec 32 := Scalar.extui v22
  let v24 : BitVec 32 := Scalar.subi v21 v23
  let v25 : BitVec 1 := Scalar.cmpi .ne v19 v24
  let v26 : BitVec 32 := Scalar.remsi v13 c8_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  ![v11.toNat, v30.toNat]

def cc0_transform_9 (i : grid0.Coords) : Fin 2 → Nat :=
  let arg0 : BitVec 32 := BitVec.ofNat 32 (i 0).val
  let c343_i32 : BitVec 32 := 343#32
  let v0 : BitVec 32 := Scalar.minsi arg0 c343_i32
  let c0_i32 : BitVec 32 := 0#32
  let c0_i32_0 : BitVec 32 := 0#32
  ![v0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceUpIdeal.lean ====
abbrev S8192x4096 : Shape := ⟨2, ![8192, 4096]⟩
abbrev S1x4096x22016 : Shape := ⟨3, ![1, 4096, 22016]⟩
abbrev S1x3x22016 : Shape := ⟨3, ![1, 3, 22016]⟩
abbrev S1x22016 : Shape := ⟨2, ![1, 22016]⟩
abbrev S1x11008x4096 : Shape := ⟨3, ![1, 11008, 4096]⟩
abbrev S4096x22016 : Shape := ⟨2, ![4096, 22016]⟩
abbrev S8192x22016 : Shape := ⟨2, ![8192, 22016]⟩
abbrev S3x22016 : Shape := ⟨2, ![3, 22016]⟩
abbrev S22016 : Shape := ⟨1, ![22016]⟩
abbrev S_ : Shape := ⟨0, ![]⟩
abbrev S8194x22016 : Shape := ⟨2, ![8194, 22016]⟩
abbrev S8192x11008 : Shape := ⟨2, ![8192, 11008]⟩
abbrev S11008x4096 : Shape := ⟨2, ![11008, 4096]⟩

abbrev nBuf : Space → Nat
  | .hbm => 51
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x22016, .f32⟩
  | .hbm, ⟨2, _⟩ => ⟨S1x3x22016, .f32⟩
  | .hbm, ⟨3, _⟩ => ⟨S1x22016, .f32⟩
  | .hbm, ⟨4, _⟩ => ⟨S1x11008x4096, .f32⟩
  | .hbm, ⟨5, _⟩ => ⟨S8192x4096, .f32⟩
  | .hbm, ⟨6, _⟩ => ⟨S4096x22016, .f32⟩
  | .hbm, ⟨7, _⟩ => ⟨S8192x22016, .f32⟩
  | .hbm, ⟨8, _⟩ => ⟨S3x22016, .f32⟩
  | .hbm, ⟨9, _⟩ => ⟨S22016, .f32⟩
  | .hbm, ⟨10, _⟩ => ⟨S_, .i32⟩
  | .hbm, ⟨11, _⟩ => ⟨S_, .f32⟩
  | .hbm, ⟨12, _⟩ => ⟨S8194x22016, .f32⟩
  | .hbm, ⟨13, _⟩ => ⟨S1x22016, .f32⟩
  | .hbm, ⟨14, _⟩ => ⟨S22016, .f32⟩
  | .hbm, ⟨15, _⟩ => ⟨S8192x22016, .f32⟩
  | .hbm, ⟨16, _⟩ => ⟨S1x22016, .f32⟩
  | .hbm, ⟨17, _⟩ => ⟨S8192x22016, .f32⟩
  | .hbm, ⟨18, _⟩ => ⟨S8192x22016, .f32⟩
  | .hbm, ⟨19, _⟩ => ⟨S1x22016, .f32⟩
  | .hbm, ⟨20, _⟩ => ⟨S8192x22016, .f32⟩
  | .hbm, ⟨21, _⟩ => ⟨S8192x22016, .f32⟩
  | .hbm, ⟨22, _⟩ => ⟨S1x22016, .f32⟩
  | .hbm, ⟨23, _⟩ => ⟨S22016, .f32⟩
  | .hbm, ⟨24, _⟩ => ⟨S8192x22016, .f32⟩
  | .hbm, ⟨25, _⟩ => ⟨S1x22016, .f32⟩
  | .hbm, ⟨26, _⟩ => ⟨S8192x22016, .f32⟩
  | .hbm, ⟨27, _⟩ => ⟨S8192x22016, .f32⟩
  | .hbm, ⟨28, _⟩ => ⟨S8192x22016, .f32⟩
  | .hbm, ⟨29, _⟩ => ⟨S1x22016, .f32⟩
  | .hbm, ⟨30, _⟩ => ⟨S22016, .f32⟩
  | .hbm, ⟨31, _⟩ => ⟨S8192x22016, .f32⟩
  | .hbm, ⟨32, _⟩ => ⟨S1x22016, .f32⟩
  | .hbm, ⟨33, _⟩ => ⟨S8192x22016, .f32⟩
  | .hbm, ⟨34, _⟩ => ⟨S8192x22016, .f32⟩
  | .hbm, ⟨35, _⟩ => ⟨S8192x22016, .f32⟩
  | .hbm, ⟨36, _⟩ => ⟨S8192x11008, .f32⟩
  | .hbm, ⟨37, _⟩ => ⟨S8192x11008, .f32⟩
  | .hbm, ⟨38, _⟩ => ⟨S8192x11008, .f32⟩
  | .hbm, ⟨39, _⟩ => ⟨S8192x11008, .f32⟩
  | .hbm, ⟨40, _⟩ => ⟨S_, .f32⟩
  | .hbm, ⟨41, _⟩ => ⟨S8192x11008, .f32⟩
  | .hbm, ⟨42, _⟩ => ⟨S8192x11008, .f32⟩
  | .hbm, ⟨43, _⟩ => ⟨S_, .f32⟩
  | .hbm, ⟨44, _⟩ => ⟨S8192x11008, .f32⟩
  | .hbm, ⟨45, _⟩ => ⟨S8192x11008, .f32⟩
  | .hbm, ⟨46, _⟩ => ⟨S8192x11008, .f32⟩
  | .hbm, ⟨47, _⟩ => ⟨S8192x11008, .f32⟩
  | .hbm, ⟨48, _⟩ => ⟨S8192x11008, .bf16⟩
  | .hbm, ⟨49, _⟩ => ⟨S11008x4096, .f32⟩
  | .hbm, ⟨50, _⟩ => ⟨S11008x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== KernelFox.lean ====
abbrev S8192x4096 : Shape := ⟨2, ![8192, 4096]⟩
abbrev S1x4096 : Shape := ⟨2, ![1, 4096]⟩
abbrev S1x4096x14352 : Shape := ⟨3, ![1, 4096, 14352]⟩
abbrev S1x16 : Shape := ⟨2, ![1, 16]⟩
abbrev S1x2048 : Shape := ⟨2, ![1, 2048]⟩
abbrev S128x1 : Shape := ⟨2, ![128, 1]⟩
abbrev S16 : Shape := ⟨1, ![16]⟩
abbrev S_ : Shape := ⟨0, ![]⟩
abbrev S128 : Shape := ⟨1, ![128]⟩
abbrev S1x128 : Shape := ⟨2, ![1, 128]⟩
abbrev S4096 : Shape := ⟨1, ![4096]⟩
abbrev S4096x14352 : Shape := ⟨2, ![4096, 14352]⟩
abbrev S14352x4096 : Shape := ⟨2, ![14352, 4096]⟩
abbrev S3x128x16x128 : Shape := ⟨4, ![3, 128, 16, 128]⟩
abbrev S384x2048 : Shape := ⟨2, ![384, 2048]⟩
abbrev S16x8x3x128 : Shape := ⟨4, ![16, 8, 3, 128]⟩
abbrev S128x384 : Shape := ⟨2, ![128, 384]⟩
abbrev S128x8192 : Shape := ⟨2, ![128, 8192]⟩
abbrev S8192x2048 : Shape := ⟨2, ![8192, 2048]⟩
abbrev S512x4096 : Shape := ⟨2, ![512, 4096]⟩
abbrev S128x4096 : Shape := ⟨2, ![128, 4096]⟩
abbrev S128x512 : Shape := ⟨2, ![128, 512]⟩
abbrev S512x2048 : Shape := ⟨2, ![512, 2048]⟩
abbrev S8x128 : Shape := ⟨2, ![8, 128]⟩
abbrev S512 : Shape := ⟨1, ![512]⟩
abbrev S512x1 : Shape := ⟨2, ![512, 1]⟩
abbrev S512x128 : Shape := ⟨2, ![512, 128]⟩
abbrev S512x512 : Shape := ⟨2, ![512, 512]⟩
abbrev S512x384 : Shape := ⟨2, ![512, 384]⟩

abbrev nBuf : Space → Nat
  | .hbm => 51
  | .vmem => 19
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096x14352, .f32⟩
  | .hbm, ⟨5, _⟩ => ⟨S1x16, .f32⟩
  | .hbm, ⟨6, _⟩ => ⟨S1x2048, .f32⟩
  | .hbm, ⟨7, _⟩ => ⟨S128x1, .f32⟩
  | .hbm, ⟨8, _⟩ => ⟨S16, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S4096, .f32⟩
  | .hbm, ⟨14, _⟩ => ⟨S1x4096, .f32⟩
  | .hbm, ⟨15, _⟩ => ⟨S4096x14352, .f32⟩
  | .hbm, ⟨16, _⟩ => ⟨S14352x4096, .f32⟩
  | .hbm, ⟨17, _⟩ => ⟨S3x128x16x128, .i32⟩
  | .hbm, ⟨18, _⟩ => ⟨S3x128x16x128, .i32⟩
  | .hbm, ⟨19, _⟩ => ⟨S3x128x16x128, .i32⟩
  | .hbm, ⟨20, _⟩ => ⟨S3x128x16x128, .i32⟩
  | .hbm, ⟨21, _⟩ => ⟨S3x128x16x128, .i1⟩
  | .hbm, ⟨22, _⟩ => ⟨S_, .i32⟩
  | .hbm, ⟨23, _⟩ => ⟨S3x128x16x128, .i32⟩
  | .hbm, ⟨24, _⟩ => ⟨S3x128x16x128, .i32⟩
  | .hbm, ⟨25, _⟩ => ⟨S3x128x16x128, .i1⟩
  | .hbm, ⟨26, _⟩ => ⟨S3x128x16x128, .i1⟩
  | .hbm, ⟨27, _⟩ => ⟨S_, .f32⟩
  | .hbm, ⟨28, _⟩ => ⟨S_, .f32⟩
  | .hbm, ⟨29, _⟩ => ⟨S3x128x16x128, .f32⟩
  | .hbm, ⟨30, _⟩ => ⟨S3x128x16x128, .f32⟩
  | .hbm, ⟨31, _⟩ => ⟨S3x128x16x128, .f32⟩
  | .hbm, ⟨32, _⟩ => ⟨S384x2048, .f32⟩
  | .hbm, ⟨33, _⟩ => ⟨S16x8x3x128, .i32⟩
  | .hbm, ⟨34, _⟩ => ⟨S16x8x3x128, .i32⟩
  | .hbm, ⟨35, _⟩ => ⟨S16x8x3x128, .i32⟩
  | .hbm, ⟨36, _⟩ => ⟨S16x8x3x128, .i32⟩
  | .hbm, ⟨37, _⟩ => ⟨S16x8x3x128, .i1⟩
  | .hbm, ⟨38, _⟩ => ⟨S16x8x3x128, .i1⟩
  | .hbm, ⟨39, _⟩ => ⟨S16x8x3x128, .i1⟩
  | .hbm, ⟨40, _⟩ => ⟨S_, .f32⟩
  | .hbm, ⟨41, _⟩ => ⟨S_, .f32⟩
  | .hbm, ⟨42, _⟩ => ⟨S16x8x3x128, .f32⟩
  | .hbm, ⟨43, _⟩ => ⟨S16x8x3x128, .f32⟩
  | .hbm, ⟨44, _⟩ => ⟨S16x8x3x128, .f32⟩
  | .hbm, ⟨45, _⟩ => ⟨S128x384, .f32⟩
  | .hbm, ⟨46, _⟩ => ⟨S384x2048, .bf16⟩
  | .hbm, ⟨47, _⟩ => ⟨S128x384, .bf16⟩
  | .hbm, ⟨48, _⟩ => ⟨S8192x4096, .bf16⟩
  | .hbm, ⟨49, _⟩ => ⟨S128x8192, .f32⟩
  | .hbm, ⟨50, _⟩ => ⟨S8192x2048, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S128x4096, .f32⟩
  | .local _ .vmem, ⟨6, _⟩ => ⟨S1x128, .f32⟩
  | .local _ .vmem, ⟨7, _⟩ => ⟨S384x2048, .bf16⟩
  | .local _ .vmem, ⟨8, _⟩ => ⟨S1x2048, .f32⟩
  | .local _ .vmem, ⟨9, _⟩ => ⟨S128x384, .bf16⟩
  | .local _ .vmem, ⟨10, _⟩ => ⟨S128x1, .f32⟩
  | .local _ .vmem, ⟨11, _⟩ => ⟨S512x4096, .bf16⟩
  | .local _ .vmem, ⟨12, _⟩ => ⟨S512x4096, .bf16⟩
  | .local _ .vmem, ⟨13, _⟩ => ⟨S128x512, .f32⟩
  | .local _ .vmem, ⟨14, _⟩ => ⟨S128x512, .f32⟩
  | .local _ .vmem, ⟨15, _⟩ => ⟨S512x2048, .bf16⟩
  | .local _ .vmem, ⟨16, _⟩ => ⟨S512x2048, .bf16⟩
  | .local _ .vmem, ⟨17, _⟩ => ⟨S128x4096, .bf16⟩
  | .local _ .vmem, ⟨18, _⟩ => ⟨S8x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_cst_5 : Ref sig .tc := ⟨.hbm, 41, rfl⟩
abbrev main_call2_v0 : Ref sig .tc := ⟨.hbm, 42, rfl⟩
abbrev main_call2_v1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29_0 : Ref sig .tc := ⟨.hbm, 48, rfl⟩
abbrev main_v29_1 : Ref sig .tc := ⟨.hbm, 49, rfl⟩
abbrev main_v29_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c6144_i32 : BitVec 32 := 6144#32
  let c0_i32 : BitVec 32 := 0#32
  let c0_i32_0 : BitVec 32 := 0#32
  ![c6144_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelFoxIdeal.lean ====
variable {F : FTy → Type} [FloatOps F] [Named F]
def κ : String → Option EReal := fun
  | "log2_e" => some (((Real.log 2)⁻¹ : ℝ) : EReal)
  | _ => none
-- ==== ReferenceFoxIdeal.lean ====
abbrev S8192x4096 : Shape := ⟨2, ![8192, 4096]⟩
abbrev S1x4096 : Shape := ⟨2, ![1, 4096]⟩
abbrev S1x4096x14352 : Shape := ⟨3, ![1, 4096, 14352]⟩
abbrev S1x16 : Shape := ⟨2, ![1, 16]⟩
abbrev S4096 : Shape := ⟨1, ![4096]⟩
abbrev S_ : Shape := ⟨0, ![]⟩
abbrev S8192 : Shape := ⟨1, ![8192]⟩
abbrev S8192x1 : Shape := ⟨2, ![8192, 1]⟩
abbrev S4096x14352 : Shape := ⟨2, ![4096, 14352]⟩
abbrev S8192x14352 : Shape := ⟨2, ![8192, 14352]⟩
abbrev S8192x16 : Shape := ⟨2, ![8192, 16]⟩
abbrev S16 : Shape := ⟨1, ![16]⟩
abbrev S8192x16x1 : Shape := ⟨3, ![8192, 16, 1]⟩
abbrev S8192x16x8 : Shape := ⟨3, ![8192, 16, 8]⟩
abbrev S8192x128 : Shape := ⟨2, ![8192, 128]⟩
abbrev S128x8192 : Shape := ⟨2, ![128, 8192]⟩
abbrev S8192x16x6 : Shape := ⟨3, ![8192, 16, 6]⟩
abbrev S8192x16x128 : Shape := ⟨3, ![8192, 16, 128]⟩
abbrev S8192x2048 : Shape := ⟨2, ![8192, 2048]⟩

abbrev nBuf : Space → Nat
  | .hbm => 89
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096x14352, .f32⟩
  | .hbm, ⟨5, _⟩ => ⟨S1x16, .f32⟩
  | .hbm, ⟨6, _⟩ => ⟨S4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S1x4096, .f32⟩
  | .hbm, ⟨25, _⟩ => ⟨S1x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S4096x14352, .f32⟩
  | .hbm, ⟨31, _⟩ => ⟨S8192x14352, .f32⟩
  | .hbm, ⟨32, _⟩ => ⟨S8192x16, .f32⟩
  | .hbm, ⟨33, _⟩ => ⟨S16, .f32⟩
  | .hbm, ⟨34, _⟩ => ⟨S1x16, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S_, .f32⟩
  | .hbm, ⟨39, _⟩ => ⟨S8192x16, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S8192x16, .i1⟩
  | .hbm, ⟨44, _⟩ => ⟨S8192x16, .f32⟩
  | .hbm, ⟨45, _⟩ => ⟨S8192x16, .f32⟩
  | .hbm, ⟨46, _⟩ => ⟨S8192x16, .f32⟩
  | .hbm, ⟨47, _⟩ => ⟨S8192x16, .f32⟩
  | .hbm, ⟨48, _⟩ => ⟨S8192x16, .f32⟩
  | .hbm, ⟨49, _⟩ => ⟨S8192x16, .f32⟩
  | .hbm, ⟨50, _⟩ => ⟨S8192x16, .f32⟩
  | .hbm, ⟨51, _⟩ => ⟨S8192x16, .f32⟩
  | .hbm, ⟨52, _⟩ => ⟨S8192x16, .f32⟩
  | .hbm, ⟨53, _⟩ => ⟨S_, .f32⟩
  | .hbm, ⟨54, _⟩ => ⟨S_, .f32⟩
  | .hbm, ⟨55, _⟩ => ⟨S8192x16, .f32⟩
  | .hbm, ⟨56, _⟩ => ⟨S_, .f32⟩
  | .hbm, ⟨57, _⟩ => ⟨S_, .f32⟩
  | .hbm, ⟨58, _⟩ => ⟨S8192x16, .f32⟩
  | .hbm, ⟨59, _⟩ => ⟨S8192x16, .f32⟩
  | .hbm, ⟨60, _⟩ => ⟨S_, .f32⟩
  | .hbm, ⟨61, _⟩ => ⟨S8192x16, .f32⟩
  | .hbm, ⟨62, _⟩ => ⟨S_, .f32⟩
  | .hbm, ⟨63, _⟩ => ⟨S8192x16, .f32⟩
  | .hbm, ⟨64, _⟩ => ⟨S8192x16x1, .f32⟩
  | .hbm, ⟨65, _⟩ => ⟨S8192x16x1, .f32⟩
  | .hbm, ⟨66, _⟩ => ⟨S8192x16x1, .f32⟩
  | .hbm, ⟨67, _⟩ => ⟨S8192x16x1, .f32⟩
  | .hbm, ⟨68, _⟩ => ⟨S8192x16x1, .f32⟩
  | .hbm, ⟨69, _⟩ => ⟨S8192x16x1, .f32⟩
  | .hbm, ⟨70, _⟩ => ⟨S8192x16x1, .f32⟩
  | .hbm, ⟨71, _⟩ => ⟨S8192x16x1, .f32⟩
  | .hbm, ⟨72, _⟩ => ⟨S8192x16x8, .f32⟩
  | .hbm, ⟨73, _⟩ => ⟨S8192x128, .f32⟩
  | .hbm, ⟨74, _⟩ => ⟨S128x8192, .f32⟩
  | .hbm, ⟨75, _⟩ => ⟨S8192x16, .f32⟩
  | .hbm, ⟨76, _⟩ => ⟨S8192x16x1, .f32⟩
  | .hbm, ⟨77, _⟩ => ⟨S8192x16x1, .f32⟩
  | .hbm, ⟨78, _⟩ => ⟨S8192x16x1, .f32⟩
  | .hbm, ⟨79, _⟩ => ⟨S8192x16x1, .f32⟩
  | .hbm, ⟨80, _⟩ => ⟨S8192x16x1, .f32⟩
  | .hbm, ⟨81, _⟩ => ⟨S8192x16x1, .f32⟩
  | .hbm, ⟨82, _⟩ => ⟨S8192x16x6, .f32⟩
  | .hbm, ⟨83, _⟩ => ⟨S_, .i32⟩
  | .hbm, ⟨84, _⟩ => ⟨S_, .f32⟩
  | .hbm, ⟨85, _⟩ => ⟨S8192x16x128, .f32⟩
  | .hbm, ⟨86, _⟩ => ⟨S8192x2048, .f32⟩
  | .hbm, ⟨87, _⟩ => ⟨S8192x4096, .bf16⟩
  | .hbm, ⟨88, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_call0_cst : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_v1 : Ref sig .tc := ⟨.hbm, 51, rfl⟩
abbrev main_v27 : Ref sig .tc := ⟨.hbm, 52, rfl⟩
abbrev main_call1_call0_cst : Ref sig .tc := ⟨.hbm, 53, rfl⟩
abbrev main_call1_call0_v0 : Ref sig .tc := ⟨.hbm, 54, rfl⟩
abbrev main_v28 : Ref sig .tc := ⟨.hbm, 55, rfl⟩
abbrev main_cst_3 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_4 : Ref sig .tc := ⟨.hbm, 60, rfl⟩
abbrev main_v32 : Ref sig .tc := ⟨.hbm, 61, rfl⟩
abbrev main_cst_5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c : Ref sig .tc := ⟨.hbm, 83, rfl⟩
abbrev main_call2_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩

abbrev nD : Nat := 1
abbrev τ : Topo := Topo.v7x

variable {F : FTy → Type} [FloatOps F]
-- ==== Proof.Q.lean ====
/-
The queries' projection at the extended reals: what every grid point of the kernel leaves in its
output block, read back as an element of the reference's matrix product.
-/
module

public import proofs.«01_k».proof.Proof.Gen.KernelQIdeal.Value
public import proofs.«01_k».proof.Proof.Gen.ReferenceQIdeal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelQIdeal.Blocks

open Cert.KernelQIdeal Cert.KernelQIdeal.Gen

variable (m : (ℓ : Loc nD τ sig) → Buf (Elt Ideal) ℓ)

/-- Where the blocks lie: eight row blocks of the activations for each block of 512 weight columns. -/
theorem idx : ∀ t : Fin cfg0.N, win0_0.index t = ![t.val % 8, 0] ∧ win0_1.index t = ![512 * (t.val / 8), 0]
    ∧ win0_2.index t = ![t.val / 8, t.val % 8] ∧ t.val / 8 < 4 ∧ Scalar.cmpi .slt (BitVec.ofNat 32 (grid0.coords t 0).val) 4#32 = 1#1 :=
  (by decide +kernel : ∀ t : Fin grid0.N, _)

/-- The first grid point of the run of eight that uses one block of weight columns. -/
abbrev first (t : Fin cfg0.N) : Fin cfg0.N := ⟨8 * (t.val / 8), Pipeline.run_start_lt t⟩

/-- The scratch keeps the weight block that the run's first point rounded into it. -/
theorem held (c : Dev nD) (t : Fin cfg0.N) :
    (outsAt0 m c t.val t.isLt).2 = k0_pay1 (iblk m c 1 (first t)) :=
  Pipeline.eq_of_write_hold (fun n h => (outsAt0 m c n h).2) 8 (fun t => k0_pay1 (iblk m c 1 t))
    (fun t h => by
      show (outsAt0 m c t.val t.isLt).2 = _
      rw [outsAt0_A m c t h]; frame_out)
    (fun t h => by
      show (outsAt0 m c t.val t.isLt).2 = _
      rw [outsAt0_B m c t h]; rfl) t

/-- What a grid point leaves in the output block. -/
theorem left (c : Dev nD) (t : Fin cfg0.N) :
    (outsAt0 m c t.val t.isLt).1
      = k0_pay2 (grid0.coords t) (k0_pay1 (iblk m c 1 (first t))) (iblk m c 0 t) := by
  by_cases h : t.val % 8 = 0
  · have e : first t = t := Fin.ext (by show 8 * (t.val / 8) = t.val; omega)
    rw [outsAt0_A m c t h, e]; frame_out
  · have hp := held m c ⟨t.val - 1, Nat.lt_of_le_of_lt (Nat.sub_le _ _) t.isLt⟩
    have e : first ⟨t.val - 1, Nat.lt_of_le_of_lt (Nat.sub_le _ _) t.isLt⟩ = first t :=
      Fin.ext (by show 8 * ((t.val - 1) / 8) = 8 * (t.val / 8); omega)
    rw [e] at hp
    rw [outsAt0_B m c t h]; frame_out
    rw [hp]; simp only [read_unread_whole]

open Cert.ReferenceQIdeal.Read

/-- An element of the weight window lies at the window's row offset, plus its own row … -/
theorem wblk_row (t : Fin cfg0.N) (y : S512x4096.Idx) :
    (((View.whole main_v1).slice (win0_1.rect t)).emb y 0).val = 512 * (t.val / 8) + (y 0).val := by
  refine (Pipeline.Window.rect_emb_val_off win0_1 t y 0).trans ?_
  rw [(idx t).2.1]; rfl

/-- … and at its own column. -/
theorem wblk_col (t : Fin cfg0.N) (y : S512x4096.Idx) :
    (((View.whole main_v1).slice (win0_1.rect t)).emb y 1).val = (y 1).val := by
  refine (Pipeline.Window.rect_emb_val_off win0_1 t y 1).trans ?_
  rw [(idx t).2.1]; exact Nat.zero_add _

theorem ofBits_128 : Ideal.ofBits .f32 1124073472#32 = ((128 : ℝ) : EReal) := by
  simp [Ideal.ofBits, Ideal.ieee, -EReal.coe_mul]; norm_num

theorem ofBits_two : Ideal.ofBits .f32 1073741824#32 = ((2 : ℝ) : EReal) := by
  simp [Ideal.ofBits, Ideal.ieee, -EReal.coe_mul]; norm_num

/-- The queries' scale is one over the logarithm of two, times one over the square root of 128. -/
theorem q_scale : Named.named (F := Ideal) κ "q_scale" (φ := .f32) 1040356334#32
    = (((Real.log 2)⁻¹ * (Real.sqrt 128)⁻¹ : ℝ) : EReal) :=
  IdealRules.named_const.ideal_named_scalar _ _ _ _ rfl

/-- Dividing by the root of 128 and then by the logarithm of two is one product with the queries' scale. -/
theorem scaled (a : EReal) : Ideal.div (Ideal.div a (Ideal.sqrt (Ideal.ofBits .f32 1124073472#32)))
    (Ideal.log (Ideal.ofBits .f32 1073741824#32))
      = a * Named.named (F := Ideal) κ "q_scale" (φ := .f32) 1040356334#32 := by
  have h2 : Real.log 2 ≠ 0 := (Real.log_pos (by norm_num)).ne'
  have hs : Real.sqrt 128 ≠ 0 := (Real.sqrt_pos.mpr (by norm_num)).ne'
  rw [q_scale, ofBits_128, ofBits_two, Ideal.sqrt_coe, Ideal.log_coe, if_neg (by norm_num), if_neg (by norm_num),
    Ideal.div_coe hs, Ideal.div_coe h2, mul_assoc, ← EReal.coe_mul, one_div, one_div, mul_comm (Real.sqrt 128)⁻¹]

/-- The product of the two block reads that a grid point multiplies out, at one place of the output block. -/
theorem point (c : Dev nD) (t : Fin cfg0.N) (y : S512x1024.Idx) :
    k0_pay2 (F := Ideal) (grid0.coords t) (k0_pay1 (iblk m c 1 (first t))) (iblk m c 0 t) y
      = val_main_v11 (F := Ideal) (m ((c : Thread nD τ).loc main_arg0)) (m ((c : Thread nD τ).loc main_arg1))
          (((cfg0.win 2).blk t).view.emb y) := by
  pointwise [k0_pay2, k0_pay1, val_main_v11, val_main_v10, val_main_v9, val_main_v8, val_main_v7, val_main_v6, val_main_v5,
    val_main_v4, val_main_v3, val_main_v2, val_main_v1, val_main_v0, val_main_cst, val_main_cst_0]
  refine Eq.trans ?_ (scaled _).symm
  refine congrArg₂ (fun a b : EReal => a * b) ?_ ?_
  · refine Finset.sum_congr rfl fun k _ => (mul_comm (_ : EReal) _).trans ?_
    blk_point [iblk, V, idx t, idx (first t)]
    · exact wblk_col (first t) _
    · exact (wblk_row (first t) _).trans (by show 512 * (8 * (t.val / 8) / 8) + (y 0).val = _; omega)
  · rw [(idx t).2.2.2.2]; rfl

/-- The output array after the run. -/
theorem final (c : Dev nD) : (dats m 0 c).arrAt 2 (cfgs 0).N
    = val_main_v11 (F := Ideal) (m ((c : Thread nD τ).loc main_arg0)) (m ((c : Thread nD τ).loc main_arg1)) := by
  refine (dats m 0 c).arrAt_eq_of_covers 2 _ (by decide +kernel) fun t _ y => ?_
  blk_simp
  rw [after0_2, left m c t]
  exact point m c t y

end Cert.KernelQIdeal.Blocks

end
-- ==== Proof.ClaimsQ.lean ====
/-
The five claims about the queries' projection.
-/
module

public import proofs.«01_k».proof.Defs
public import proofs.«01_k».proof.Proof.Q
public import proofs.«01_k».proof.Proof.Gen.KernelQ.Frame
public import Idealize.ShloMosaic.Lib.Claim
public import Idealize.ShloMosaic.Lib.Quiescent

@[expose] public section

noncomputable section

namespace Cert.Proof.Q

open Idealize.ShloMosaic Idealize.ShloMosaic.TcCoe Idealize.SL.Sem

theorem frame_p : Cert.quiescent_KernelQ := fun m ρ _ => Cert.KernelQ.Gen.frame m ρ

theorem frame_pi : Cert.quiescent_KernelQIdeal := fun m ρ _ => Cert.KernelQIdeal.Gen.frame m ρ

theorem frame_ri : Cert.quiescent_ReferenceQIdeal := fun m ρ _ =>
  (θ_run Cert.ReferenceQIdeal.defs _ _).mono (fun r h => ⟨fun c => (h c).2, sem_eq_zero_of_no_sems (by decide) r.2⟩)
    (Cert.ReferenceQIdeal.Value.run (F := Ideal) m ρ)

theorem preserves : Cert.preserves_KernelQ_KernelQIdeal :=
  IdealRules.named_const.statement Cert.KernelQIdeal.κ "q_scale" .f32 0x3E0293EE#32 _ rfl

/-- The kernel's output array and the reference's result are one array, for any arguments. -/
theorem algebraic : Cert.algebraic_KernelQIdeal_ReferenceQIdeal := by
  intro m ρ m' ρ' _ hagree
  refine ⟨_, Cert.KernelQIdeal.Value.run (F := Ideal) m ρ, ?_⟩
  refine (θ_run Cert.ReferenceQIdeal.defs _ _).mono (fun _ h c => ⟨(h c).1.trans ?_, (h c).2⟩)
    (Cert.ReferenceQIdeal.Value.run (F := Ideal) m' ρ')
  rw [(hagree c).1, (hagree c).2]
  exact (Cert.ReferenceQIdeal.Read.val_main_v11_eq _ _).trans
    ((Cert.KernelQIdeal.Blocks.final m c).symm.trans (Cert.KernelQIdeal.Value.final2 m c))

end Cert.Proof.Q

end
-- ==== Proof.K.lean ====
/-
The keys' projection at the extended reals: what every grid point of the kernel leaves in its
output block, read back as an element of the reference's matrix product.
-/
module

public import proofs.«01_k».proof.Proof.Gen.KernelKIdeal.Value
public import proofs.«01_k».proof.Proof.Gen.ReferenceKIdeal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelKIdeal.Blocks

open Cert.KernelKIdeal Cert.KernelKIdeal.Gen

variable (m : (ℓ : Loc nD τ sig) → Buf (Elt Ideal) ℓ)

/-- Where the blocks lie: eight row blocks of the activations for each block of 512 weight columns. -/
theorem idx : ∀ t : Fin cfg0.N, win0_0.index t = ![t.val % 8, 0] ∧ win0_1.index t = ![2048 + 512 * (t.val / 8), 0]
    ∧ win0_2.index t = ![t.val % 8, t.val / 8] ∧ t.val / 8 < 4 :=
  (by decide +kernel : ∀ t : Fin grid0.N, _)

/-- The first grid point of the run of eight that uses one block of weight columns. -/
abbrev first (t : Fin cfg0.N) : Fin cfg0.N := ⟨8 * (t.val / 8), Pipeline.run_start_lt t⟩

/-- The scratch keeps the weight block that the run's first point rounded into it. -/
theorem held (c : Dev nD) (t : Fin cfg0.N) :
    (outsAt0 m c t.val t.isLt).2 = k0_pay1 (iblk m c 1 (first t)) :=
  Pipeline.eq_of_write_hold (fun n h => (outsAt0 m c n h).2) 8 (fun t => k0_pay1 (iblk m c 1 t))
    (fun t h => by
      show (outsAt0 m c t.val t.isLt).2 = _
      rw [outsAt0_A m c t h]; frame_out)
    (fun t h => by
      show (outsAt0 m c t.val t.isLt).2 = _
      rw [outsAt0_B m c t h]; rfl) t

/-- What a grid point leaves in the output block. -/
theorem left (c : Dev nD) (t : Fin cfg0.N) :
    (outsAt0 m c t.val t.isLt).1
      = k0_pay2 (iblk m c 0 t) (k0_pay1 (iblk m c 1 (first t))) := by
  by_cases h : t.val % 8 = 0
  · have e : first t = t := Fin.ext (by show 8 * (t.val / 8) = t.val; omega)
    rw [outsAt0_A m c t h, e]; frame_out
  · have hp := held m c ⟨t.val - 1, Nat.lt_of_le_of_lt (Nat.sub_le _ _) t.isLt⟩
    have e : first ⟨t.val - 1, Nat.lt_of_le_of_lt (Nat.sub_le _ _) t.isLt⟩ = first t :=
      Fin.ext (by show 8 * ((t.val - 1) / 8) = 8 * (t.val / 8); omega)
    rw [e] at hp
    rw [outsAt0_B m c t h]; frame_out
    rw [hp]; simp only [read_unread_whole]

open Cert.ReferenceKIdeal.Read

/-- An element of the weight window lies at the window's row offset, plus its own row … -/
theorem wblk_row (t : Fin cfg0.N) (y : S512x4096.Idx) :
    (((View.whole main_v1).slice (win0_1.rect t)).emb y 0).val = 2048 + 512 * (t.val / 8) + (y 0).val := by
  refine (Pipeline.Window.rect_emb_val_off win0_1 t y 0).trans ?_
  rw [(idx t).2.1]; rfl

/-- … and at its own column. -/
theorem wblk_col (t : Fin cfg0.N) (y : S512x4096.Idx) :
    (((View.whole main_v1).slice (win0_1.rect t)).emb y 1).val = (y 1).val := by
  refine (Pipeline.Window.rect_emb_val_off win0_1 t y 1).trans ?_
  rw [(idx t).2.1]; exact Nat.zero_add _

/-- The product of the two block reads that a grid point multiplies out, at one place of the output block. -/
theorem point (c : Dev nD) (t : Fin cfg0.N) (y : S1024x512.Idx) :
    k0_pay2 (F := Ideal) (iblk m c 0 t) (k0_pay1 (iblk m c 1 (first t))) y
      = val_main_v4 (F := Ideal) (m ((c : Thread nD τ).loc main_arg0)) (m ((c : Thread nD τ).loc main_arg1))
          (((cfg0.win 2).blk t).view.emb y) := by
  pointwise [k0_pay2, k0_pay1, val_main_v0, val_main_v1, val_main_v2, val_main_v3, val_main_v4]
  refine Finset.sum_congr rfl fun k _ => ?_
  blk_point [iblk, V, idx t, idx (first t)]
  · exact wblk_col (first t) _
  · exact (wblk_row (first t) _).trans (by show 2048 + 512 * (8 * (t.val / 8) / 8) + (y 1).val = _; omega)

/-- The output array after the run. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2, left m c t]
  exact point m c t y

end Cert.KernelKIdeal.Blocks

end
-- ==== Proof.ClaimsK.lean ====
/-
The five claims about the keys' projection.
-/
module

public import proofs.«01_k».proof.Defs
public import proofs.«01_k».proof.Proof.K
public import proofs.«01_k».proof.Proof.Gen.KernelK.Frame
public import Idealize.ShloMosaic.Lib.Claim
public import Idealize.ShloMosaic.Lib.Quiescent

@[expose] public section

noncomputable section

namespace Cert.Proof.K

open Idealize.ShloMosaic Idealize.ShloMosaic.TcCoe Idealize.SL.Sem

theorem frame_p : Cert.quiescent_KernelK := fun m ρ _ => Cert.KernelK.Gen.frame m ρ

theorem frame_pi : Cert.quiescent_KernelKIdeal := fun m ρ _ => Cert.KernelKIdeal.Gen.frame m ρ

theorem frame_ri : Cert.quiescent_ReferenceKIdeal := fun m ρ _ =>
  (θ_run Cert.ReferenceKIdeal.defs _ _).mono (fun r h => ⟨fun c => (h c).2, sem_eq_zero_of_no_sems (by decide) r.2⟩)
    (Cert.ReferenceKIdeal.Value.run (F := Ideal) m ρ)

theorem preserves : Cert.preserves_KernelK_KernelKIdeal := trivial

/-- The kernel's output array and the reference's result are one array, for any arguments. -/
theorem algebraic : Cert.algebraic_KernelKIdeal_ReferenceKIdeal := by
  intro m ρ m' ρ' _ hagree
  refine ⟨_, Cert.KernelKIdeal.Value.run (F := Ideal) m ρ, ?_⟩
  refine (θ_run Cert.ReferenceKIdeal.defs _ _).mono (fun _ h c => ⟨(h c).1.trans ?_, (h c).2⟩)
    (Cert.ReferenceKIdeal.Value.run (F := Ideal) m' ρ')
  rw [(hagree c).1, (hagree c).2]
  exact (Cert.ReferenceKIdeal.Read.val_main_v4_eq _ _).trans
    ((Cert.KernelKIdeal.Blocks.final m c).symm.trans (Cert.KernelKIdeal.Value.final2 m c))

end Cert.Proof.K

end
-- ==== Proof.V.lean ====
/-
The values' projection at the extended reals: what every grid point of the kernel leaves in its
output block, read back as an element of the reference's matrix product.
-/
module

public import proofs.«01_k».proof.Proof.Gen.KernelVIdeal.Value
public import proofs.«01_k».proof.Proof.Gen.ReferenceVIdeal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelVIdeal.Blocks

open Cert.KernelVIdeal Cert.KernelVIdeal.Gen

variable (m : (ℓ : Loc nD τ sig) → Buf (Elt Ideal) ℓ)

/-- Where the blocks lie: eight row blocks of the activations for each block of 512 weight columns. -/
theorem idx : ∀ t : Fin cfg0.N, win0_0.index t = ![t.val % 8, 0] ∧ win0_1.index t = ![4096 + 512 * (t.val / 8), 0]
    ∧ win0_2.index t = ![t.val / 8, t.val % 8] ∧ t.val / 8 < 4 :=
  (by decide +kernel : ∀ t : Fin grid0.N, _)

/-- The first grid point of the run of eight that uses one block of weight columns. -/
abbrev first (t : Fin cfg0.N) : Fin cfg0.N := ⟨8 * (t.val / 8), Pipeline.run_start_lt t⟩

/-- The scratch keeps the weight block that the run's first point rounded into it. -/
theorem held (c : Dev nD) (t : Fin cfg0.N) :
    (outsAt0 m c t.val t.isLt).2 = k0_pay1 (iblk m c 1 (first t)) :=
  Pipeline.eq_of_write_hold (fun n h => (outsAt0 m c n h).2) 8 (fun t => k0_pay1 (iblk m c 1 t))
    (fun t h => by
      show (outsAt0 m c t.val t.isLt).2 = _
      rw [outsAt0_A m c t h]; frame_out)
    (fun t h => by
      show (outsAt0 m c t.val t.isLt).2 = _
      rw [outsAt0_B m c t h]; rfl) t

/-- What a grid point leaves in the output block. -/
theorem left (c : Dev nD) (t : Fin cfg0.N) :
    (outsAt0 m c t.val t.isLt).1
      = k0_pay2 (k0_pay1 (iblk m c 1 (first t))) (iblk m c 0 t) := by
  by_cases h : t.val % 8 = 0
  · have e : first t = t := Fin.ext (by show 8 * (t.val / 8) = t.val; omega)
    rw [outsAt0_A m c t h, e]; frame_out
  · have hp := held m c ⟨t.val - 1, Nat.lt_of_le_of_lt (Nat.sub_le _ _) t.isLt⟩
    have e : first ⟨t.val - 1, Nat.lt_of_le_of_lt (Nat.sub_le _ _) t.isLt⟩ = first t :=
      Fin.ext (by show 8 * ((t.val - 1) / 8) = 8 * (t.val / 8); omega)
    rw [e] at hp
    rw [outsAt0_B m c t h]; frame_out
    rw [hp]; simp only [read_unread_whole]

open Cert.ReferenceVIdeal.Read

/-- An element of the weight window lies at the window's row offset, plus its own row … -/
theorem wblk_row (t : Fin cfg0.N) (y : S512x4096.Idx) :
    (((View.whole main_v1).slice (win0_1.rect t)).emb y 0).val = 4096 + 512 * (t.val / 8) + (y 0).val := by
  refine (Pipeline.Window.rect_emb_val_off win0_1 t y 0).trans ?_
  rw [(idx t).2.1]; rfl

/-- … and at its own column. -/
theorem wblk_col (t : Fin cfg0.N) (y : S512x4096.Idx) :
    (((View.whole main_v1).slice (win0_1.rect t)).emb y 1).val = (y 1).val := by
  refine (Pipeline.Window.rect_emb_val_off win0_1 t y 1).trans ?_
  rw [(idx t).2.1]; exact Nat.zero_add _

/-- The product of the two block reads that a grid point multiplies out, at one place of the output block. -/
theorem point (c : Dev nD) (t : Fin cfg0.N) (y : S512x1024.Idx) :
    k0_pay2 (F := Ideal) (k0_pay1 (iblk m c 1 (first t))) (iblk m c 0 t) y
      = val_main_v5 (F := Ideal) (m ((c : Thread nD τ).loc main_arg0)) (m ((c : Thread nD τ).loc main_arg1))
          (((cfg0.win 2).blk t).view.emb y) := by
  pointwise [k0_pay2, k0_pay1, val_main_v0, val_main_v1, val_main_v2, val_main_v3, val_main_v4, val_main_v5]
  refine Finset.sum_congr rfl fun k _ => (mul_comm (_ : EReal) _).trans ?_
  blk_point [iblk, V, idx t, idx (first t)]
  · exact wblk_col (first t) _
  · exact (wblk_row (first t) _).trans (by show 4096 + 512 * (8 * (t.val / 8) / 8) + (y 0).val = _; omega)

/-- The output array after the run. -/
theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2, left m c t]
  exact point m c t y

end Cert.KernelVIdeal.Blocks

end
-- ==== Proof.ClaimsV.lean ====
/-
The five claims about the values' projection.
-/
module

public import proofs.«01_k».proof.Defs
public import proofs.«01_k».proof.Proof.V
public import proofs.«01_k».proof.Proof.Gen.KernelV.Frame
public import Idealize.ShloMosaic.Lib.Claim
public import Idealize.ShloMosaic.Lib.Quiescent

@[expose] public section

noncomputable section

namespace Cert.Proof.V

open Idealize.ShloMosaic Idealize.ShloMosaic.TcCoe Idealize.SL.Sem

theorem frame_p : Cert.quiescent_KernelV := fun m ρ _ => Cert.KernelV.Gen.frame m ρ

theorem frame_pi : Cert.quiescent_KernelVIdeal := fun m ρ _ => Cert.KernelVIdeal.Gen.frame m ρ

theorem frame_ri : Cert.quiescent_ReferenceVIdeal := fun m ρ _ =>
  (θ_run Cert.ReferenceVIdeal.defs _ _).mono (fun r h => ⟨fun c => (h c).2, sem_eq_zero_of_no_sems (by decide) r.2⟩)
    (Cert.ReferenceVIdeal.Value.run (F := Ideal) m ρ)

theorem preserves : Cert.preserves_KernelV_KernelVIdeal := trivial

/-- The kernel's output array and the reference's result are one array, for any arguments. -/
theorem algebraic : Cert.algebraic_KernelVIdeal_ReferenceVIdeal := by
  intro m ρ m' ρ' _ hagree
  refine ⟨_, Cert.KernelVIdeal.Value.run (F := Ideal) m ρ, ?_⟩
  refine (θ_run Cert.ReferenceVIdeal.defs _ _).mono (fun _ h c => ⟨(h c).1.trans ?_, (h c).2⟩)
    (Cert.ReferenceVIdeal.Value.run (F := Ideal) m' ρ')
  rw [(hagree c).1, (hagree c).2]
  exact (Cert.ReferenceVIdeal.Read.val_main_v5_eq _ _).trans
    ((Cert.KernelVIdeal.Blocks.final m c).symm.trans (Cert.KernelVIdeal.Value.final2 m c))

end Cert.Proof.V

end
-- ==== Proof.Qf.lean ====
/-
The recurrence's queries and gates, projected, at the extended reals: what every grid point of the kernel leaves in its
output block, read back as an element of the reference's matrix product.
-/
module

public import proofs.«01_k».proof.Proof.Gen.KernelQfIdeal.Value
public import proofs.«01_k».proof.Proof.Gen.ReferenceQfIdeal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelQfIdeal.Blocks

open Cert.KernelQfIdeal Cert.KernelQfIdeal.Gen

variable (m : (ℓ : Loc nD τ sig) → Buf (Elt Ideal) ℓ)

/-- Where the blocks lie: eight row blocks of the activations for each block of 512 weight columns. -/
theorem idx : ∀ t : Fin cfg0.N, win0_0.index t = ![t.val % 8, 0] ∧ win0_1.index t = ![6160 + 512 * (t.val / 8), 0]
    ∧ win0_2.index t = ![t.val % 8, t.val / 8] ∧ t.val / 8 < 8 :=
  (by decide +kernel : ∀ t : Fin grid0.N, _)

/-- The first grid point of the run of eight that uses one block of weight columns. -/
abbrev first (t : Fin cfg0.N) : Fin cfg0.N := ⟨8 * (t.val / 8), Pipeline.run_start_lt t⟩

/-- The scratch keeps the weight block that the run's first point rounded into it. -/
theorem held (c : Dev nD) (t : Fin cfg0.N) :
    (outsAt0 m c t.val t.isLt).2 = k0_pay1 (iblk m c 1 (first t)) :=
  Pipeline.eq_of_write_hold (fun n h => (outsAt0 m c n h).2) 8 (fun t => k0_pay1 (iblk m c 1 t))
    (fun t h => by
      show (outsAt0 m c t.val t.isLt).2 = _
      rw [outsAt0_A m c t h]; frame_out)
    (fun t h => by
      show (outsAt0 m c t.val t.isLt).2 = _
      rw [outsAt0_B m c t h]; rfl) t

/-- What a grid point leaves in the output block. -/
theorem left (c : Dev nD) (t : Fin cfg0.N) :
    (outsAt0 m c t.val t.isLt).1
      = k0_pay2 (iblk m c 0 t) (k0_pay1 (iblk m c 1 (first t))) := by
  by_cases h : t.val % 8 = 0
  · have e : first t = t := Fin.ext (by show 8 * (t.val / 8) = t.val; omega)
    rw [outsAt0_A m c t h, e]; frame_out
  · have hp := held m c ⟨t.val - 1, Nat.lt_of_le_of_lt (Nat.sub_le _ _) t.isLt⟩
    have e : first ⟨t.val - 1, Nat.lt_of_le_of_lt (Nat.sub_le _ _) t.isLt⟩ = first t :=
      Fin.ext (by show 8 * ((t.val - 1) / 8) = 8 * (t.val / 8); omega)
    rw [e] at hp
    rw [outsAt0_B m c t h]; frame_out
    rw [hp]; simp only [read_unread_whole]

open Cert.ReferenceQfIdeal.Read

/-- An element of the weight window lies at the window's row offset, plus its own row … -/
theorem wblk_row (t : Fin cfg0.N) (y : S512x4096.Idx) :
    (((View.whole main_v1).slice (win0_1.rect t)).emb y 0).val = 6160 + 512 * (t.val / 8) + (y 0).val := by
  refine (Pipeline.Window.rect_emb_val_off win0_1 t y 0).trans ?_
  rw [(idx t).2.1]; rfl

/-- … and at its own column. -/
theorem wblk_col (t : Fin cfg0.N) (y : S512x4096.Idx) :
    (((View.whole main_v1).slice (win0_1.rect t)).emb y 1).val = (y 1).val := by
  refine (Pipeline.Window.rect_emb_val_off win0_1 t y 1).trans ?_
  rw [(idx t).2.1]; exact Nat.zero_add _

/-- The product of the two block reads that a grid point multiplies out, at one place of the output block. -/
theorem point (c : Dev nD) (t : Fin cfg0.N) (y : S1024x512.Idx) :
    k0_pay2 (F := Ideal) (iblk m c 0 t) (k0_pay1 (iblk m c 1 (first t))) y
      = val_main_v3 (F := Ideal) (m ((c : Thread nD τ).loc main_arg0)) (m ((c : Thread nD τ).loc main_arg1))
          (((cfg0.win 2).blk t).view.emb y) := by
  pointwise [k0_pay2, k0_pay1, val_main_v0, val_main_v1, val_main_v2, val_main_v3]
  refine Finset.sum_congr rfl fun k _ => ?_
  blk_point [iblk, V, idx t, idx (first t)]
  · exact wblk_col (first t) _
  · exact (wblk_row (first t) _).trans (by show 6160 + 512 * (8 * (t.val / 8) / 8) + (y 1).val = _; omega)

/-- The output array after the run. -/
theorem final (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2, left m c t]
  exact point m c t y

end Cert.KernelQfIdeal.Blocks

end
-- ==== Proof.ClaimsQf.lean ====
/-
The five claims about the recurrence's queries and gates.
-/
module

public import proofs.«01_k».proof.Defs
public import proofs.«01_k».proof.Proof.Qf
public import proofs.«01_k».proof.Proof.Gen.KernelQf.Frame
public import Idealize.ShloMosaic.Lib.Claim
public import Idealize.ShloMosaic.Lib.Quiescent

@[expose] public section

noncomputable section

namespace Cert.Proof.Qf

open Idealize.ShloMosaic Idealize.ShloMosaic.TcCoe Idealize.SL.Sem

theorem frame_p : Cert.quiescent_KernelQf := fun m ρ _ => Cert.KernelQf.Gen.frame m ρ

theorem frame_pi : Cert.quiescent_KernelQfIdeal := fun m ρ _ => Cert.KernelQfIdeal.Gen.frame m ρ

theorem frame_ri : Cert.quiescent_ReferenceQfIdeal := fun m ρ _ =>
  (θ_run Cert.ReferenceQfIdeal.defs _ _).mono (fun r h => ⟨fun c => (h c).2, sem_eq_zero_of_no_sems (by decide) r.2⟩)
    (Cert.ReferenceQfIdeal.Value.run (F := Ideal) m ρ)

theorem preserves : Cert.preserves_KernelQf_KernelQfIdeal := trivial

/-- The kernel's output array and the reference's result are one array, for any arguments. -/
theorem algebraic : Cert.algebraic_KernelQfIdeal_ReferenceQfIdeal := by
  intro m ρ m' ρ' _ hagree
  refine ⟨_, Cert.KernelQfIdeal.Value.run (F := Ideal) m ρ, ?_⟩
  refine (θ_run Cert.ReferenceQfIdeal.defs _ _).mono (fun _ h c => ⟨(h c).1.trans ?_, (h c).2⟩)
    (Cert.ReferenceQfIdeal.Value.run (F := Ideal) m' ρ')
  rw [(hagree c).1, (hagree c).2]
  exact (Cert.ReferenceQfIdeal.Read.val_main_v3_eq _ _).trans
    ((Cert.KernelQfIdeal.Blocks.final m c).symm.trans (Cert.KernelQfIdeal.Value.final2 m c))

end Cert.Proof.Qf

end
-- ==== Proof.I.lean ====
/-
The recurrence's inputs, projected, at the extended reals: what every grid point of the kernel leaves in its
output block, read back as an element of the reference's matrix product.
-/
module

public import proofs.«01_k».proof.Proof.Gen.KernelIIdeal.Value
public import proofs.«01_k».proof.Proof.Gen.ReferenceIIdeal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIIdeal.Blocks

open Cert.KernelIIdeal Cert.KernelIIdeal.Gen

variable (m : (ℓ : Loc nD τ sig) → Buf (Elt Ideal) ℓ)

/-- Where the blocks lie: eight row blocks of the activations for each block of 512 weight columns. -/
theorem idx : ∀ t : Fin cfg0.N, win0_0.index t = ![t.val % 8, 0] ∧ win0_1.index t = ![10256 + 512 * (t.val / 8), 0]
    ∧ win0_2.index t = ![t.val % 8, t.val / 8] ∧ t.val / 8 < 4 :=
  (by decide +kernel : ∀ t : Fin grid0.N, _)

/-- The first grid point of the run of eight that uses one block of weight columns. -/
abbrev first (t : Fin cfg0.N) : Fin cfg0.N := ⟨8 * (t.val / 8), Pipeline.run_start_lt t⟩

/-- The scratch keeps the weight block that the run's first point rounded into it. -/
theorem held (c : Dev nD) (t : Fin cfg0.N) :
    (outsAt0 m c t.val t.isLt).2 = k0_pay1 (iblk m c 1 (first t)) :=
  Pipeline.eq_of_write_hold (fun n h => (outsAt0 m c n h).2) 8 (fun t => k0_pay1 (iblk m c 1 t))
    (fun t h => by
      show (outsAt0 m c t.val t.isLt).2 = _
      rw [outsAt0_A m c t h]; frame_out)
    (fun t h => by
      show (outsAt0 m c t.val t.isLt).2 = _
      rw [outsAt0_B m c t h]; rfl) t

/-- What a grid point leaves in the output block. -/
theorem left (c : Dev nD) (t : Fin cfg0.N) :
    (outsAt0 m c t.val t.isLt).1
      = k0_pay2 (iblk m c 0 t) (k0_pay1 (iblk m c 1 (first t))) := by
  by_cases h : t.val % 8 = 0
  · have e : first t = t := Fin.ext (by show 8 * (t.val / 8) = t.val; omega)
    rw [outsAt0_A m c t h, e]; frame_out
  · have hp := held m c ⟨t.val - 1, Nat.lt_of_le_of_lt (Nat.sub_le _ _) t.isLt⟩
    have e : first ⟨t.val - 1, Nat.lt_of_le_of_lt (Nat.sub_le _ _) t.isLt⟩ = first t :=
      Fin.ext (by show 8 * ((t.val - 1) / 8) = 8 * (t.val / 8); omega)
    rw [e] at hp
    rw [outsAt0_B m c t h]; frame_out
    rw [hp]; simp only [read_unread_whole]

open Cert.ReferenceIIdeal.Read

/-- An element of the weight window lies at the window's row offset, plus its own row … -/
theorem wblk_row (t : Fin cfg0.N) (y : S512x4096.Idx) :
    (((View.whole main_v1).slice (win0_1.rect t)).emb y 0).val = 10256 + 512 * (t.val / 8) + (y 0).val := by
  refine (Pipeline.Window.rect_emb_val_off win0_1 t y 0).trans ?_
  rw [(idx t).2.1]; rfl

/-- … and at its own column. -/
theorem wblk_col (t : Fin cfg0.N) (y : S512x4096.Idx) :
    (((View.whole main_v1).slice (win0_1.rect t)).emb y 1).val = (y 1).val := by
  refine (Pipeline.Window.rect_emb_val_off win0_1 t y 1).trans ?_
  rw [(idx t).2.1]; exact Nat.zero_add _

/-- The product of the two block reads that a grid point multiplies out, at one place of the output block. -/
theorem point (c : Dev nD) (t : Fin cfg0.N) (y : S1024x512.Idx) :
    k0_pay2 (F := Ideal) (iblk m c 0 t) (k0_pay1 (iblk m c 1 (first t))) y
      = val_main_v4 (F := Ideal) (m ((c : Thread nD τ).loc main_arg0)) (m ((c : Thread nD τ).loc main_arg1))
          (((cfg0.win 2).blk t).view.emb y) := by
  pointwise [k0_pay2, k0_pay1, val_main_v0, val_main_v1, val_main_v2, val_main_v3, val_main_v4]
  refine Finset.sum_congr rfl fun k _ => ?_
  blk_point [iblk, V, idx t, idx (first t)]
  · exact wblk_col (first t) _
  · exact (wblk_row (first t) _).trans (by show 10256 + 512 * (8 * (t.val / 8) / 8) + (y 1).val = _; omega)

/-- The output array after the run. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2, left m c t]
  exact point m c t y

end Cert.KernelIIdeal.Blocks

end
-- ==== Proof.ClaimsI.lean ====
/-
The five claims about the recurrence's inputs.
-/
module

public import proofs.«01_k».proof.Defs
public import proofs.«01_k».proof.Proof.I
public import proofs.«01_k».proof.Proof.Gen.KernelI.Frame
public import Idealize.ShloMosaic.Lib.Claim
public import Idealize.ShloMosaic.Lib.Quiescent

@[expose] public section

noncomputable section

namespace Cert.Proof.I

open Idealize.ShloMosaic Idealize.ShloMosaic.TcCoe Idealize.SL.Sem

theorem frame_p : Cert.quiescent_KernelI := fun m ρ _ => Cert.KernelI.Gen.frame m ρ

theorem frame_pi : Cert.quiescent_KernelIIdeal := fun m ρ _ => Cert.KernelIIdeal.Gen.frame m ρ

theorem frame_ri : Cert.quiescent_ReferenceIIdeal := fun m ρ _ =>
  (θ_run Cert.ReferenceIIdeal.defs _ _).mono (fun r h => ⟨fun c => (h c).2, sem_eq_zero_of_no_sems (by decide) r.2⟩)
    (Cert.ReferenceIIdeal.Value.run (F := Ideal) m ρ)

theorem preserves : Cert.preserves_KernelI_KernelIIdeal := trivial

/-- The kernel's output array and the reference's result are one array, for any arguments. -/
theorem algebraic : Cert.algebraic_KernelIIdeal_ReferenceIIdeal := by
  intro m ρ m' ρ' _ hagree
  refine ⟨_, Cert.KernelIIdeal.Value.run (F := Ideal) m ρ, ?_⟩
  refine (θ_run Cert.ReferenceIIdeal.defs _ _).mono (fun _ h c => ⟨(h c).1.trans ?_, (h c).2⟩)
    (Cert.ReferenceIIdeal.Value.run (F := Ideal) m' ρ')
  rw [(hagree c).1, (hagree c).2]
  exact (Cert.ReferenceIIdeal.Read.val_main_v4_eq _ _).trans
    ((Cert.KernelIIdeal.Blocks.final m c).symm.trans (Cert.KernelIIdeal.Value.final2 m c))

end Cert.Proof.I

end
-- ==== Proof.G.lean ====
/-
The recurrence's output gates, projected, at the extended reals: what every grid point of the kernel leaves in its
output block, read back as an element of the reference's matrix product.
-/
module

public import proofs.«01_k».proof.Proof.Gen.KernelGIdeal.Value
public import proofs.«01_k».proof.Proof.Gen.ReferenceGIdeal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelGIdeal.Blocks

open Cert.KernelGIdeal Cert.KernelGIdeal.Gen

variable (m : (ℓ : Loc nD τ sig) → Buf (Elt Ideal) ℓ)

/-- Where the blocks lie: eight row blocks of the activations for each block of 512 weight columns. -/
theorem idx : ∀ t : Fin cfg0.N, win0_0.index t = ![t.val % 8, 0] ∧ win0_1.index t = ![12304 + 512 * (t.val / 8), 0]
    ∧ win0_2.index t = ![t.val % 8, t.val / 8] ∧ t.val / 8 < 4 :=
  (by decide +kernel : ∀ t : Fin grid0.N, _)

/-- The first grid point of the run of eight that uses one block of weight columns. -/
abbrev first (t : Fin cfg0.N) : Fin cfg0.N := ⟨8 * (t.val / 8), Pipeline.run_start_lt t⟩

/-- The scratch keeps the weight block that the run's first point rounded into it. -/
theorem held (c : Dev nD) (t : Fin cfg0.N) :
    (outsAt0 m c t.val t.isLt).2 = k0_pay1 (iblk m c 1 (first t)) :=
  Pipeline.eq_of_write_hold (fun n h => (outsAt0 m c n h).2) 8 (fun t => k0_pay1 (iblk m c 1 t))
    (fun t h => by
      show (outsAt0 m c t.val t.isLt).2 = _
      rw [outsAt0_A m c t h]; frame_out)
    (fun t h => by
      show (outsAt0 m c t.val t.isLt).2 = _
      rw [outsAt0_B m c t h]; rfl) t

/-- What a grid point leaves in the output block. -/
theorem left (c : Dev nD) (t : Fin cfg0.N) :
    (outsAt0 m c t.val t.isLt).1
      = k0_pay2 (iblk m c 0 t) (k0_pay1 (iblk m c 1 (first t))) := by
  by_cases h : t.val % 8 = 0
  · have e : first t = t := Fin.ext (by show 8 * (t.val / 8) = t.val; omega)
    rw [outsAt0_A m c t h, e]; frame_out
  · have hp := held m c ⟨t.val - 1, Nat.lt_of_le_of_lt (Nat.sub_le _ _) t.isLt⟩
    have e : first ⟨t.val - 1, Nat.lt_of_le_of_lt (Nat.sub_le _ _) t.isLt⟩ = first t :=
      Fin.ext (by show 8 * ((t.val - 1) / 8) = 8 * (t.val / 8); omega)
    rw [e] at hp
    rw [outsAt0_B m c t h]; frame_out
    rw [hp]; simp only [read_unread_whole]

open Cert.ReferenceGIdeal.Read

/-- An element of the weight window lies at the window's row offset, plus its own row … -/
theorem wblk_row (t : Fin cfg0.N) (y : S512x4096.Idx) :
    (((View.whole main_v1).slice (win0_1.rect t)).emb y 0).val = 12304 + 512 * (t.val / 8) + (y 0).val := by
  refine (Pipeline.Window.rect_emb_val_off win0_1 t y 0).trans ?_
  rw [(idx t).2.1]; rfl

/-- … and at its own column. -/
theorem wblk_col (t : Fin cfg0.N) (y : S512x4096.Idx) :
    (((View.whole main_v1).slice (win0_1.rect t)).emb y 1).val = (y 1).val := by
  refine (Pipeline.Window.rect_emb_val_off win0_1 t y 1).trans ?_
  rw [(idx t).2.1]; exact Nat.zero_add _

/-- The product of the two block reads that a grid point multiplies out, at one place of the output block. -/
theorem point (c : Dev nD) (t : Fin cfg0.N) (y : S1024x512.Idx) :
    k0_pay2 (F := Ideal) (iblk m c 0 t) (k0_pay1 (iblk m c 1 (first t))) y
      = val_main_v3 (F := Ideal) (m ((c : Thread nD τ).loc main_arg0)) (m ((c : Thread nD τ).loc main_arg1))
          (((cfg0.win 2).blk t).view.emb y) := by
  pointwise [k0_pay2, k0_pay1, val_main_v0, val_main_v1, val_main_v2, val_main_v3]
  refine Finset.sum_congr rfl fun k _ => ?_
  blk_point [iblk, V, idx t, idx (first t)]
  · exact wblk_col (first t) _
  · exact (wblk_row (first t) _).trans (by show 12304 + 512 * (8 * (t.val / 8) / 8) + (y 1).val = _; omega)

/-- The output array after the run. -/
theorem final (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2, left m c t]
  exact point m c t y

end Cert.KernelGIdeal.Blocks

end
-- ==== Proof.ClaimsG.lean ====
/-
The five claims about the recurrence's output gates.
-/
module

public import proofs.«01_k».proof.Defs
public import proofs.«01_k».proof.Proof.G
public import proofs.«01_k».proof.Proof.Gen.KernelG.Frame
public import Idealize.ShloMosaic.Lib.Claim
public import Idealize.ShloMosaic.Lib.Quiescent

@[expose] public section

noncomputable section

namespace Cert.Proof.G

open Idealize.ShloMosaic Idealize.ShloMosaic.TcCoe Idealize.SL.Sem

theorem frame_p : Cert.quiescent_KernelG := fun m ρ _ => Cert.KernelG.Gen.frame m ρ

theorem frame_pi : Cert.quiescent_KernelGIdeal := fun m ρ _ => Cert.KernelGIdeal.Gen.frame m ρ

theorem frame_ri : Cert.quiescent_ReferenceGIdeal := fun m ρ _ =>
  (θ_run Cert.ReferenceGIdeal.defs _ _).mono (fun r h => ⟨fun c => (h c).2, sem_eq_zero_of_no_sems (by decide) r.2⟩)
    (Cert.ReferenceGIdeal.Value.run (F := Ideal) m ρ)

theorem preserves : Cert.preserves_KernelG_KernelGIdeal := trivial

/-- The kernel's output array and the reference's result are one array, for any arguments. -/
theorem algebraic : Cert.algebraic_KernelGIdeal_ReferenceGIdeal := by
  intro m ρ m' ρ' _ hagree
  refine ⟨_, Cert.KernelGIdeal.Value.run (F := Ideal) m ρ, ?_⟩
  refine (θ_run Cert.ReferenceGIdeal.defs _ _).mono (fun _ h c => ⟨(h c).1.trans ?_, (h c).2⟩)
    (Cert.ReferenceGIdeal.Value.run (F := Ideal) m' ρ')
  rw [(hagree c).1, (hagree c).2]
  exact (Cert.ReferenceGIdeal.Read.val_main_v3_eq _ _).trans
    ((Cert.KernelGIdeal.Blocks.final m c).symm.trans (Cert.KernelGIdeal.Value.final2 m c))

end Cert.Proof.G

end
-- ==== Proof.Down.lean ====
/-
The channel mixer's down projection at the extended reals: each grid point leaves the residual block plus the
gate times one block of the matrix product.
-/
module

public import proofs.«01_k».proof.Proof.Gen.KernelDownIdeal.Value
public import proofs.«01_k».proof.Proof.Gen.ReferenceDownIdeal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelDownIdeal.Blocks

open Cert.KernelDownIdeal Cert.KernelDownIdeal.Gen Cert.ReferenceDownIdeal.Read

variable (m : (ℓ : Loc nD τ sig) → Buf (Elt Ideal) ℓ)

/-- Where the blocks lie: eight column blocks of the weight for each block of 512 rows of the activations. -/
theorem idx : ∀ t : Fin cfg0.N, win0_0.index t = ![t.val / 8, 0] ∧ win0_1.index t = ![0, t.val % 8]
    ∧ win0_2.index t = ![t.val / 8, t.val % 8] ∧ win0_3.index t = ![0, t.val % 8]
    ∧ win0_4.index t = ![t.val / 8, t.val % 8] ∧ t.val / 8 < 16 :=
  (by decide +kernel : ∀ t : Fin grid0.N, _)

/-- One element of the block a grid point leaves is the reference's element there. -/
theorem point (c : Dev nD) (t : Fin cfg0.N) (y : S512x512.Idx) :
    k0_pay1 (F := Ideal) (iblk m c 0 t) (iblk m c 1 t) (iblk m c 2 t) (iblk m c 3 t) y
      = val_main_v5 (F := Ideal) (m ((c : Thread nD τ).loc main_arg0)) (m ((c : Thread nD τ).loc main_arg1)) (m ((c : Thread nD τ).loc main_arg2)) (m ((c : Thread nD τ).loc main_arg3))
          (((cfg0.win 4).blk t).view.emb y) := by
  pointwise [k0_pay1, val_main_v0, val_main_v1, val_main_v2, val_main_v3, val_main_v4, val_main_v5]
  blk_point [iblk, V, idx t]

/-- The output array after the run. -/
theorem final (c : Dev nD) : (dats m 0 c).arrAt 4 (cfgs 0).N
    = val_main_v5 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.KernelDownIdeal.Blocks

end
-- ==== Proof.ClaimsDown.lean ====
/-
The five claims about the channel mixer's down projection.
-/
module

public import proofs.«01_k».proof.Defs
public import proofs.«01_k».proof.Proof.Down
public import proofs.«01_k».proof.Proof.Gen.KernelDown.Frame
public import Idealize.ShloMosaic.Lib.Claim
public import Idealize.ShloMosaic.Lib.Quiescent

@[expose] public section

noncomputable section

namespace Cert.Proof.Down

open Idealize.ShloMosaic Idealize.ShloMosaic.TcCoe Idealize.SL.Sem

theorem frame_p : Cert.quiescent_KernelDown := fun m ρ _ => Cert.KernelDown.Gen.frame m ρ

theorem frame_pi : Cert.quiescent_KernelDownIdeal := fun m ρ _ => Cert.KernelDownIdeal.Gen.frame m ρ

theorem frame_ri : Cert.quiescent_ReferenceDownIdeal := fun m ρ _ =>
  (θ_run Cert.ReferenceDownIdeal.defs _ _).mono (fun r h => ⟨fun c => (h c).2, sem_eq_zero_of_no_sems (by decide) r.2⟩)
    (Cert.ReferenceDownIdeal.Value.run (F := Ideal) m ρ)

theorem preserves : Cert.preserves_KernelDown_KernelDownIdeal := trivial

/-- The kernel's output array and the reference's result are one array, for any arguments. -/
theorem algebraic : Cert.algebraic_KernelDownIdeal_ReferenceDownIdeal := by
  intro m ρ m' ρ' _ hagree
  refine ⟨_, Cert.KernelDownIdeal.Value.run_blocks (F := Ideal) m ρ, ?_⟩
  refine (θ_run Cert.ReferenceDownIdeal.defs _ _).mono (fun _ h c => ⟨(h c).1.trans ?_, (h c).2⟩)
    (Cert.ReferenceDownIdeal.Value.run (F := Ideal) m' ρ')
  rw [(hagree c).1, (hagree c).2.1, (hagree c).2.2.1, (hagree c).2.2.2]
  exact (Cert.ReferenceDownIdeal.Read.val_main_v5_eq _ _ _ _).trans
    (Cert.KernelDownIdeal.Blocks.final m c).symm

end Cert.Proof.Down

end
-- ==== Proof.Out.lean ====
/-
The output projection at the extended reals: the residual block plus the gate times the sum of two matrix products,
one with the rows of the weight that meet the softmax half, one with those that meet the recurrence's half.
-/
module

public import proofs.«01_k».proof.Proof.Gen.KernelOutIdeal.Value
public import proofs.«01_k».proof.Proof.Gen.ReferenceOutIdeal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelOutIdeal.Blocks

open Cert.KernelOutIdeal Cert.KernelOutIdeal.Gen Cert.ReferenceOutIdeal.Read

variable (m : (ℓ : Loc nD τ sig) → Buf (Elt Ideal) ℓ)

/-- Where the blocks lie: eight row blocks of the activations for each block of 512 weight columns. -/
theorem idx : ∀ t : Fin cfg0.N, win0_0.index t = ![t.val % 8, 0] ∧ win0_1.index t = ![t.val % 8, 0]
    ∧ win0_2.index t = ![0, t.val / 8] ∧ win0_3.index t = ![t.val % 8, t.val / 8]
    ∧ win0_4.index t = ![0, t.val / 8] ∧ win0_5.index t = ![t.val % 8, t.val / 8] ∧ t.val / 8 < 8 :=
  (by decide +kernel : ∀ t : Fin grid0.N, _)

/-- The first grid point of the run of eight that uses one block of weight columns. -/
abbrev first (t : Fin cfg0.N) : Fin cfg0.N := ⟨8 * (t.val / 8), Pipeline.run_start_lt t⟩

/-- The scratch keeps the weight block that the run's first point rounded into it. -/
theorem held (c : Dev nD) (t : Fin cfg0.N) :
    (outsAt0 m c t.val t.isLt).2 = k0_pay1 (iblk m c 2 (first t)) :=
  Pipeline.eq_of_write_hold (fun n h => (outsAt0 m c n h).2) 8 (fun t => k0_pay1 (iblk m c 2 t))
    (fun t h => by
      show (outsAt0 m c t.val t.isLt).2 = _
      rw [outsAt0_A m c t h]; frame_out)
    (fun t h => by
      show (outsAt0 m c t.val t.isLt).2 = _
      rw [outsAt0_B m c t h]; rfl) t

/-- The rows of the weight block that meet the softmax half … -/
abbrev top : Rect S4096x512 := Rect.unit (s := S4096x512) ![0, 0] ![2048, 512] inb_S4096x512_S2048x512_0_0

/-- … and those that meet the recurrence's half. -/
abbrev bottom : Rect S4096x512 := Rect.unit (s := S4096x512) ![2048, 0] ![2048, 512] inb_S4096x512_S2048x512_2048_0

/-- What a grid point leaves in the output block. -/
theorem left (c : Dev nD) (t : Fin cfg0.N) :
    (outsAt0 m c t.val t.isLt).1 = k0_pay2 (iblk m c 0 t) (View.ld (k0_pay1 (iblk m c 2 (first t))) top) (iblk m c 1 t)
      (View.ld (k0_pay1 (iblk m c 2 (first t))) bottom) (iblk m c 3 t) (iblk m c 4 t) := by
  by_cases h : t.val % 8 = 0
  · have e : first t = t := Fin.ext (by show 8 * (t.val / 8) = t.val; omega)
    rw [outsAt0_A m c t h, e]; frame_out
    refine congrArg₂ (fun a b => k0_pay2 (iblk m c 0 t) a (iblk m c 1 t) b (iblk m c 3 t) (iblk m c 4 t))
      (View.readCov_fill (s := S4096x512) _ inb_S4096x512_S4096x512_0_0 _ _ top (by decide))
      (View.readCov_fill (s := S4096x512) _ inb_S4096x512_S4096x512_0_0 _ _ bottom (by decide))
  · have hp := held m c ⟨t.val - 1, Nat.lt_of_le_of_lt (Nat.sub_le _ _) t.isLt⟩
    have e : first ⟨t.val - 1, Nat.lt_of_le_of_lt (Nat.sub_le _ _) t.isLt⟩ = first t :=
      Fin.ext (by show 8 * ((t.val - 1) / 8) = 8 * (t.val / 8); omega)
    rw [e] at hp
    rw [outsAt0_B m c t h]; frame_out
    rw [hp]; simp only [read_unread_whole]

/-- One element of the block a grid point leaves is the reference's element there. -/
theorem point (c : Dev nD) (t : Fin cfg0.N) (y : S1024x512.Idx) :
    k0_pay2 (F := Ideal) (iblk m c 0 t) (View.ld (k0_pay1 (iblk m c 2 (first t))) top) (iblk m c 1 t)
      (View.ld (k0_pay1 (iblk m c 2 (first t))) bottom) (iblk m c 3 t) (iblk m c 4 t) y
      = val_main_v6 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 5).blk t).view.emb y) := by
  pointwise [k0_pay2, k0_pay1, val_main_v0, val_main_v1, val_main_v2, val_main_v3, val_main_v4, val_main_v5, val_main_v6]
  blk_point [iblk, V, idx t, idx (first t)]
  trace_state

/-- The output array after the run. -/
theorem final (c : Dev nD) : (dats m 0 c).arrAt 5 (cfgs 0).N
    = val_main_v6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, left m c t]
  exact point m c t y

end Cert.KernelOutIdeal.Blocks

end
-- ==== Proof.ClaimsOut.lean ====
/-
The five claims about the output projection.
-/
module

public import proofs.«01_k».proof.Defs
public import proofs.«01_k».proof.Proof.Out
public import proofs.«01_k».proof.Proof.Gen.KernelOut.Frame
public import Idealize.ShloMosaic.Lib.Claim
public import Idealize.ShloMosaic.Lib.Quiescent

@[expose] public section

noncomputable section

namespace Cert.Proof.Out

open Idealize.ShloMosaic Idealize.ShloMosaic.TcCoe Idealize.SL.Sem

theorem frame_p : Cert.quiescent_KernelOut := fun m ρ _ => Cert.KernelOut.Gen.frame m ρ

theorem frame_pi : Cert.quiescent_KernelOutIdeal := fun m ρ _ => Cert.KernelOutIdeal.Gen.frame m ρ

theorem frame_ri : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

theorem preserves : Cert.preserves_KernelOut_KernelOutIdeal := trivial

/-- The kernel's output array and the reference's result are one array, for any arguments. -/
theorem algebraic : Cert.algebraic_KernelOutIdeal_ReferenceOutIdeal := by
  intro m ρ m' ρ' _ hagree
  refine ⟨_, Cert.KernelOutIdeal.Value.run (F := Ideal) m ρ, ?_⟩
  refine (θ_run Cert.ReferenceOutIdeal.defs _ _).mono (fun _ h c => ⟨(h c).1.trans ?_, (h c).2⟩)
    (Cert.ReferenceOutIdeal.Value.run (F := Ideal) m' ρ')
  rw [(hagree c).1, (hagree c).2.1, (hagree c).2.2.1, (hagree c).2.2.2.1, (hagree c).2.2.2.2]
  exact (Cert.ReferenceOutIdeal.Read.val_main_v6_eq _ _ _ _ _).trans
    ((Cert.KernelOutIdeal.Blocks.final m c).symm.trans (Cert.KernelOutIdeal.Value.final5 m c))

end Cert.Proof.Out

end
-- ==== Proof.Norm.lean ====
/-
The channel mixer's normed and modulated activations at the extended reals.
-/
module

public import proofs.«01_k».proof.Proof.Gen.KernelNormIdeal.Value
public import proofs.«01_k».proof.Proof.Gen.ReferenceNormIdeal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelNormIdeal.Blocks

open Cert.KernelNormIdeal Cert.KernelNormIdeal.Gen Cert.ReferenceNormIdeal.Read

variable (m : (ℓ : Loc nD τ sig) → Buf (Elt Ideal) ℓ)

/-- Where the blocks lie: 32 blocks of 256 rows; the vectors are read whole. -/
theorem idx : ∀ t : Fin cfg0.N, win0_0.index t = ![t.val, 0] ∧ win0_1.index t = ![0, 0]
    ∧ win0_2.index t = ![0, 0] ∧ win0_3.index t = ![0, 0]
    ∧ win0_4.index t = ![t.val, 0] ∧ t.val < 32 :=
  (by decide +kernel : ∀ t : Fin grid0.N, _)

/-- One element of the block a grid point leaves is the reference's element there. -/
theorem point (c : Dev nD) (t : Fin cfg0.N) (y : S256x4096.Idx) :
    k0_pay1 (F := Ideal) (iblk m c 0 t) (iblk m c 1 t) (iblk m c 2 t) (iblk m c 3 t) y
      = val_main_v20 (F := Ideal) (m ((c : Thread nD τ).loc main_arg0)) (m ((c : Thread nD τ).loc main_arg1)) (m ((c : Thread nD τ).loc main_arg2)) (m ((c : Thread nD τ).loc main_arg3))
          (((cfg0.win 4).blk t).view.emb y) := by
  pointwise [k0_pay1, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_cst_2, val_main_v14, val_main_v15, val_main_v16, val_main_v17, val_main_v18, val_main_v19, val_main_v20]
  blk_point [iblk, V, idx t]

/-- The output array after the run. -/
theorem final (c : Dev nD) : (dats m 0 c).arrAt 4 (cfgs 0).N
    = val_main_v20 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.KernelNormIdeal.Blocks

end
-- ==== Proof.ClaimsNorm.lean ====
/-
The five claims about the channel mixer's norm.
-/
module

public import proofs.«01_k».proof.Defs
public import proofs.«01_k».proof.Proof.Norm
public import proofs.«01_k».proof.Proof.Gen.KernelNorm.Frame
public import Idealize.ShloMosaic.Lib.Claim
public import Idealize.ShloMosaic.Lib.Quiescent

@[expose] public section

noncomputable section

namespace Cert.Proof.Norm

open Idealize.ShloMosaic Idealize.ShloMosaic.TcCoe Idealize.SL.Sem

theorem frame_p : Cert.quiescent_KernelNorm := fun m ρ _ => Cert.KernelNorm.Gen.frame m ρ

theorem frame_pi : Cert.quiescent_KernelNormIdeal := fun m ρ _ => Cert.KernelNormIdeal.Gen.frame m ρ

theorem frame_ri : Cert.quiescent_ReferenceNormIdeal := fun m ρ _ =>
  (θ_run Cert.ReferenceNormIdeal.defs _ _).mono (fun r h => ⟨fun c => (h c).2, sem_eq_zero_of_no_sems (by decide) r.2⟩)
    (Cert.ReferenceNormIdeal.Value.run (F := Ideal) m ρ)

theorem preserves : Cert.preserves_KernelNorm_KernelNormIdeal := trivial

/-- The kernel's output array and the reference's result are one array, for any arguments. -/
theorem algebraic : Cert.algebraic_KernelNormIdeal_ReferenceNormIdeal := by
  intro m ρ m' ρ' _ hagree
  refine ⟨_, Cert.KernelNormIdeal.Value.run_blocks (F := Ideal) m ρ, ?_⟩
  refine (θ_run Cert.ReferenceNormIdeal.defs _ _).mono (fun _ h c => ⟨(h c).1.trans ?_, (h c).2⟩)
    (Cert.ReferenceNormIdeal.Value.run (F := Ideal) m' ρ')
  rw [(hagree c).1, (hagree c).2.1, (hagree c).2.2.1, (hagree c).2.2.2]
  exact (Cert.ReferenceNormIdeal.Read.val_main_v20_eq _ _ _ _).trans
    (Cert.KernelNormIdeal.Blocks.final m c).symm

end Cert.Proof.Norm

end
-- ==== Proof.Final.lean ====
/-
The layer's last norm at the extended reals.
-/
module

public import proofs.«01_k».proof.Proof.Gen.KernelFinalIdeal.Value
public import proofs.«01_k».proof.Proof.Gen.ReferenceFinalIdeal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelFinalIdeal.Blocks

open Cert.KernelFinalIdeal Cert.KernelFinalIdeal.Gen Cert.ReferenceFinalIdeal.Read

variable (m : (ℓ : Loc nD τ sig) → Buf (Elt Ideal) ℓ)

/-- Where the blocks lie: 32 blocks of 256 rows; the gain is read whole. -/
theorem idx : ∀ t : Fin cfg0.N, win0_0.index t = ![t.val, 0] ∧ win0_1.index t = ![0, 0]
    ∧ win0_2.index t = ![t.val, 0] ∧ t.val < 32 :=
  (by decide +kernel : ∀ t : Fin grid0.N, _)

/-- One element of the block a grid point leaves is the reference's element there. -/
theorem point (c : Dev nD) (t : Fin cfg0.N) (y : S256x4096.Idx) :
    k0_pay1 (F := Ideal) (iblk m c 0 t) (iblk m c 1 t) y
      = val_main_v12 (F := Ideal) (m ((c : Thread nD τ).loc main_arg0)) (m ((c : Thread nD τ).loc main_arg1))
          (((cfg0.win 2).blk t).view.emb y) := by
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12]
  blk_point [iblk, V, idx t]

/-- The output array after the run. -/
theorem final (c : Dev nD) : (dats m 0 c).arrAt 2 (cfgs 0).N
    = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.KernelFinalIdeal.Blocks

end
-- ==== Proof.ClaimsFinal.lean ====
/-
The five claims about the last norm.
-/
module

public import proofs.«01_k».proof.Defs
public import proofs.«01_k».proof.Proof.Final
public import proofs.«01_k».proof.Proof.Gen.KernelFinal.Frame
public import Idealize.ShloMosaic.Lib.Claim
public import Idealize.ShloMosaic.Lib.Quiescent

@[expose] public section

noncomputable section

namespace Cert.Proof.Final

open Idealize.ShloMosaic Idealize.ShloMosaic.TcCoe Idealize.SL.Sem

theorem frame_p : Cert.quiescent_KernelFinal := fun m ρ _ => Cert.KernelFinal.Gen.frame m ρ

theorem frame_pi : Cert.quiescent_KernelFinalIdeal := fun m ρ _ => Cert.KernelFinalIdeal.Gen.frame m ρ

theorem frame_ri : Cert.quiescent_ReferenceFinalIdeal := fun m ρ _ =>
  (θ_run Cert.ReferenceFinalIdeal.defs _ _).mono (fun r h => ⟨fun c => (h c).2, sem_eq_zero_of_no_sems (by decide) r.2⟩)
    (Cert.ReferenceFinalIdeal.Value.run (F := Ideal) m ρ)

theorem preserves : Cert.preserves_KernelFinal_KernelFinalIdeal := trivial

/-- The kernel's output array and the reference's result are one array, for any arguments. -/
theorem algebraic : Cert.algebraic_KernelFinalIdeal_ReferenceFinalIdeal := by
  intro m ρ m' ρ' _ hagree
  refine ⟨_, Cert.KernelFinalIdeal.Value.run_blocks (F := Ideal) m ρ, ?_⟩
  refine (θ_run Cert.ReferenceFinalIdeal.defs _ _).mono (fun _ h c => ⟨(h c).1.trans ?_, (h c).2⟩)
    (Cert.ReferenceFinalIdeal.Value.run (F := Ideal) m' ρ')
  rw [(hagree c).1, (hagree c).2]
  exact (Cert.ReferenceFinalIdeal.Read.val_main_v12_eq _ _).trans
    (Cert.KernelFinalIdeal.Blocks.final m c).symm

end Cert.Proof.Final

end
-- ==== Proof.Ada.lean ====
/-
The conditioning vector's shifts, scales and gates at the extended reals.
-/
module

public import proofs.«01_k».proof.Proof.Gen.KernelAdaIdeal.Value
public import proofs.«01_k».proof.Proof.Gen.ReferenceAdaIdeal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelAdaIdeal.Blocks

open Cert.KernelAdaIdeal Cert.KernelAdaIdeal.Gen Cert.ReferenceAdaIdeal.Read

variable (m : (ℓ : Loc nD τ sig) → Buf (Elt Ideal) ℓ)

/-- Where the blocks lie: the conditioning vector is read whole, the weight and the bias by blocks of 512 columns. -/
theorem idx : ∀ t : Fin cfg0.N, win0_0.index t = ![0, 0] ∧ win0_1.index t = ![0, t.val]
    ∧ win0_2.index t = ![0, t.val] ∧ win0_3.index t = ![0, t.val] ∧ t.val < 48 :=
  (by decide +kernel : ∀ t : Fin grid0.N, _)

/-- The grid's first point. -/
abbrev first (t : Fin cfg0.N) : Fin cfg0.N := ⟨48 * (t.val / 48), Pipeline.run_start_lt t⟩

theorem held (c : Dev nD) (t : Fin cfg0.N) :
    (outsAt0 m c t.val t.isLt).2 = k0_pay3 (iblk m c 0 (first t)) :=
  Pipeline.eq_of_write_hold (fun n h => (outsAt0 m c n h).2) 48 (fun t => k0_pay3 (iblk m c 0 t))
    (fun t h => by
      show (outsAt0 m c t.val t.isLt).2 = _
      rw [outsAt0_A m c t h]; frame_out)
    (fun t h => by
      show (outsAt0 m c t.val t.isLt).2 = _
      rw [outsAt0_B m c t h]; rfl) t

/-- What a grid point's four stores of 128 columns leave, at one column: the reference's element there. -/
theorem point (c : Dev nD) (t : Fin cfg0.N) (A : Vec Ideal S4096x128 .f32) (hA : A = k0_pay3 (iblk m c 0 (first t)))
    (y : S1x512.Idx) :
    View.canon (Val := Elt Ideal) (s := S1x512) (e := .f32)
      [⟨Rect.unit ![0, 384] ![1, 128] inb_S1x512_S1x128_0_384,
          k0_pay2 (View.ld (iblk m c 1 t) (Rect.unit ![0, 384] ![4096, 128] inb_S4096x512_S4096x128_0_384))
            A (View.ld (iblk m c 2 t) (Rect.unit ![0, 384] ![1, 128] inb_S1x512_S1x128_0_384))⟩,
        ⟨Rect.unit ![0, 256] ![1, 128] inb_S1x512_S1x128_0_256,
          k0_pay1
            (k0_pay6 (View.ld (iblk m c 1 t) (Rect.unit ![0, 256] ![4096, 128] inb_S4096x512_S4096x128_0_256)) A)
            (View.ld (iblk m c 2 t) (Rect.unit ![0, 256] ![1, 128] inb_S1x512_S1x128_0_256))⟩,
        ⟨Rect.unit ![0, 128] ![1, 128] inb_S1x512_S1x128_0_128,
          k0_pay5 (View.ld (iblk m c 1 t) (Rect.unit ![0, 128] ![4096, 128] inb_S4096x512_S4096x128_0_128))
            A (View.ld (iblk m c 2 t) (Rect.unit ![0, 128] ![1, 128] inb_S1x512_S1x128_0_128))⟩,
        ⟨Rect.unit ![0, 0] ![1, 128] inb_S1x512_S1x128_0_0,
          k0_pay4 (View.ld (iblk m c 1 t) (Rect.unit ![0, 0] ![4096, 128] inb_S4096x512_S4096x128_0_0))
            A (View.ld (iblk m c 2 t) (Rect.unit ![0, 0] ![1, 128] inb_S1x512_S1x128_0_0))⟩] y
      = val_main_v5 (F := Ideal) (m ((c : Thread nD τ).loc main_arg0)) (m ((c : Thread nD τ).loc main_arg1)) (m ((c : Thread nD τ).loc main_arg2))
          (((cfg0.win 3).blk t).view.emb y) := by
  subst hA
  canon_tiles x h
  all_goals pointwise [k0_pay1, k0_pay2, k0_pay3, k0_pay4, k0_pay5, k0_pay6, Ideal.logistic, val_main_call0_v0, val_main_call0_v1, val_main_call0_cst, val_main_call0_v2, val_main_call0_v3, val_main_call0_cst_0, val_main_call0_v4, val_main_call0_v5, val_main_v0, val_main_v1, val_main_v2, val_main_v3, val_main_v4, val_main_v5]
  all_goals
    refine congrArg₂ (fun a b : EReal => a + b) (Finset.sum_congr rfl fun k _ => (mul_comm (_ : EReal) _).trans ?_) ?_
    · blk_point [iblk, V, idx t, idx (first t)]
    · blk_point [iblk, V, idx t, idx (first t)]
  trace_state

/-- What a grid point leaves in the output block, at one column. -/
theorem left (c : Dev nD) (t : Fin cfg0.N) (y : S1x512.Idx) :
    (outsAt0 m c t.val t.isLt).1 y = val_main_v5 (F := Ideal) (m ((c : Thread nD τ).loc main_arg0)) (m ((c : Thread nD τ).loc main_arg1)) (m ((c : Thread nD τ).loc main_arg2))
          (((cfg0.win 3).blk t).view.emb y) := by
  by_cases h : t.val % 48 = 0
  · have e : first t = t := Fin.ext (by show 48 * (t.val / 48) = t.val; omega)
    rw [outsAt0_A m c t h]; frame_out
    exact point m c t _ (by rw [e]) y
  · have hp := held m c ⟨t.val - 1, Nat.lt_of_le_of_lt (Nat.sub_le _ _) t.isLt⟩
    have e : first ⟨t.val - 1, Nat.lt_of_le_of_lt (Nat.sub_le _ _) t.isLt⟩ = first t :=
      Fin.ext (by show 48 * ((t.val - 1) / 48) = 48 * (t.val / 48); omega)
    rw [e] at hp
    rw [outsAt0_B m c t h]; frame_out
    rw [hp]; simp only [read_unread_whole]
    exact point m c t _ rfl y

/-- The output array after the run. -/
theorem final (c : Dev nD) : (dats m 0 c).arrAt 3 (cfgs 0).N
    = val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact left m c t y

end Cert.KernelAdaIdeal.Blocks

end
-- ==== Proof.ClaimsAda.lean ====
/-
The five claims about the conditioning vector's modulation.
-/
module

public import proofs.«01_k».proof.Defs
public import proofs.«01_k».proof.Proof.Ada
public import proofs.«01_k».proof.Proof.Gen.KernelAda.Frame
public import Idealize.ShloMosaic.Lib.Claim
public import Idealize.ShloMosaic.Lib.Quiescent

@[expose] public section

noncomputable section

namespace Cert.Proof.Ada

open Idealize.ShloMosaic Idealize.ShloMosaic.TcCoe Idealize.SL.Sem

theorem frame_p : Cert.quiescent_KernelAda := fun m ρ _ => Cert.KernelAda.Gen.frame m ρ

theorem frame_pi : Cert.quiescent_KernelAdaIdeal := fun m ρ _ => Cert.KernelAdaIdeal.Gen.frame m ρ

theorem frame_ri : Cert.quiescent_ReferenceAdaIdeal := fun m ρ _ =>
  (θ_run Cert.ReferenceAdaIdeal.defs _ _).mono (fun r h => ⟨fun c => (h c).2, sem_eq_zero_of_no_sems (by decide) r.2⟩)
    (Cert.ReferenceAdaIdeal.Value.run (F := Ideal) m ρ)

theorem preserves : Cert.preserves_KernelAda_KernelAdaIdeal := trivial

/-- The kernel's output array and the reference's result are one array, for any arguments. -/
theorem algebraic : Cert.algebraic_KernelAdaIdeal_ReferenceAdaIdeal := by
  intro m ρ m' ρ' _ hagree
  refine ⟨_, Cert.KernelAdaIdeal.Value.run (F := Ideal) m ρ, ?_⟩
  refine (θ_run Cert.ReferenceAdaIdeal.defs _ _).mono (fun _ h c => ⟨(h c).1.trans ?_, (h c).2⟩)
    (Cert.ReferenceAdaIdeal.Value.run (F := Ideal) m' ρ')
  rw [(hagree c).1, (hagree c).2.1, (hagree c).2.2]
  exact (Cert.ReferenceAdaIdeal.Read.val_main_v5_eq _ _ _).trans
    ((Cert.KernelAdaIdeal.Blocks.final m c).symm.trans (Cert.KernelAdaIdeal.Value.final3 m c))

end Cert.Proof.Ada

end
-- ==== Proof.UpDefs.lean ====
/-
The up projection with the gate's convolution: what one grid point leaves, as plain functions of what it finds.
-/
module

public import proofs.«01_k».proof.Proof.Gen.KernelUpIdeal.Frame
public import proofs.«01_k».proof.Proof.Gen.KernelUpIdeal.Skeleton
public import Idealize.ShloMosaic.Lib.WritesUnit
public import Idealize.ShloMosaic.Lib.Pipeline.ValueKit

@[expose] public section

set_option maxRecDepth 16384

noncomputable section

namespace Cert.KernelUpIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelUpIdeal.Gen

variable {F : FTy → Type} [FloatOps F]

local notation "𝕄" => MT nD τ sig Unit (Elt F) ℕ (UR sig nD τ) ℕ

/-- The three-tap convolution of column `j` at row `r`, over slot `p` of the held rows: rows `r + 6` to `r + 8`. -/
def conv (W : Vec F S3x256 .f32) (B : Vec F S1x256 .f32) (U : Vec F S2x1032x256 .f32) (p : Fin 2) (r : Fin 1024)
    (j : Fin 256) : F .f32 :=
  FloatOps.addf (FloatOps.addf (FloatOps.addf (B (ix2 0 j)) (FloatOps.mulf (W (ix2 0 j)) (U (ix3 p ⟨r.val + 6, by omega⟩ j))))
    (FloatOps.mulf (W (ix2 1 j)) (U (ix3 p ⟨r.val + 7, by omega⟩ j))))
    (FloatOps.mulf (W (ix2 2 j)) (U (ix3 p ⟨r.val + 8, by omega⟩ j)))

/-- The gated unit: the first convolution times its logistic, times the second. -/
def glu (a v : F .f32) : F .bf16 :=
  FloatOps.truncf .bf16 bitsLt_bf16_f32 (FloatOps.mulf (FloatOps.mulf a (FloatOps.logistic a)) v)

/-- The block of activations made from slot `p`. -/
def act (Wa Wv : Vec F S3x256 .f32) (Ba Bv : Vec F S1x256 .f32) (Ua Uv : Vec F S2x1032x256 .f32) (p : Fin 2) :
    Vec F S1024x256 .bf16 :=
  fun y => glu (conv Wa Ba Ua p (y 0) (y 1)) (conv Wv Bv Uv p (y 0) (y 1))

/-- One slab of 64 rows of activations, as the kernel makes it. -/
def slab (Wa Wv : Vec F S3x256 .f32) (Ba Bv : Vec F S1x256 .f32) (Ua Uv : Vec F S2x1032x256 .f32)
    (o2 o1 o0 : Fin 3 → ℕ) (h2 : ∀ a, o2 a + S1x64x256.size a ≤ S2x1032x256.size a)
    (h1 : ∀ a, o1 a + S1x64x256.size a ≤ S2x1032x256.size a)
    (h0 : ∀ a, o0 a + S1x64x256.size a ≤ S2x1032x256.size a) : FVec F S64x256 .bf16 :=
  k0_pay9
    (k0_pay7 (View.ld Ba (Rect.unit (s := S1x256) ![0, 0] S1x256.size inb_S1x256_S1x256_0_0))
      (View.ld Wa (Rect.unit (s := S3x256) ![0, 0] S1x256.size inb_S3x256_S1x256_0_0))
      (View.ld Ua (Rect.unit (s := S2x1032x256) o2 S1x64x256.size h2))
      (View.ld Wa (Rect.unit (s := S3x256) ![1, 0] S1x256.size inb_S3x256_S1x256_1_0))
      (View.ld Ua (Rect.unit (s := S2x1032x256) o1 S1x64x256.size h1))
      (View.ld Wa (Rect.unit (s := S3x256) ![2, 0] S1x256.size inb_S3x256_S1x256_2_0))
      (View.ld Ua (Rect.unit (s := S2x1032x256) o0 S1x64x256.size h0)))
    (k0_pay8 (View.ld Bv (Rect.unit (s := S1x256) ![0, 0] S1x256.size inb_S1x256_S1x256_0_0))
      (View.ld Wv (Rect.unit (s := S3x256) ![0, 0] S1x256.size inb_S3x256_S1x256_0_0))
      (View.ld Uv (Rect.unit (s := S2x1032x256) o2 S1x64x256.size h2)))
    (View.ld Wv (Rect.unit (s := S3x256) ![1, 0] S1x256.size inb_S3x256_S1x256_1_0))
    (View.ld Uv (Rect.unit (s := S2x1032x256) o1 S1x64x256.size h1))
    (View.ld Wv (Rect.unit (s := S3x256) ![2, 0] S1x256.size inb_S3x256_S1x256_2_0))
    (View.ld Uv (Rect.unit (s := S2x1032x256) o0 S1x64x256.size h0))

/-- The rows the products take: each block of 256 columns, its first 16 rows with the literal zero added. -/
def lhs (x : Vec F S1024x4096 .bf16) : FVec F S1024x4096 .bf16 :=
  concatenate S1024x4096 1 [⟨S1024x256, k0_pay89 k0_pay10 (View.ld x (Rect.unit (s := S1024x4096) ![0, 0] S1024x256.size inb_S1024x4096_S1024x256_0_0))⟩,
    ⟨S1024x256, k0_pay89 k0_pay10 (View.ld x (Rect.unit (s := S1024x4096) ![0, 256] S1024x256.size inb_S1024x4096_S1024x256_0_256))⟩,
    ⟨S1024x256, k0_pay89 k0_pay10 (View.ld x (Rect.unit (s := S1024x4096) ![0, 512] S1024x256.size inb_S1024x4096_S1024x256_0_512))⟩,
    ⟨S1024x256, k0_pay89 k0_pay10 (View.ld x (Rect.unit (s := S1024x4096) ![0, 768] S1024x256.size inb_S1024x4096_S1024x256_0_768))⟩,
    ⟨S1024x256, k0_pay89 k0_pay10 (View.ld x (Rect.unit (s := S1024x4096) ![0, 1024] S1024x256.size inb_S1024x4096_S1024x256_0_1024))⟩,
    ⟨S1024x256, k0_pay89 k0_pay10 (View.ld x (Rect.unit (s := S1024x4096) ![0, 1280] S1024x256.size inb_S1024x4096_S1024x256_0_1280))⟩,
    ⟨S1024x256, k0_pay89 k0_pay10 (View.ld x (Rect.unit (s := S1024x4096) ![0, 1536] S1024x256.size inb_S1024x4096_S1024x256_0_1536))⟩,
    ⟨S1024x256, k0_pay89 k0_pay10 (View.ld x (Rect.unit (s := S1024x4096) ![0, 1792] S1024x256.size inb_S1024x4096_S1024x256_0_1792))⟩,
    ⟨S1024x256, k0_pay89 k0_pay10 (View.ld x (Rect.unit (s := S1024x4096) ![0, 2048] S1024x256.size inb_S1024x4096_S1024x256_0_2048))⟩,
    ⟨S1024x256, k0_pay89 k0_pay10 (View.ld x (Rect.unit (s := S1024x4096) ![0, 2304] S1024x256.size inb_S1024x4096_S1024x256_0_2304))⟩,
    ⟨S1024x256, k0_pay89 k0_pay10 (View.ld x (Rect.unit (s := S1024x4096) ![0, 2560] S1024x256.size inb_S1024x4096_S1024x256_0_2560))⟩,
    ⟨S1024x256, k0_pay89 k0_pay10 (View.ld x (Rect.unit (s := S1024x4096) ![0, 2816] S1024x256.size inb_S1024x4096_S1024x256_0_2816))⟩,
    ⟨S1024x256, k0_pay89 k0_pay10 (View.ld x (Rect.unit (s := S1024x4096) ![0, 3072] S1024x256.size inb_S1024x4096_S1024x256_0_3072))⟩,
    ⟨S1024x256, k0_pay89 k0_pay10 (View.ld x (Rect.unit (s := S1024x4096) ![0, 3328] S1024x256.size inb_S1024x4096_S1024x256_0_3328))⟩,
    ⟨S1024x256, k0_pay89 k0_pay10 (View.ld x (Rect.unit (s := S1024x4096) ![0, 3584] S1024x256.size inb_S1024x4096_S1024x256_0_3584))⟩,
    ⟨S1024x256, k0_pay89 k0_pay10 (View.ld x (Rect.unit (s := S1024x4096) ![0, 3840] S1024x256.size inb_S1024x4096_S1024x256_0_3840))⟩]
    concatenates_S1024x256_S1024x256_S1024x256_S1024x256_S1024x256_S1024x256_S1024x256_S1024x256_S1024x256_S1024x256_S1024x256_S1024x256_S1024x256_S1024x256_S1024x256_S1024x256_S1024x4096_d1

/-- The product of the rows with one block of a weight. -/
def prod (x : Vec F S1024x4096 .bf16) (w : Vec F S4096x256 .bf16) : FVec F S1024x256 .f32 :=
  matmul dot_S1024x4096_S4096x256_S1024x256_1_0_0_1_n_n none (lhs x) w (constant S1024x256 .f32 0x00000000#32)

/-- The held rows once slot 1 is cleared at the first point. -/
def open1 (n : ℕ) (u : Vec F S2x1032x256 .f32) : Vec F S2x1032x256 .f32 :=
  if n = 0 then fun y => if (y 0).val = 1 then Scalar.ofBits .f32 0x00000000#32 else u y else u

/-- The held block of a weight: fetched anew at the first row block of each column block. -/
def wstep (n : ℕ) (w : Vec F S4096x256 .bf16) (x : Vec F S4096x256 .f32) : Vec F S4096x256 .bf16 :=
  if min n 343 % 8 = 0 ∧ n < 344 then k0_pay5 x else w

/-- The held rows after point `n`: the slot of the point's parity has the new product in rows 8 on, and above it the last
eight rows of the other slot, or zero at the first row block. -/
def ustep (n : ℕ) (u : Vec F S2x1032x256 .f32) (q : FVec F S1024x256 .f32) : Vec F S2x1032x256 .f32 := fun y =>
  if (y 0).val = n % 2 then
    if h : (y 1).val < 8 then
      if min n 343 % 8 = 0 then Scalar.ofBits .f32 0x00000000#32
      else u (ix3 ⟨1 - n % 2, by omega⟩ ⟨1024 + (y 1).val, by omega⟩ (y 2))
    else q (ix2 ⟨(y 1).val - 8, by have := (y 1).isLt; change (y 1).val < 1032 at this; omega⟩ (y 2))
  else u y

end Cert.KernelUpIdeal.Blocks

end
-- ==== Proof.UpOffs.lean ====
/-
The up projection's offsets at each grid point, in closed form.
-/
module

public import proofs.«01_k».proof.Proof.Gen.KernelUpIdeal.Frame
public import proofs.«01_k».proof.Proof.Gen.KernelUpIdeal.Skeleton
public import Idealize.ShloMosaic.Lib.WritesUnit

@[expose] public section

set_option maxRecDepth 16384

noncomputable section

namespace Cert.KernelUpIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelUpIdeal.Gen

variable {F : FTy → Type} [FloatOps F]

local notation "𝕄" => MT nD τ sig Unit (Elt F) ℕ (UR sig nD τ) ℕ

theorem off1 : ∀ t : Fin grid0.N, k0_off1 (grid0.coords t) = ![1 - t.val % 2, 6, 0] := (by decide +kernel : ∀ t : Fin grid0.N, _)
theorem off2 : ∀ t : Fin grid0.N, k0_off2 (grid0.coords t) = ![1 - t.val % 2, 7, 0] := (by decide +kernel : ∀ t : Fin grid0.N, _)
theorem off3 : ∀ t : Fin grid0.N, k0_off3 (grid0.coords t) = ![1 - t.val % 2, 8, 0] := (by decide +kernel : ∀ t : Fin grid0.N, _)
theorem off4 : ∀ t : Fin grid0.N, k0_off4 (grid0.coords t) = ![1 - t.val % 2, 70, 0] := (by decide +kernel : ∀ t : Fin grid0.N, _)
theorem off5 : ∀ t : Fin grid0.N, k0_off5 (grid0.coords t) = ![1 - t.val % 2, 71, 0] := (by decide +kernel : ∀ t : Fin grid0.N, _)
theorem off6 : ∀ t : Fin grid0.N, k0_off6 (grid0.coords t) = ![1 - t.val % 2, 72, 0] := (by decide +kernel : ∀ t : Fin grid0.N, _)
theorem off7 : ∀ t : Fin grid0.N, k0_off7 (grid0.coords t) = ![1 - t.val % 2, 134, 0] := (by decide +kernel : ∀ t : Fin grid0.N, _)
theorem off8 : ∀ t : Fin grid0.N, k0_off8 (grid0.coords t) = ![1 - t.val % 2, 135, 0] := (by decide +kernel : ∀ t : Fin grid0.N, _)
theorem off9 : ∀ t : Fin grid0.N, k0_off9 (grid0.coords t) = ![1 - t.val % 2, 136, 0] := (by decide +kernel : ∀ t : Fin grid0.N, _)
theorem off10 : ∀ t : Fin grid0.N, k0_off10 (grid0.coords t) = ![1 - t.val % 2, 198, 0] := (by decide +kernel : ∀ t : Fin grid0.N, _)
theorem off11 : ∀ t : Fin grid0.N, k0_off11 (grid0.coords t) = ![1 - t.val % 2, 199, 0] := (by decide +kernel : ∀ t : Fin grid0.N, _)
theorem off12 : ∀ t : Fin grid0.N, k0_off12 (grid0.coords t) = ![1 - t.val % 2, 200, 0] := (by decide +kernel : ∀ t : Fin grid0.N, _)
theorem off13 : ∀ t : Fin grid0.N, k0_off13 (grid0.coords t) = ![1 - t.val % 2, 262, 0] := (by decide +kernel : ∀ t : Fin grid0.N, _)
theorem off14 : ∀ t : Fin grid0.N, k0_off14 (grid0.coords t) = ![1 - t.val % 2, 263, 0] := (by decide +kernel : ∀ t : Fin grid0.N, _)
theorem off15 : ∀ t : Fin grid0.N, k0_off15 (grid0.coords t) = ![1 - t.val % 2, 264, 0] := (by decide +kernel : ∀ t : Fin grid0.N, _)
theorem off16 : ∀ t : Fin grid0.N, k0_off16 (grid0.coords t) = ![1 - t.val % 2, 326, 0] := (by decide +kernel : ∀ t : Fin grid0.N, _)
theorem off17 : ∀ t : Fin grid0.N, k0_off17 (grid0.coords t) = ![1 - t.val % 2, 327, 0] := (by decide +kernel : ∀ t : Fin grid0.N, _)
theorem off18 : ∀ t : Fin grid0.N, k0_off18 (grid0.coords t) = ![1 - t.val % 2, 328, 0] := (by decide +kernel : ∀ t : Fin grid0.N, _)
theorem off19 : ∀ t : Fin grid0.N, k0_off19 (grid0.coords t) = ![1 - t.val % 2, 390, 0] := (by decide +kernel : ∀ t : Fin grid0.N, _)
theorem off20 : ∀ t : Fin grid0.N, k0_off20 (grid0.coords t) = ![1 - t.val % 2, 391, 0] := (by decide +kernel : ∀ t : Fin grid0.N, _)
theorem off21 : ∀ t : Fin grid0.N, k0_off21 (grid0.coords t) = ![1 - t.val % 2, 392, 0] := (by decide +kernel : ∀ t : Fin grid0.N, _)
theorem off22 : ∀ t : Fin grid0.N, k0_off22 (grid0.coords t) = ![1 - t.val % 2, 454, 0] := (by decide +kernel : ∀ t : Fin grid0.N, _)
theorem off23 : ∀ t : Fin grid0.N, k0_off23 (grid0.coords t) = ![1 - t.val % 2, 455, 0] := (by decide +kernel : ∀ t : Fin grid0.N, _)
theorem off24 : ∀ t : Fin grid0.N, k0_off24 (grid0.coords t) = ![1 - t.val % 2, 456, 0] := (by decide +kernel : ∀ t : Fin grid0.N, _)
theorem off25 : ∀ t : Fin grid0.N, k0_off25 (grid0.coords t) = ![1 - t.val % 2, 518, 0] := (by decide +kernel : ∀ t : Fin grid0.N, _)
theorem off26 : ∀ t : Fin grid0.N, k0_off26 (grid0.coords t) = ![1 - t.val % 2, 519, 0] := (by decide +kernel : ∀ t : Fin grid0.N, _)
theorem off27 : ∀ t : Fin grid0.N, k0_off27 (grid0.coords t) = ![1 - t.val % 2, 520, 0] := (by decide +kernel : ∀ t : Fin grid0.N, _)
theorem off28 : ∀ t : Fin grid0.N, k0_off28 (grid0.coords t) = ![1 - t.val % 2, 582, 0] := (by decide +kernel : ∀ t : Fin grid0.N, _)
theorem off29 : ∀ t : Fin grid0.N, k0_off29 (grid0.coords t) = ![1 - t.val % 2, 583, 0] := (by decide +kernel : ∀ t : Fin grid0.N, _)
theorem off30 : ∀ t : Fin grid0.N, k0_off30 (grid0.coords t) = ![1 - t.val % 2, 584, 0] := (by decide +kernel : ∀ t : Fin grid0.N, _)
theorem off31 : ∀ t : Fin grid0.N, k0_off31 (grid0.coords t) = ![1 - t.val % 2, 646, 0] := (by decide +kernel : ∀ t : Fin grid0.N, _)
theorem off32 : ∀ t : Fin grid0.N, k0_off32 (grid0.coords t) = ![1 - t.val % 2, 647, 0] := (by decide +kernel : ∀ t : Fin grid0.N, _)
theorem off33 : ∀ t : Fin grid0.N, k0_off33 (grid0.coords t) = ![1 - t.val % 2, 648, 0] := (by decide +kernel : ∀ t : Fin grid0.N, _)
theorem off34 : ∀ t : Fin grid0.N, k0_off34 (grid0.coords t) = ![1 - t.val % 2, 710, 0] := (by decide +kernel : ∀ t : Fin grid0.N, _)
theorem off35 : ∀ t : Fin grid0.N, k0_off35 (grid0.coords t) = ![1 - t.val % 2, 711, 0] := (by decide +kernel : ∀ t : Fin grid0.N, _)
theorem off36 : ∀ t : Fin grid0.N, k0_off36 (grid0.coords t) = ![1 - t.val % 2, 712, 0] := (by decide +kernel : ∀ t : Fin grid0.N, _)
theorem off37 : ∀ t : Fin grid0.N, k0_off37 (grid0.coords t) = ![1 - t.val % 2, 774, 0] := (by decide +kernel : ∀ t : Fin grid0.N, _)
theorem off38 : ∀ t : Fin grid0.N, k0_off38 (grid0.coords t) = ![1 - t.val % 2, 775, 0] := (by decide +kernel : ∀ t : Fin grid0.N, _)
theorem off39 : ∀ t : Fin grid0.N, k0_off39 (grid0.coords t) = ![1 - t.val % 2, 776, 0] := (by decide +kernel : ∀ t : Fin grid0.N, _)
theorem off40 : ∀ t : Fin grid0.N, k0_off40 (grid0.coords t) = ![1 - t.val % 2, 838, 0] := (by decide +kernel : ∀ t : Fin grid0.N, _)
theorem off41 : ∀ t : Fin grid0.N, k0_off41 (grid0.coords t) = ![1 - t.val % 2, 839, 0] := (by decide +kernel : ∀ t : Fin grid0.N, _)
theorem off42 : ∀ t : Fin grid0.N, k0_off42 (grid0.coords t) = ![1 - t.val % 2, 840, 0] := (by decide +kernel : ∀ t : Fin grid0.N, _)
theorem off43 : ∀ t : Fin grid0.N, k0_off43 (grid0.coords t) = ![1 - t.val % 2, 902, 0] := (by decide +kernel : ∀ t : Fin grid0.N, _)
theorem off44 : ∀ t : Fin grid0.N, k0_off44 (grid0.coords t) = ![1 - t.val % 2, 903, 0] := (by decide +kernel : ∀ t : Fin grid0.N, _)
theorem off45 : ∀ t : Fin grid0.N, k0_off45 (grid0.coords t) = ![1 - t.val % 2, 904, 0] := (by decide +kernel : ∀ t : Fin grid0.N, _)
theorem off46 : ∀ t : Fin grid0.N, k0_off46 (grid0.coords t) = ![1 - t.val % 2, 966, 0] := (by decide +kernel : ∀ t : Fin grid0.N, _)
theorem off47 : ∀ t : Fin grid0.N, k0_off47 (grid0.coords t) = ![1 - t.val % 2, 967, 0] := (by decide +kernel : ∀ t : Fin grid0.N, _)
theorem off48 : ∀ t : Fin grid0.N, k0_off48 (grid0.coords t) = ![1 - t.val % 2, 968, 0] := (by decide +kernel : ∀ t : Fin grid0.N, _)

theorem off49 : ∀ t : Fin grid0.N, k0_off49 (grid0.coords t) = ![1 - t.val % 2, 1024, 0] := (by decide +kernel : ∀ t : Fin grid0.N, _)
theorem off50 : ∀ t : Fin grid0.N, k0_off50 (grid0.coords t) = ![t.val % 2, 0, 0] := (by decide +kernel : ∀ t : Fin grid0.N, _)
theorem off51 : ∀ t : Fin grid0.N, k0_off51 (grid0.coords t) = ![t.val % 2, 8, 0] := (by decide +kernel : ∀ t : Fin grid0.N, _)

abbrev cond1 (i : grid0.Coords) : Prop :=
  Scalar.cmpi .ne (Scalar.extui (Scalar.cmpi .eq (BitVec.ofNat 32 (i 0).val) 0#32)) 0#32 = 1#1

abbrev w14 (i : grid0.Coords) : BitVec 32 :=
  Scalar.select (Scalar.andi (Scalar.xori (Scalar.cmpi .slt (Scalar.remsi (Scalar.minsi (BitVec.ofNat 32 (i 0).val) 343#32) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (Scalar.minsi (BitVec.ofNat 32 (i 0).val) 343#32) (Scalar.select (Scalar.cmpi .eq 8#32 0#32) 1#32 8#32)) 0#32))
    (Scalar.addi (Scalar.remsi (Scalar.minsi (BitVec.ofNat 32 (i 0).val) 343#32) (Scalar.select (Scalar.cmpi .eq 8#32 0#32) 1#32 8#32)) (Scalar.select (Scalar.cmpi .eq 8#32 0#32) 1#32 8#32))
    (Scalar.remsi (Scalar.minsi (BitVec.ofNat 32 (i 0).val) 343#32) (Scalar.select (Scalar.cmpi .eq 8#32 0#32) 1#32 8#32))

abbrev cond2 (i : grid0.Coords) : Prop :=
  Scalar.cmpi .ne (Scalar.extui (Scalar.andi (Scalar.cmpi .eq (w14 i) 0#32) (Scalar.cmpi .slt (BitVec.ofNat 32 (i 0).val) 344#32))) 0#32 = 1#1

theorem cond1_iff : ∀ t : Fin grid0.N, cond1 (grid0.coords t) ↔ t.val = 0 := (by decide +kernel : ∀ t : Fin grid0.N, _)
theorem cond2_iff : ∀ t : Fin grid0.N, cond2 (grid0.coords t) ↔ min t.val 343 % 8 = 0 ∧ t.val < 344 :=
  (by decide +kernel : ∀ t : Fin grid0.N, _)
theorem first_iff : ∀ t : Fin grid0.N, Scalar.cmpi .eq (w14 (grid0.coords t)) 0#32 = 1#1 ↔ min t.val 343 % 8 = 0 :=
  (by decide +kernel : ∀ t : Fin grid0.N, _)

end Cert.KernelUpIdeal.Blocks

end
-- ==== Proof.UpRead.lean ====
/-
The up projection's stores read back: the sixteen slabs of activations, and the two pieces of the held rows.
-/
module

public import proofs.«01_k».proof.Proof.Gen.KernelUpIdeal.Frame
public import proofs.«01_k».proof.Proof.Gen.KernelUpIdeal.Skeleton
public import Idealize.ShloMosaic.Lib.WritesUnit
public import Idealize.ShloMosaic.Lib.Pipeline.ValueKit
public import proofs.«01_k».proof.Proof.UpDefs
public import proofs.«01_k».proof.Proof.UpOffs

@[expose] public section

set_option maxRecDepth 16384

noncomputable section

namespace Cert.KernelUpIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelUpIdeal.Gen

variable {F : FTy → Type} [FloatOps F]

local notation "𝕄" => MT nD τ sig Unit (Elt F) ℕ (UR sig nD τ) ℕ

/-- The slot the activations of a point are made from. -/
def slot (t : Fin grid0.N) : Fin 2 := ⟨1 - t.val % 2, by omega⟩

theorem slab_point (Wa Wv : Vec F S3x256 .f32) (Ba Bv : Vec F S1x256 .f32) (Ua Uv : Vec F S2x1032x256 .f32) (p : Fin 2) (a : ℕ)
    (o2 o1 o0 : Fin 3 → ℕ) (h2 : ∀ a, o2 a + S1x64x256.size a ≤ S2x1032x256.size a)
    (h1 : ∀ a, o1 a + S1x64x256.size a ≤ S2x1032x256.size a)
    (h0 : ∀ a, o0 a + S1x64x256.size a ≤ S2x1032x256.size a)
    (e2 : o2 = ![p.val, a + 6, 0]) (e1 : o1 = ![p.val, a + 7, 0]) (e0 : o0 = ![p.val, a + 8, 0])
    (x : S64x256.Idx) (y : S1024x256.Idx) (hy0 : (y 0).val = a + (x 0).val) (hy1 : (y 1).val = (x 1).val) :
    slab Wa Wv Ba Bv Ua Uv o2 o1 o0 h2 h1 h0 x = act Wa Wv Ba Bv Ua Uv p y := by
  subst e2; subst e1; subst e0
  have hlt : a + (x 0).val < 1024 := hy0 ▸ (y 0).isLt
  obtain rfl : y = ix2 ⟨a + (x 0).val, hlt⟩ (x 1) := by
    funext i; fin_cases i
    · exact Fin.ext hy0
    · exact Fin.ext hy1
  pointwise [slab, k0_pay7, k0_pay8, k0_pay9, act, glu, conv, View.ld]
  have g : ∀ k, a + k + (x 0).val = a + (x 0).val + k := fun k => by omega
  simp only [g]

theorem act_step (v : View sig .tc .vmem S1024x256 .bf16) (f : v.ty.Contents (Elt F)) (L : List (View.Piece (Elt F) S1024x256 .bf16))
    (o : ℕ) (inb : ∀ a, (![o, 0] : Fin 2 → ℕ) a + S64x256.size a ≤ S1024x256.size a) (w : FVec F S64x256 .bf16)
    (A : Vec F S1024x256 .bf16)
    (hw : ∀ (x : S64x256.Idx) (y : S1024x256.Idx), (y 0).val = o + (x 0).val → (y 1).val = (x 1).val → w x = A y)
    (y : S1024x256.Idx) (ho : (y 0).val < o + 64)
    (h : (y 0).val < o → v.read (Elt F) (v.writes (Elt F) f L) y = A y) :
    v.read (Elt F) (v.writes (Elt F) f (⟨Rect.unit (s := S1024x256) ![o, 0] S64x256.size inb, w⟩ :: L)) y = A y := by
  by_cases hy : (y 0).val < o
  · exact (View.read_writes_cons_rows_of_not_mem _ _ _ _ _ y rfl rfl (.inl hy)).trans (h hy)
  · have h0 : (y 0).val = o + ((y 0).val - o) := by omega
    refine (View.read_writes_cons_rows_of_mem _ _ inb w L y (ix2 (n0 := 64) (n1 := 256) ⟨(y 0).val - o, by omega⟩ (y 1)) rfl h0 rfl).trans ?_
    exact hw _ y h0 rfl

theorem act_read (v : View sig .tc .vmem S1024x256 .bf16) (f : v.ty.Contents (Elt F)) (t : Fin grid0.N)
    (Wa Wv : Vec F S3x256 .f32) (Ba Bv : Vec F S1x256 .f32) (Ua Uv : Vec F S2x1032x256 .f32)
    (w0 w1 w2 w3 w4 w5 w6 w7 w8 w9 w10 w11 w12 w13 w14 w15 : FVec F S64x256 .bf16)
    (hw0 : w0 = slab Wa Wv Ba Bv Ua Uv (k0_off1 (grid0.coords t)) (k0_off2 (grid0.coords t)) (k0_off3 (grid0.coords t)) (k0_off1_inb _) (k0_off2_inb _) (k0_off3_inb _))
    (hw1 : w1 = slab Wa Wv Ba Bv Ua Uv (k0_off4 (grid0.coords t)) (k0_off5 (grid0.coords t)) (k0_off6 (grid0.coords t)) (k0_off4_inb _) (k0_off5_inb _) (k0_off6_inb _))
    (hw2 : w2 = slab Wa Wv Ba Bv Ua Uv (k0_off7 (grid0.coords t)) (k0_off8 (grid0.coords t)) (k0_off9 (grid0.coords t)) (k0_off7_inb _) (k0_off8_inb _) (k0_off9_inb _))
    (hw3 : w3 = slab Wa Wv Ba Bv Ua Uv (k0_off10 (grid0.coords t)) (k0_off11 (grid0.coords t)) (k0_off12 (grid0.coords t)) (k0_off10_inb _) (k0_off11_inb _) (k0_off12_inb _))
    (hw4 : w4 = slab Wa Wv Ba Bv Ua Uv (k0_off13 (grid0.coords t)) (k0_off14 (grid0.coords t)) (k0_off15 (grid0.coords t)) (k0_off13_inb _) (k0_off14_inb _) (k0_off15_inb _))
    (hw5 : w5 = slab Wa Wv Ba Bv Ua Uv (k0_off16 (grid0.coords t)) (k0_off17 (grid0.coords t)) (k0_off18 (grid0.coords t)) (k0_off16_inb _) (k0_off17_inb _) (k0_off18_inb _))
    (hw6 : w6 = slab Wa Wv Ba Bv Ua Uv (k0_off19 (grid0.coords t)) (k0_off20 (grid0.coords t)) (k0_off21 (grid0.coords t)) (k0_off19_inb _) (k0_off20_inb _) (k0_off21_inb _))
    (hw7 : w7 = slab Wa Wv Ba Bv Ua Uv (k0_off22 (grid0.coords t)) (k0_off23 (grid0.coords t)) (k0_off24 (grid0.coords t)) (k0_off22_inb _) (k0_off23_inb _) (k0_off24_inb _))
    (hw8 : w8 = slab Wa Wv Ba Bv Ua Uv (k0_off25 (grid0.coords t)) (k0_off26 (grid0.coords t)) (k0_off27 (grid0.coords t)) (k0_off25_inb _) (k0_off26_inb _) (k0_off27_inb _))
    (hw9 : w9 = slab Wa Wv Ba Bv Ua Uv (k0_off28 (grid0.coords t)) (k0_off29 (grid0.coords t)) (k0_off30 (grid0.coords t)) (k0_off28_inb _) (k0_off29_inb _) (k0_off30_inb _))
    (hw10 : w10 = slab Wa Wv Ba Bv Ua Uv (k0_off31 (grid0.coords t)) (k0_off32 (grid0.coords t)) (k0_off33 (grid0.coords t)) (k0_off31_inb _) (k0_off32_inb _) (k0_off33_inb _))
    (hw11 : w11 = slab Wa Wv Ba Bv Ua Uv (k0_off34 (grid0.coords t)) (k0_off35 (grid0.coords t)) (k0_off36 (grid0.coords t)) (k0_off34_inb _) (k0_off35_inb _) (k0_off36_inb _))
    (hw12 : w12 = slab Wa Wv Ba Bv Ua Uv (k0_off37 (grid0.coords t)) (k0_off38 (grid0.coords t)) (k0_off39 (grid0.coords t)) (k0_off37_inb _) (k0_off38_inb _) (k0_off39_inb _))
    (hw13 : w13 = slab Wa Wv Ba Bv Ua Uv (k0_off40 (grid0.coords t)) (k0_off41 (grid0.coords t)) (k0_off42 (grid0.coords t)) (k0_off40_inb _) (k0_off41_inb _) (k0_off42_inb _))
    (hw14 : w14 = slab Wa Wv Ba Bv Ua Uv (k0_off43 (grid0.coords t)) (k0_off44 (grid0.coords t)) (k0_off45 (grid0.coords t)) (k0_off43_inb _) (k0_off44_inb _) (k0_off45_inb _))
    (hw15 : w15 = slab Wa Wv Ba Bv Ua Uv (k0_off46 (grid0.coords t)) (k0_off47 (grid0.coords t)) (k0_off48 (grid0.coords t)) (k0_off46_inb _) (k0_off47_inb _) (k0_off48_inb _)) :
    v.read (Elt F) (v.writes (Elt F) f [⟨Rect.unit (s := S1024x256) ![960, 0] S64x256.size inb_S1024x256_S64x256_960_0, w15⟩,
      ⟨Rect.unit (s := S1024x256) ![896, 0] S64x256.size inb_S1024x256_S64x256_896_0, w14⟩,
      ⟨Rect.unit (s := S1024x256) ![832, 0] S64x256.size inb_S1024x256_S64x256_832_0, w13⟩,
      ⟨Rect.unit (s := S1024x256) ![768, 0] S64x256.size inb_S1024x256_S64x256_768_0, w12⟩,
      ⟨Rect.unit (s := S1024x256) ![704, 0] S64x256.size inb_S1024x256_S64x256_704_0, w11⟩,
      ⟨Rect.unit (s := S1024x256) ![640, 0] S64x256.size inb_S1024x256_S64x256_640_0, w10⟩,
      ⟨Rect.unit (s := S1024x256) ![576, 0] S64x256.size inb_S1024x256_S64x256_576_0, w9⟩,
      ⟨Rect.unit (s := S1024x256) ![512, 0] S64x256.size inb_S1024x256_S64x256_512_0, w8⟩,
      ⟨Rect.unit (s := S1024x256) ![448, 0] S64x256.size inb_S1024x256_S64x256_448_0, w7⟩,
      ⟨Rect.unit (s := S1024x256) ![384, 0] S64x256.size inb_S1024x256_S64x256_384_0, w6⟩,
      ⟨Rect.unit (s := S1024x256) ![320, 0] S64x256.size inb_S1024x256_S64x256_320_0, w5⟩,
      ⟨Rect.unit (s := S1024x256) ![256, 0] S64x256.size inb_S1024x256_S64x256_256_0, w4⟩,
      ⟨Rect.unit (s := S1024x256) ![192, 0] S64x256.size inb_S1024x256_S64x256_192_0, w3⟩,
      ⟨Rect.unit (s := S1024x256) ![128, 0] S64x256.size inb_S1024x256_S64x256_128_0, w2⟩,
      ⟨Rect.unit (s := S1024x256) ![64, 0] S64x256.size inb_S1024x256_S64x256_64_0, w1⟩,
      ⟨Rect.unit (s := S1024x256) ![0, 0] S64x256.size inb_S1024x256_S64x256_0_0, w0⟩])
      = act Wa Wv Ba Bv Ua Uv (slot t) := by
  subst hw0; subst hw1; subst hw2; subst hw3; subst hw4; subst hw5; subst hw6; subst hw7; subst hw8; subst hw9; subst hw10; subst hw11; subst hw12; subst hw13; subst hw14; subst hw15
  funext y
  have hy : (y 0).val < 1024 := (y 0).isLt
  refine act_step _ _ _ 960 _ _ _ (fun x y h0 h1 => slab_point _ _ _ _ _ _ (slot t) 960 _ _ _ _ _ _ (off46 t) (off47 t) (off48 t) x y h0 h1) y (by omega) (fun h => ?_)
  refine act_step _ _ _ 896 _ _ _ (fun x y h0 h1 => slab_point _ _ _ _ _ _ (slot t) 896 _ _ _ _ _ _ (off43 t) (off44 t) (off45 t) x y h0 h1) y (by omega) (fun h => ?_)
  refine act_step _ _ _ 832 _ _ _ (fun x y h0 h1 => slab_point _ _ _ _ _ _ (slot t) 832 _ _ _ _ _ _ (off40 t) (off41 t) (off42 t) x y h0 h1) y (by omega) (fun h => ?_)
  refine act_step _ _ _ 768 _ _ _ (fun x y h0 h1 => slab_point _ _ _ _ _ _ (slot t) 768 _ _ _ _ _ _ (off37 t) (off38 t) (off39 t) x y h0 h1) y (by omega) (fun h => ?_)
  refine act_step _ _ _ 704 _ _ _ (fun x y h0 h1 => slab_point _ _ _ _ _ _ (slot t) 704 _ _ _ _ _ _ (off34 t) (off35 t) (off36 t) x y h0 h1) y (by omega) (fun h => ?_)
  refine act_step _ _ _ 640 _ _ _ (fun x y h0 h1 => slab_point _ _ _ _ _ _ (slot t) 640 _ _ _ _ _ _ (off31 t) (off32 t) (off33 t) x y h0 h1) y (by omega) (fun h => ?_)
  refine act_step _ _ _ 576 _ _ _ (fun x y h0 h1 => slab_point _ _ _ _ _ _ (slot t) 576 _ _ _ _ _ _ (off28 t) (off29 t) (off30 t) x y h0 h1) y (by omega) (fun h => ?_)
  refine act_step _ _ _ 512 _ _ _ (fun x y h0 h1 => slab_point _ _ _ _ _ _ (slot t) 512 _ _ _ _ _ _ (off25 t) (off26 t) (off27 t) x y h0 h1) y (by omega) (fun h => ?_)
  refine act_step _ _ _ 448 _ _ _ (fun x y h0 h1 => slab_point _ _ _ _ _ _ (slot t) 448 _ _ _ _ _ _ (off22 t) (off23 t) (off24 t) x y h0 h1) y (by omega) (fun h => ?_)
  refine act_step _ _ _ 384 _ _ _ (fun x y h0 h1 => slab_point _ _ _ _ _ _ (slot t) 384 _ _ _ _ _ _ (off19 t) (off20 t) (off21 t) x y h0 h1) y (by omega) (fun h => ?_)
  refine act_step _ _ _ 320 _ _ _ (fun x y h0 h1 => slab_point _ _ _ _ _ _ (slot t) 320 _ _ _ _ _ _ (off16 t) (off17 t) (off18 t) x y h0 h1) y (by omega) (fun h => ?_)
  refine act_step _ _ _ 256 _ _ _ (fun x y h0 h1 => slab_point _ _ _ _ _ _ (slot t) 256 _ _ _ _ _ _ (off13 t) (off14 t) (off15 t) x y h0 h1) y (by omega) (fun h => ?_)
  refine act_step _ _ _ 192 _ _ _ (fun x y h0 h1 => slab_point _ _ _ _ _ _ (slot t) 192 _ _ _ _ _ _ (off10 t) (off11 t) (off12 t) x y h0 h1) y (by omega) (fun h => ?_)
  refine act_step _ _ _ 128 _ _ _ (fun x y h0 h1 => slab_point _ _ _ _ _ _ (slot t) 128 _ _ _ _ _ _ (off7 t) (off8 t) (off9 t) x y h0 h1) y (by omega) (fun h => ?_)
  refine act_step _ _ _ 64 _ _ _ (fun x y h0 h1 => slab_point _ _ _ _ _ _ (slot t) 64 _ _ _ _ _ _ (off4 t) (off5 t) (off6 t) x y h0 h1) y (by omega) (fun h => ?_)
  refine act_step _ _ _ 0 _ _ _ (fun x y h0 h1 => slab_point _ _ _ _ _ _ (slot t) 0 _ _ _ _ _ _ (off1 t) (off2 t) (off3 t) x y h0 h1) y (by omega) (fun h => absurd h (Nat.not_lt_zero _))

theorem pay102_pos (b : BitVec 1) (hb : b = 1#1) (X : Vec F S1x8x256 .f32) (x : S1x8x256.Idx) :
    k0_pay102 b X x = Scalar.ofBits .f32 0x00000000#32 := by
  subst hb
  have hs : ∀ (a c : FVec F S8x256 .f32), Scalar.select 1#1 a c = a := fun a c => if_pos rfl
  unfold k0_pay102
  rw [hs]
  pointwise

theorem pay102_neg (b : BitVec 1) (hb : ¬b = 1#1) (X : Vec F S1x8x256 .f32) (r : Fin 8) (j : Fin 256) :
    k0_pay102 b X (ix3 0 r j) = X (ix3 0 r j) := by
  have hs : ∀ (a c : FVec F S8x256 .f32), Scalar.select b a c = c := fun a c => if_neg hb
  unfold k0_pay102
  rw [hs]
  pointwise

theorem ld_off (u : Vec F S2x1032x256 .f32) (p : Fin 2) (o : Fin 3 → ℕ) (e : o = ![p.val, 1024, 0])
    (inb : ∀ a, o a + S1x8x256.size a ≤ S2x1032x256.size a) (r : Fin 8) (j : Fin 256) (hr : 1024 + r.val < 1032) :
    View.ld u (Rect.unit (s := S2x1032x256) o S1x8x256.size inb) (ix3 0 r j) = u (ix3 p ⟨1024 + r.val, hr⟩ j) := by
  subst e
  pointwise [View.ld]

set_option maxHeartbeats 1000000 in
theorem u_read (v : View sig .tc .vmem S2x1032x256 .f32) (f : v.ty.Contents (Elt F)) (L : List (View.Piece (Elt F) S2x1032x256 .f32))
    (t : Fin grid0.N) (q : FVec F S1024x256 .f32) (u : Vec F S2x1032x256 .f32) (hu : v.read (Elt F) (v.writes (Elt F) f L) = u)
    (w51 : FVec F S1x1024x256 .f32) (w50 : FVec F S1x8x256 .f32) (h51 : w51 = k0_pay1 q)
    (h50 : w50 = k0_pay102 (Scalar.cmpi .eq (w14 (grid0.coords t)) 0#32)
      (View.ld u (Rect.unit (s := S2x1032x256) (k0_off49 (grid0.coords t)) S1x8x256.size (k0_off49_inb _)))) :
    v.read (Elt F) (v.writes (Elt F) f
      (⟨Rect.unit (s := S2x1032x256) (k0_off51 (grid0.coords t)) S1x1024x256.size (k0_off51_inb _), w51⟩
        :: ⟨Rect.unit (s := S2x1032x256) (k0_off50 (grid0.coords t)) S1x8x256.size (k0_off50_inb _), w50⟩ :: L))
      = ustep t.val u q := by
  subst hu; subst h51; subst h50
  funext y
  have hb0 : (y 0).val < 2 := (y 0).isLt
  have hb1 : (y 1).val < 1032 := (y 1).isLt
  have hb2 : (y 2).val < 256 := (y 2).isLt
  unfold ustep
  by_cases hy : (y 0).val = t.val % 2
  · rw [if_pos hy]
    by_cases h8 : (y 1).val < 8
    · rw [dif_pos h8]
      refine (View.read_writes_cons_unit_of_not_mem (s := S2x1032x256) _ _ _ _ _ y (off51 t) 1 (.inl h8)).trans ?_
      refine (View.read_writes_cons_unit_of_mem (s := S2x1032x256) (size := S1x8x256.size) _ _ _ _ _ y (ix3 (n0 := 1) (n1 := 8) (n2 := 256) 0 ⟨(y 1).val, h8⟩ (y 2)) (off50 t) (by
        intro a; fin_cases a
        · show (y 0).val = t.val % 2 + 0; omega
        · show (y 1).val = 0 + (y 1).val; omega
        · show (y 2).val = 0 + (y 2).val; omega)).trans ?_
      by_cases hf : min t.val 343 % 8 = 0
      · rw [if_pos hf]
        exact pay102_pos _ ((first_iff t).2 hf) _ _
      · rw [if_neg hf]
        have hf' := mt (first_iff t).1 hf
        exact (pay102_neg _ hf' _ _ _).trans (ld_off _ ⟨1 - t.val % 2, by omega⟩ _ (off49 t) _ _ _ _)
    · rw [dif_neg h8]
      refine (View.read_writes_cons_unit_of_mem (s := S2x1032x256) (size := S1x1024x256.size) _ _ _ _ _ y (ix3 (n0 := 1) (n1 := 1024) (n2 := 256) 0 ⟨(y 1).val - 8, by omega⟩ (y 2)) (off51 t) (by
        intro a; fin_cases a
        · show (y 0).val = t.val % 2 + 0; omega
        · show (y 1).val = 8 + ((y 1).val - 8); omega
        · show (y 2).val = 0 + (y 2).val; omega)).trans ?_
      pointwise [k0_pay1]
  · rw [if_neg hy]
    rw [View.read_writes_cons_unit_of_not_mem (s := S2x1032x256) _ _ _ _ _ y (off51 t) 0 (by show (y 0).val < t.val % 2 ∨ t.val % 2 + 1 ≤ (y 0).val; omega)]
    rw [View.read_writes_cons_unit_of_not_mem (s := S2x1032x256) _ _ _ _ _ y (off50 t) 0 (by show (y 0).val < t.val % 2 ∨ t.val % 2 + 1 ≤ (y 0).val; omega)]

theorem open_read (v : View sig .tc .vmem S2x1032x256 .f32) (f : v.ty.Contents (Elt F)) (n : ℕ) (hn : n = 0) :
    v.read (Elt F) (v.writes (Elt F) f [⟨Rect.unit (s := S2x1032x256) ![1, 0, 0] S1x1032x256.size inb_S2x1032x256_S1x1032x256_1_0_0, k0_pay3⟩])
      = open1 n (v.read (Elt F) f) := by
  funext y
  have hb0 : (y 0).val < 2 := (y 0).isLt
  unfold open1
  rw [if_pos hn]
  by_cases hy : (y 0).val = 1
  · rw [if_pos hy]
    refine (View.read_writes_cons_unit_of_mem (s := S2x1032x256) (size := S1x1032x256.size) _ _ _ _ _ y (ix3 (n0 := 1) (n1 := 1032) (n2 := 256) 0 (y 1) (y 2)) rfl (by
        intro a; fin_cases a
        · show (y 0).val = 1 + 0; omega
        · show (y 1).val = 0 + (y 1).val; omega
        · show (y 2).val = 0 + (y 2).val; omega)).trans ?_
    pointwise [k0_pay3]
  · rw [if_neg hy]
    rw [View.read_writes_cons_unit_of_not_mem (s := S2x1032x256) _ _ _ _ _ y rfl 0 (by show (y 0).val < 1 ∨ 1 + 1 ≤ (y 0).val; omega)]
    rfl

theorem whole_ld {e : EltTy} (v : View sig .tc .vmem S4096x256 e) (f : v.ty.Contents (Elt F)) :
    View.readAt (Elt F) v (Rect.unit (s := S4096x256) ![0, 0] S4096x256.size inb_S4096x256_S4096x256_0_0).toLoadRect f = v.read (Elt F) f := by
  funext z
  show v.read (Elt F) f ((Rect.unit (s := S4096x256) ![0, 0] S4096x256.size inb_S4096x256_S4096x256_0_0).idx z) = _
  refine congrArg _ ?_
  funext a; fin_cases a
  · exact Fin.ext (by show 0 + 1 * (z 0).val = _; simp)
  · exact Fin.ext (by show 0 + 1 * (z 1).val = _; simp)

theorem whole_w (v : View sig .tc .vmem S4096x256 .bf16) (f : v.ty.Contents (Elt F)) (w : FVec F S4096x256 .bf16) :
    v.read (Elt F) (v.writes (Elt F) f [⟨(Rect.unit (s := S4096x256) ![0, 0] S4096x256.size inb_S4096x256_S4096x256_0_0), w⟩]) = w := by
  funext y
  exact View.read_writes_cons_rows_of_mem _ _ _ _ _ y y rfl (Nat.zero_add _).symm rfl

theorem whole_read (v : View sig .tc .vmem S32x4096 .bf16) (f : v.ty.Contents (Elt F)) (w : FVec F S32x4096 .bf16)
    (L : List (View.Piece (Elt F) S32x4096 .bf16)) (hL : L = [⟨Rect.unit (s := S32x4096) ![0, 0] S32x4096.size inb_S32x4096_S32x4096_0_0, w⟩])
    (X x : Vec F S32x4096 .f32) (hX : X = x) (hw : w = k0_pay2 (View.ld X (Rect.unit (s := S32x4096) ![0, 0] S32x4096.size inb_S32x4096_S32x4096_0_0)) := by rfl) :
    v.read (Elt F) (v.writes (Elt F) f L) = k0_pay2 x := by
  subst hL; subst hX; subst hw
  funext y
  refine (View.read_writes_cons_rows_of_mem _ _ _ _ _ y y rfl (Nat.zero_add _).symm rfl).trans ?_
  refine congrArg (fun Z => k0_pay2 Z y) ?_
  funext z
  refine congrArg X ?_
  funext a; fin_cases a
  · exact Fin.ext (by show 0 + 1 * (z 0).val = _; simp)
  · exact Fin.ext (by show 0 + 1 * (z 1).val = _; simp)

end Cert.KernelUpIdeal.Blocks

end
-- ==== Proof.UpRunA.lean ====
/-
The up projection's body run at the first point, from what it finds to what it leaves.
-/
module

public import proofs.«01_k».proof.Proof.Gen.KernelUpIdeal.Frame
public import proofs.«01_k».proof.Proof.Gen.KernelUpIdeal.Skeleton
public import Idealize.ShloMosaic.Lib.WritesUnit
public import Idealize.ShloMosaic.Lib.Pipeline.ValueKit
public import proofs.«01_k».proof.Proof.UpRead
public import Idealize.ShloMosaic.Lib.VecWindow

@[expose] public section

set_option maxRecDepth 16384

noncomputable section

namespace Cert.KernelUpIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelUpIdeal.Gen

variable {F : FTy → Type} [FloatOps F]

local notation "𝕄" => MT nD τ sig Unit (Elt F) ℕ (UR sig nD τ) ℕ

set_option maxHeartbeats 1000000 in
/-- The whole body: the first point. -/
theorem runA (c : Dev nD) (t : Fin grid0.N) (i : grid0.Coords) (hi : i = grid0.coords t) (arg1 : Memref sig .tc .vmem S1024x4096 .bf16) (harg1 : arg1.IsWhole) (arg2 : Memref sig .tc .vmem S4096x256 .f32) (harg2 : arg2.IsWhole) (arg3 : Memref sig .tc .vmem S4096x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S1024x256 .bf16) (harg9 : arg9.IsWhole) (arg10 : Memref sig .tc .vmem S32x4096 .bf16) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S2x1032x256 .f32) (harg13 : arg13.IsWhole) (arg14 : Memref sig .tc .vmem S2x1032x256 .f32) (harg14 : arg14.IsWhole)
    (hc1 : cond1 i) (hc2 : cond2 i)
    (x1 : Vec F S1024x4096 .bf16) (x2 x3 : Vec F S4096x256 .f32) (x4 x5 : Vec F S3x256 .f32) (x6 x7 : Vec F S1x256 .f32)
    (x8 : Vec F S32x4096 .f32) (wa wv : Vec F S4096x256 .bf16) (ua uv : Vec F S2x1032x256 .f32) (d9 : Vec F S1024x256 .bf16) (d10 : Vec F S32x4096 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare wa ∗ owns (c : Thread nD τ) arg12 fullShare wv ∗ owns (c : Thread nD τ) arg13 fullShare ua ∗ owns (c : Thread nD τ) arg14 fullShare uv ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (act x4 x5 x6 x7 (open1 t.val ua) (open1 t.val uv) (slot t)) ∗ owns (c : Thread nD τ) arg10 fullShare (k0_pay2 x8) ∗ owns (c : Thread nD τ) arg11 fullShare (wstep t.val wa x2) ∗ owns (c : Thread nD τ) arg12 fullShare (wstep t.val wv x3) ∗ owns (c : Thread nD τ) arg13 fullShare (ustep t.val (open1 t.val ua) (prod x1 (wstep t.val wa x2))) ∗ owns (c : Thread nD τ) arg14 fullShare (ustep t.val (open1 t.val uv) (prod x1 (wstep t.val wv x3)))) -∗ K ⟨⟩))
      ⊢ wp frame (wpE (defs₀ (F := F)) Variants.none c none) E (cc0_ffn_up_conv_glu i arg1 harg1 arg2 harg2 arg3 harg3 arg4 harg4 arg5 harg5 arg6 harg6 arg7 harg7 arg8 harg8 arg9 harg9 arg10 harg10 arg11 harg11 arg12 harg12 arg13 harg13 arg14 harg14) K := by
  have hz : (t.val = 0) := by subst hi; exact (cond1_iff t).1 hc1
  have hw : (min t.val 343 % 8 = 0 ∧ t.val < 344) := by subst hi; exact (cond2_iff t).1 hc2
  simp only [cc0_ffn_up_conv_glu_eq_skeleton]; unfold cc0_ffn_up_conv_glu_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  have e13 : arg13.view.writes (Elt F) (harg13.unread ua) [⟨Rect.unit (s := S2x1032x256) ![1, 0, 0] S1x1032x256.size inb_S2x1032x256_S1x1032x256_1_0_0, k0_pay3⟩] = harg13.unread (open1 t.val ua) :=
    harg13.eq_unread ((open_read arg13.view _ t.val hz).trans (by rw [harg13.read_unread]))
  have e14 : arg14.view.writes (Elt F) (harg14.unread uv) [⟨Rect.unit (s := S2x1032x256) ![1, 0, 0] S1x1032x256.size inb_S2x1032x256_S1x1032x256_1_0_0, k0_pay3⟩] = harg14.unread (open1 t.val uv) :=
    harg14.eq_unread ((open_read arg14.view _ t.val hz).trans (by rw [harg14.read_unread]))
  set_option sl_exec.maxSteps 12 in sl_exec (disch := first | sl_exact hc1 | sl_exact hc2)
  erw [e13, e14]
  sl_exec (disch := first | sl_exact hc1 | sl_exact hc2)
  sl_step
  subst hi
  have ea : (arg13.view.read (Elt F) (harg13.unread (open1 t.val ua))) = open1 t.val ua := harg13.read_unread _
  have ev : (arg14.view.read (Elt F) (harg14.unread (open1 t.val uv))) = open1 t.val uv := harg14.read_unread _
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine (act_read arg9.view _ t (arg4.view.read (Elt F) (harg4.unread x4)) (arg5.view.read (Elt F) (harg5.unread x5)) (arg6.view.read (Elt F) (harg6.unread x6)) (arg7.view.read (Elt F) (harg7.unread x7)) (arg13.view.read (Elt F) (harg13.unread (open1 t.val ua))) (arg14.view.read (Elt F) (harg14.unread (open1 t.val uv))) _ _ _ _ _ _ _ _ _ _ _ _ _ _ _ _ ?_ ?_ ?_ ?_ ?_ ?_ ?_ ?_ ?_ ?_ ?_ ?_ ?_ ?_ ?_ ?_).trans ?_
    iterate 16 (· rfl)
    rw [ea, ev, harg4.read_unread, harg5.read_unread, harg6.read_unread, harg7.read_unread]
  isplitl [H10]
  · iexists _; isplitr
    swap; · iexact H10
    ipureintro
    exact whole_read arg10.view _ _ _ (by rfl) (arg8.view.read (Elt F) (harg8.unread x8)) x8 (harg8.read_unread x8)
  isplitl [H11]
  · iexists _; isplitr
    swap; · iexact H11
    ipureintro
    unfold wstep; rw [if_pos hw]
    exact (whole_w arg11.view _ (k0_pay5 (View.readAt (Elt F) arg2.view (Rect.unit (s := S4096x256) ![0, 0] S4096x256.size inb_S4096x256_S4096x256_0_0).toLoadRect (harg2.unread x2)))).trans (by rw [whole_ld, harg2.read_unread]; try rfl)
  isplitl [H12]
  · iexists _; isplitr
    swap; · iexact H12
    ipureintro
    unfold wstep; rw [if_pos hw]
    exact (whole_w arg12.view _ (k0_pay6 (View.readAt (Elt F) arg3.view (Rect.unit (s := S4096x256) ![0, 0] S4096x256.size inb_S4096x256_S4096x256_0_0).toLoadRect (harg3.unread x3)))).trans (by rw [whole_ld, harg3.read_unread]; try rfl)
  isplitl [H13]
  · iexists _; isplitr
    swap; · iexact H13
    ipureintro
    refine (u_read arg13.view _ [] t (prod x1 (wstep t.val wa x2)) _ ea _ _ ?_ ?_)
    · refine (show _ = k0_pay1 (prod (arg1.view.read (Elt F) (harg1.unread x1)) (arg11.view.readCov [⟨(Rect.unit (s := S4096x256) ![0, 0] S4096x256.size inb_S4096x256_S4096x256_0_0), k0_pay5 (View.readAt (Elt F) arg2.view (Rect.unit (s := S4096x256) ![0, 0] S4096x256.size inb_S4096x256_S4096x256_0_0).toLoadRect (harg2.unread x2))⟩] (Rect.unit (s := S4096x256) ![0, 0] S4096x256.size inb_S4096x256_S4096x256_0_0).toLoadRect)) from rfl).trans ?_
      rw [View.readCov_full, whole_ld, harg2.read_unread, harg1.read_unread]
      unfold wstep; rw [if_pos hw]; try rfl
    · exact (show _ = k0_pay102 (Scalar.cmpi .eq (w14 (grid0.coords t)) 0#32) (View.ld (arg13.view.read (Elt F) (harg13.unread (open1 t.val ua))) (Rect.unit (s := S2x1032x256) (k0_off49 (grid0.coords t)) S1x8x256.size (k0_off49_inb _))) from rfl).trans (by rw [ea])
  · iexists _; isplitr
    swap; · iexact H14
    ipureintro
    refine (u_read arg14.view _ [] t (prod x1 (wstep t.val wv x3)) _ ev _ _ ?_ ?_)
    · refine (show _ = k0_pay1 (prod (arg1.view.read (Elt F) (harg1.unread x1)) (arg12.view.readCov [⟨(Rect.unit (s := S4096x256) ![0, 0] S4096x256.size inb_S4096x256_S4096x256_0_0), k0_pay6 (View.readAt (Elt F) arg3.view (Rect.unit (s := S4096x256) ![0, 0] S4096x256.size inb_S4096x256_S4096x256_0_0).toLoadRect (harg3.unread x3))⟩] (Rect.unit (s := S4096x256) ![0, 0] S4096x256.size inb_S4096x256_S4096x256_0_0).toLoadRect)) from rfl).trans ?_
      rw [View.readCov_full, whole_ld, harg3.read_unread, harg1.read_unread]
      unfold wstep; rw [if_pos hw]; try rfl
    · exact (show _ = k0_pay102 (Scalar.cmpi .eq (w14 (grid0.coords t)) 0#32) (View.ld (arg14.view.read (Elt F) (harg14.unread (open1 t.val uv))) (Rect.unit (s := S2x1032x256) (k0_off49 (grid0.coords t)) S1x8x256.size (k0_off49_inb _))) from rfl).trans (by rw [ev])

end Cert.KernelUpIdeal.Blocks

end
-- ==== Proof.UpRunB.lean ====
/-
The up projection's body run at the first row block of a column block, after the first point, from what it finds to what it leaves.
-/
module

public import proofs.«01_k».proof.Proof.Gen.KernelUpIdeal.Frame
public import proofs.«01_k».proof.Proof.Gen.KernelUpIdeal.Skeleton
public import Idealize.ShloMosaic.Lib.WritesUnit
public import Idealize.ShloMosaic.Lib.Pipeline.ValueKit
public import proofs.«01_k».proof.Proof.UpRead
public import Idealize.ShloMosaic.Lib.VecWindow

@[expose] public section

set_option maxRecDepth 16384

noncomputable section

namespace Cert.KernelUpIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelUpIdeal.Gen

variable {F : FTy → Type} [FloatOps F]

local notation "𝕄" => MT nD τ sig Unit (Elt F) ℕ (UR sig nD τ) ℕ

set_option maxHeartbeats 1000000 in
/-- The whole body: the first row block of a column block, after the first point. -/
theorem runB (c : Dev nD) (t : Fin grid0.N) (i : grid0.Coords) (hi : i = grid0.coords t) (arg1 : Memref sig .tc .vmem S1024x4096 .bf16) (harg1 : arg1.IsWhole) (arg2 : Memref sig .tc .vmem S4096x256 .f32) (harg2 : arg2.IsWhole) (arg3 : Memref sig .tc .vmem S4096x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S1024x256 .bf16) (harg9 : arg9.IsWhole) (arg10 : Memref sig .tc .vmem S32x4096 .bf16) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S2x1032x256 .f32) (harg13 : arg13.IsWhole) (arg14 : Memref sig .tc .vmem S2x1032x256 .f32) (harg14 : arg14.IsWhole)
    (hc1 : ¬cond1 i) (hc2 : cond2 i)
    (x1 : Vec F S1024x4096 .bf16) (x2 x3 : Vec F S4096x256 .f32) (x4 x5 : Vec F S3x256 .f32) (x6 x7 : Vec F S1x256 .f32)
    (x8 : Vec F S32x4096 .f32) (wa wv : Vec F S4096x256 .bf16) (ua uv : Vec F S2x1032x256 .f32) (d9 : Vec F S1024x256 .bf16) (d10 : Vec F S32x4096 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare wa ∗ owns (c : Thread nD τ) arg12 fullShare wv ∗ owns (c : Thread nD τ) arg13 fullShare ua ∗ owns (c : Thread nD τ) arg14 fullShare uv ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (act x4 x5 x6 x7 (open1 t.val ua) (open1 t.val uv) (slot t)) ∗ owns (c : Thread nD τ) arg10 fullShare (k0_pay2 x8) ∗ owns (c : Thread nD τ) arg11 fullShare (wstep t.val wa x2) ∗ owns (c : Thread nD τ) arg12 fullShare (wstep t.val wv x3) ∗ owns (c : Thread nD τ) arg13 fullShare (ustep t.val (open1 t.val ua) (prod x1 (wstep t.val wa x2))) ∗ owns (c : Thread nD τ) arg14 fullShare (ustep t.val (open1 t.val uv) (prod x1 (wstep t.val wv x3)))) -∗ K ⟨⟩))
      ⊢ wp frame (wpE (defs₀ (F := F)) Variants.none c none) E (cc0_ffn_up_conv_glu i arg1 harg1 arg2 harg2 arg3 harg3 arg4 harg4 arg5 harg5 arg6 harg6 arg7 harg7 arg8 harg8 arg9 harg9 arg10 harg10 arg11 harg11 arg12 harg12 arg13 harg13 arg14 harg14) K := by
  have hz : ¬(t.val = 0) := by subst hi; exact fun h => hc1 ((cond1_iff t).2 h)
  have hw : (min t.val 343 % 8 = 0 ∧ t.val < 344) := by subst hi; exact (cond2_iff t).1 hc2
  simp only [cc0_ffn_up_conv_glu_eq_skeleton]; unfold cc0_ffn_up_conv_glu_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc1 | sl_exact hc2)
  sl_step
  subst hi
  have ea : (arg13.view.read (Elt F) (harg13.unread ua)) = open1 t.val ua := (harg13.read_unread ua).trans (by unfold open1; rw [if_neg hz])
  have ev : (arg14.view.read (Elt F) (harg14.unread uv)) = open1 t.val uv := (harg14.read_unread uv).trans (by unfold open1; rw [if_neg hz])
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine (act_read arg9.view _ t (arg4.view.read (Elt F) (harg4.unread x4)) (arg5.view.read (Elt F) (harg5.unread x5)) (arg6.view.read (Elt F) (harg6.unread x6)) (arg7.view.read (Elt F) (harg7.unread x7)) (arg13.view.read (Elt F) (harg13.unread ua)) (arg14.view.read (Elt F) (harg14.unread uv)) _ _ _ _ _ _ _ _ _ _ _ _ _ _ _ _ ?_ ?_ ?_ ?_ ?_ ?_ ?_ ?_ ?_ ?_ ?_ ?_ ?_ ?_ ?_ ?_).trans ?_
    iterate 16 (· rfl)
    rw [ea, ev, harg4.read_unread, harg5.read_unread, harg6.read_unread, harg7.read_unread]
  isplitl [H10]
  · iexists _; isplitr
    swap; · iexact H10
    ipureintro
    exact whole_read arg10.view _ _ _ (by rfl) (arg8.view.read (Elt F) (harg8.unread x8)) x8 (harg8.read_unread x8)
  isplitl [H11]
  · iexists _; isplitr
    swap; · iexact H11
    ipureintro
    unfold wstep; rw [if_pos hw]
    exact (whole_w arg11.view _ (k0_pay5 (View.readAt (Elt F) arg2.view (Rect.unit (s := S4096x256) ![0, 0] S4096x256.size inb_S4096x256_S4096x256_0_0).toLoadRect (harg2.unread x2)))).trans (by rw [whole_ld, harg2.read_unread]; try rfl)
  isplitl [H12]
  · iexists _; isplitr
    swap; · iexact H12
    ipureintro
    unfold wstep; rw [if_pos hw]
    exact (whole_w arg12.view _ (k0_pay6 (View.readAt (Elt F) arg3.view (Rect.unit (s := S4096x256) ![0, 0] S4096x256.size inb_S4096x256_S4096x256_0_0).toLoadRect (harg3.unread x3)))).trans (by rw [whole_ld, harg3.read_unread]; try rfl)
  isplitl [H13]
  · iexists _; isplitr
    swap; · iexact H13
    ipureintro
    refine (u_read arg13.view _ [] t (prod x1 (wstep t.val wa x2)) _ ea _ _ ?_ ?_)
    · refine (show _ = k0_pay1 (prod (arg1.view.read (Elt F) (harg1.unread x1)) (arg11.view.readCov [⟨(Rect.unit (s := S4096x256) ![0, 0] S4096x256.size inb_S4096x256_S4096x256_0_0), k0_pay5 (View.readAt (Elt F) arg2.view (Rect.unit (s := S4096x256) ![0, 0] S4096x256.size inb_S4096x256_S4096x256_0_0).toLoadRect (harg2.unread x2))⟩] (Rect.unit (s := S4096x256) ![0, 0] S4096x256.size inb_S4096x256_S4096x256_0_0).toLoadRect)) from rfl).trans ?_
      rw [View.readCov_full, whole_ld, harg2.read_unread, harg1.read_unread]
      unfold wstep; rw [if_pos hw]; try rfl
    · exact (show _ = k0_pay102 (Scalar.cmpi .eq (w14 (grid0.coords t)) 0#32) (View.ld (arg13.view.read (Elt F) (harg13.unread ua)) (Rect.unit (s := S2x1032x256) (k0_off49 (grid0.coords t)) S1x8x256.size (k0_off49_inb _))) from rfl).trans (by rw [ea])
  · iexists _; isplitr
    swap; · iexact H14
    ipureintro
    refine (u_read arg14.view _ [] t (prod x1 (wstep t.val wv x3)) _ ev _ _ ?_ ?_)
    · refine (show _ = k0_pay1 (prod (arg1.view.read (Elt F) (harg1.unread x1)) (arg12.view.readCov [⟨(Rect.unit (s := S4096x256) ![0, 0] S4096x256.size inb_S4096x256_S4096x256_0_0), k0_pay6 (View.readAt (Elt F) arg3.view (Rect.unit (s := S4096x256) ![0, 0] S4096x256.size inb_S4096x256_S4096x256_0_0).toLoadRect (harg3.unread x3))⟩] (Rect.unit (s := S4096x256) ![0, 0] S4096x256.size inb_S4096x256_S4096x256_0_0).toLoadRect)) from rfl).trans ?_
      rw [View.readCov_full, whole_ld, harg3.read_unread, harg1.read_unread]
      unfold wstep; rw [if_pos hw]; try rfl
    · exact (show _ = k0_pay102 (Scalar.cmpi .eq (w14 (grid0.coords t)) 0#32) (View.ld (arg14.view.read (Elt F) (harg14.unread uv)) (Rect.unit (s := S2x1032x256) (k0_off49 (grid0.coords t)) S1x8x256.size (k0_off49_inb _))) from rfl).trans (by rw [ev])

end Cert.KernelUpIdeal.Blocks

end
-- ==== Proof.UpRunC.lean ====
/-
The up projection's body run at the steps that are neither a first point nor the first row block of a column block, from what it finds to what it leaves.
-/
module

public import proofs.«01_k».proof.Proof.Gen.KernelUpIdeal.Frame
public import proofs.«01_k».proof.Proof.Gen.KernelUpIdeal.Skeleton
public import Idealize.ShloMosaic.Lib.WritesUnit
public import Idealize.ShloMosaic.Lib.Pipeline.ValueKit
public import proofs.«01_k».proof.Proof.UpRead
public import Idealize.ShloMosaic.Lib.VecWindow

@[expose] public section

set_option maxRecDepth 16384

noncomputable section

namespace Cert.KernelUpIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelUpIdeal.Gen

variable {F : FTy → Type} [FloatOps F]

local notation "𝕄" => MT nD τ sig Unit (Elt F) ℕ (UR sig nD τ) ℕ

set_option maxHeartbeats 1000000 in
/-- The whole body: the steps that are neither a first point nor the first row block of a column block. -/
theorem runC (c : Dev nD) (t : Fin grid0.N) (i : grid0.Coords) (hi : i = grid0.coords t) (arg1 : Memref sig .tc .vmem S1024x4096 .bf16) (harg1 : arg1.IsWhole) (arg2 : Memref sig .tc .vmem S4096x256 .f32) (harg2 : arg2.IsWhole) (arg3 : Memref sig .tc .vmem S4096x256 .f32) (harg3 : arg3.IsWhole) (arg4 : Memref sig .tc .vmem S3x256 .f32) (harg4 : arg4.IsWhole) (arg5 : Memref sig .tc .vmem S3x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S32x4096 .f32) (harg8 : arg8.IsWhole) (arg9 : Memref sig .tc .vmem S1024x256 .bf16) (harg9 : arg9.IsWhole) (arg10 : Memref sig .tc .vmem S32x4096 .bf16) (harg10 : arg10.IsWhole) (arg11 : Memref sig .tc .vmem S4096x256 .bf16) (harg11 : arg11.IsWhole) (arg12 : Memref sig .tc .vmem S4096x256 .bf16) (harg12 : arg12.IsWhole) (arg13 : Memref sig .tc .vmem S2x1032x256 .f32) (harg13 : arg13.IsWhole) (arg14 : Memref sig .tc .vmem S2x1032x256 .f32) (harg14 : arg14.IsWhole)
    (hc1 : ¬cond1 i) (hc2 : ¬cond2 i)
    (x1 : Vec F S1024x4096 .bf16) (x2 x3 : Vec F S4096x256 .f32) (x4 x5 : Vec F S3x256 .f32) (x6 x7 : Vec F S1x256 .f32)
    (x8 : Vec F S32x4096 .f32) (wa wv : Vec F S4096x256 .bf16) (ua uv : Vec F S2x1032x256 .f32) (d9 : Vec F S1024x256 .bf16) (d10 : Vec F S32x4096 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare wa ∗ owns (c : Thread nD τ) arg12 fullShare wv ∗ owns (c : Thread nD τ) arg13 fullShare ua ∗ owns (c : Thread nD τ) arg14 fullShare uv ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (act x4 x5 x6 x7 (open1 t.val ua) (open1 t.val uv) (slot t)) ∗ owns (c : Thread nD τ) arg10 fullShare (k0_pay2 x8) ∗ owns (c : Thread nD τ) arg11 fullShare (wstep t.val wa x2) ∗ owns (c : Thread nD τ) arg12 fullShare (wstep t.val wv x3) ∗ owns (c : Thread nD τ) arg13 fullShare (ustep t.val (open1 t.val ua) (prod x1 (wstep t.val wa x2))) ∗ owns (c : Thread nD τ) arg14 fullShare (ustep t.val (open1 t.val uv) (prod x1 (wstep t.val wv x3)))) -∗ K ⟨⟩))
      ⊢ wp frame (wpE (defs₀ (F := F)) Variants.none c none) E (cc0_ffn_up_conv_glu i arg1 harg1 arg2 harg2 arg3 harg3 arg4 harg4 arg5 harg5 arg6 harg6 arg7 harg7 arg8 harg8 arg9 harg9 arg10 harg10 arg11 harg11 arg12 harg12 arg13 harg13 arg14 harg14) K := by
  have hz : ¬(t.val = 0) := by subst hi; exact fun h => hc1 ((cond1_iff t).2 h)
  have hw : ¬(min t.val 343 % 8 = 0 ∧ t.val < 344) := by subst hi; exact fun h => hc2 ((cond2_iff t).2 h)
  simp only [cc0_ffn_up_conv_glu_eq_skeleton]; unfold cc0_ffn_up_conv_glu_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc1 | sl_exact hc2)
  sl_step
  subst hi
  have ea : (arg13.view.read (Elt F) (harg13.unread ua)) = open1 t.val ua := (harg13.read_unread ua).trans (by unfold open1; rw [if_neg hz])
  have ev : (arg14.view.read (Elt F) (harg14.unread uv)) = open1 t.val uv := (harg14.read_unread uv).trans (by unfold open1; rw [if_neg hz])
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine (act_read arg9.view _ t (arg4.view.read (Elt F) (harg4.unread x4)) (arg5.view.read (Elt F) (harg5.unread x5)) (arg6.view.read (Elt F) (harg6.unread x6)) (arg7.view.read (Elt F) (harg7.unread x7)) (arg13.view.read (Elt F) (harg13.unread ua)) (arg14.view.read (Elt F) (harg14.unread uv)) _ _ _ _ _ _ _ _ _ _ _ _ _ _ _ _ ?_ ?_ ?_ ?_ ?_ ?_ ?_ ?_ ?_ ?_ ?_ ?_ ?_ ?_ ?_ ?_).trans ?_
    iterate 16 (· rfl)
    rw [ea, ev, harg4.read_unread, harg5.read_unread, harg6.read_unread, harg7.read_unread]
  isplitl [H10]
  · iexists _; isplitr
    swap; · iexact H10
    ipureintro
    exact whole_read arg10.view _ _ _ (by rfl) (arg8.view.read (Elt F) (harg8.unread x8)) x8 (harg8.read_unread x8)
  isplitl [H11]
  · iexists _; isplitr
    swap; · iexact H11
    ipureintro
    unfold wstep; rw [if_neg hw]; exact harg11.read_unread _
  isplitl [H12]
  · iexists _; isplitr
    swap; · iexact H12
    ipureintro
    unfold wstep; rw [if_neg hw]; exact harg12.read_unread _
  isplitl [H13]
  · iexists _; isplitr
    swap; · iexact H13
    ipureintro
    refine (u_read arg13.view _ [] t (prod (arg1.view.read (Elt F) (harg1.unread x1)) (arg11.view.read (Elt F) (harg11.unread wa))) _ ea _ _ ?_ ?_).trans ?_
    · exact (show _ = k0_pay1 (prod (arg1.view.read (Elt F) (harg1.unread x1)) (View.readAt (Elt F) arg11.view (Rect.unit (s := S4096x256) ![0, 0] S4096x256.size inb_S4096x256_S4096x256_0_0).toLoadRect (harg11.unread wa))) from rfl).trans (by rw [whole_ld])
    · exact (show _ = k0_pay102 (Scalar.cmpi .eq (w14 (grid0.coords t)) 0#32) (View.ld (arg13.view.read (Elt F) (harg13.unread ua)) (Rect.unit (s := S2x1032x256) (k0_off49 (grid0.coords t)) S1x8x256.size (k0_off49_inb _))) from rfl).trans (by rw [ea])
    unfold wstep; rw [if_neg hw, harg1.read_unread, harg11.read_unread]
  · iexists _; isplitr
    swap; · iexact H14
    ipureintro
    refine (u_read arg14.view _ [] t (prod (arg1.view.read (Elt F) (harg1.unread x1)) (arg12.view.read (Elt F) (harg12.unread wv))) _ ev _ _ ?_ ?_).trans ?_
    · exact (show _ = k0_pay1 (prod (arg1.view.read (Elt F) (harg1.unread x1)) (View.readAt (Elt F) arg12.view (Rect.unit (s := S4096x256) ![0, 0] S4096x256.size inb_S4096x256_S4096x256_0_0).toLoadRect (harg12.unread wv))) from rfl).trans (by rw [whole_ld])
    · exact (show _ = k0_pay102 (Scalar.cmpi .eq (w14 (grid0.coords t)) 0#32) (View.ld (arg14.view.read (Elt F) (harg14.unread uv)) (Rect.unit (s := S2x1032x256) (k0_off49 (grid0.coords t)) S1x8x256.size (k0_off49_inb _))) from rfl).trans (by rw [ev])
    unfold wstep; rw [if_neg hw, harg1.read_unread, harg12.read_unread]

end Cert.KernelUpIdeal.Blocks

end
-- ==== Proof.UpFrame.lean ====
/-
The up projection with the gate's convolution: what its carried buffers hold point by point, and the run of the whole call.
-/
module

public import proofs.«01_k».proof.Proof.Gen.KernelUpIdeal.Frame
public import proofs.«01_k».proof.Proof.Gen.KernelUpIdeal.Skeleton
public import Idealize.ShloMosaic.Lib.WritesUnit
public import Idealize.ShloMosaic.Lib.Pipeline.FrameBody
public import Idealize.ShloMosaic.Lib.Claim
public import proofs.«01_k».proof.Proof.UpRunA
public import proofs.«01_k».proof.Proof.UpRunB
public import proofs.«01_k».proof.Proof.UpRunC

@[expose] public section

set_option maxRecDepth 16384

noncomputable section

namespace Cert.KernelUpIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scM0_0 : Memref sig .tc .vmem S4096x256 .bf16 := Memref.whole cc0_scratch0
abbrev scM0_1 : Memref sig .tc .vmem S4096x256 .bf16 := Memref.whole cc0_scratch1
abbrev scM0_2 : Memref sig .tc .vmem S2x1032x256 .f32 := Memref.whole cc0_scratch2
abbrev scM0_3 : Memref sig .tc .vmem S2x1032x256 .f32 := Memref.whole cc0_scratch3

/-- The scoped buffers the body carries, each owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## What the carried buffers hold, point by point -/

/-- One point: the held blocks of the two weights, then the held rows of the two products. -/
def step (c : Dev nD) (t : Fin cfg0.N) (s : (Vec F S4096x256 .bf16 × Vec F S4096x256 .bf16 × Vec F S2x1032x256 .f32 × Vec F S2x1032x256 .f32)) :
    (Vec F S4096x256 .bf16 × Vec F S4096x256 .bf16 × Vec F S2x1032x256 .f32 × Vec F S2x1032x256 .f32) :=
  (wstep t.val s.1 (iblk m c 1 t), wstep t.val s.2.1 (iblk m c 2 t),
    ustep t.val (open1 t.val s.2.2.1) (prod (iblk m c 0 t) (wstep t.val s.1 (iblk m c 1 t))),
    ustep t.val (open1 t.val s.2.2.2) (prod (iblk m c 0 t) (wstep t.val s.2.1 (iblk m c 2 t))))

/-- Contents to start from: the first point's step does not depend on them (`step_zero`). -/
def st0 : (Vec F S4096x256 .bf16 × Vec F S4096x256 .bf16 × Vec F S2x1032x256 .f32 × Vec F S2x1032x256 .f32) :=
  (fun _ => Scalar.ofBits .bf16 0x0000#16, fun _ => Scalar.ofBits .bf16 0x0000#16,
    fun _ => Scalar.ofBits .f32 0x00000000#32, fun _ => Scalar.ofBits .f32 0x00000000#32)

/-- What the carried buffers hold after point `n`. -/
def st (c : Dev nD) : (n : ℕ) → n < cfg0.N → (Vec F S4096x256 .bf16 × Vec F S4096x256 .bf16 × Vec F S2x1032x256 .f32 × Vec F S2x1032x256 .f32)
  | 0, hn => step m c ⟨0, hn⟩ st0
  | n + 1, hn => step m c ⟨n + 1, hn⟩ (st c n (Nat.lt_of_succ_lt hn))

/-- What they hold before point `n`. -/
def pre (c : Dev nD) : (n : ℕ) → n < cfg0.N → (Vec F S4096x256 .bf16 × Vec F S4096x256 .bf16 × Vec F S2x1032x256 .f32 × Vec F S2x1032x256 .f32)
  | 0, _ => st0
  | n + 1, hn => st m c n (Nat.lt_of_succ_lt hn)

theorem st_eq (c : Dev nD) (n : ℕ) (hn : n < cfg0.N) : st m c n hn = step m c ⟨n, hn⟩ (pre m c n hn) := by
  cases n <;> rfl

theorem pre_pos (c : Dev nD) (n : ℕ) (hn : n < cfg0.N) (hz : n ≠ 0) : pre m c n hn = st m c (n - 1) (by omega) := by
  cases n with
  | zero => exact absurd rfl hz
  | succ n => rfl

theorem open1_one (u : Vec F S2x1032x256 .f32) (a : Fin 1032) (b : Fin 256) :
    open1 0 u (ix3 1 a b) = Scalar.ofBits .f32 0x00000000#32 := by
  unfold open1; rw [if_pos rfl]; exact if_pos rfl

theorem ustep_zero (u u' : Vec F S2x1032x256 .f32) (q : FVec F S1024x256 .f32) :
    ustep 0 (open1 0 u) q = ustep 0 (open1 0 u') q := by
  funext y
  unfold ustep open1
  by_cases h0 : (y 0).val = 0 % 2
  · rw [if_pos h0, if_pos h0]
    by_cases h1 : (y 1).val < 8
    · rw [dif_pos h1, dif_pos h1, if_pos (by decide), if_pos (by decide)]
    · rw [dif_neg h1, dif_neg h1]
  · have h1 : (y 0).val = 1 := by have := (y 0).isLt; change (y 0).val < 2 at this; omega
    rw [if_neg h0, if_neg h0, if_pos rfl, if_pos rfl, if_pos h1, if_pos h1]

theorem wstep_zero (w w' : Vec F S4096x256 .bf16) (x : Vec F S4096x256 .f32) : wstep 0 w x = wstep 0 w' x := by
  unfold wstep; rw [if_pos (by decide), if_pos (by decide)]

/-- The first point's step does not depend on what the carried buffers hold. -/
theorem step_zero (c : Dev nD) (t : Fin cfg0.N) (hz : t.val = 0) (s s' : (Vec F S4096x256 .bf16 × Vec F S4096x256 .bf16 × Vec F S2x1032x256 .f32 × Vec F S2x1032x256 .f32)) :
    step m c t s = step m c t s' := by
  unfold step; rw [hz, wstep_zero s.1 s'.1, wstep_zero s.2.1 s'.2.1, ustep_zero s.2.2.1 s'.2.2.1, ustep_zero s.2.2.2 s'.2.2.2]

theorem conv_zero (W : Vec F S3x256 .f32) (B : Vec F S1x256 .f32) (u u' : Vec F S2x1032x256 .f32) (r : Fin 1024) (j : Fin 256) :
    conv W B (open1 0 u) 1 r j = conv W B (open1 0 u') 1 r j := by
  unfold conv; simp only [open1_one]

/-- Nor do its activations. -/
theorem act_zero (Wa Wv : Vec F S3x256 .f32) (Ba Bv : Vec F S1x256 .f32) (ua uv ua' uv' : Vec F S2x1032x256 .f32)
    (t : Fin grid0.N) (hz : t.val = 0) :
    act Wa Wv Ba Bv (open1 t.val ua) (open1 t.val uv) (slot t) = act Wa Wv Ba Bv (open1 t.val ua') (open1 t.val uv') (slot t) := by
  have hs : slot t = 1 := by unfold slot; apply Fin.ext; simp only [hz]; rfl
  rw [hs, hz]; funext y; unfold act; exact congrArg₂ glu (conv_zero _ _ _ _ _ _) (conv_zero _ _ _ _ _ _)

/-! ## The invariant and the proof data -/

/-- Before the first point every carried buffer at anything; afterwards at what the point before left. -/
def PhiS (c : Dev nD) : (n : ℕ) → n ≤ cfg0.N → sProp 𝕄
  | 0, _ => Pipeline.ΦA spec0 c
  | n + 1, hn => iprop(iprop(owns (c : Thread nD τ) scM0_0 fullShare (st m c n hn).1 ∗ owns (c : Thread nD τ) scM0_1 fullShare (st m c n hn).2.1 ∗ owns (c : Thread nD τ) scM0_2 fullShare (st m c n hn).2.2.1 ∗ owns (c : Thread nD τ) scM0_3 fullShare (st m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (st m c n hn).1 ∗ owns (c : Thread nD τ) scM0_1 fullShare (st m c n hn).2.1 ∗ owns (c : Thread nD τ) scM0_2 fullShare (st m c n hn).2.2.1 ∗ owns (c : Thread nD τ) scM0_3 fullShare (st m c n hn).2.2.2) ∗ (∃ r, prngReg c r)) := rfl

theorem PhiS_pos (c : Dev nD) (n : ℕ) (h : n < cfg0.N) (hz : n ≠ 0) :
    PhiS m c n h.le = iprop(iprop(owns (c : Thread nD τ) scM0_0 fullShare (pre m c n h).1 ∗ owns (c : Thread nD τ) scM0_1 fullShare (pre m c n h).2.1 ∗ owns (c : Thread nD τ) scM0_2 fullShare (pre m c n h).2.2.1 ∗ owns (c : Thread nD τ) scM0_3 fullShare (pre m c n h).2.2.2) ∗ (∃ r, prngReg c r)) := by
  cases n with
  | zero => exact absurd rfl hz
  | succ n => rfl

/-- The block of activations point `t` leaves. -/
def outA (c : Dev nD) (t : Fin cfg0.N) : Vec F S1024x256 .bf16 :=
  act (iblk m c 3 t) (iblk m c 4 t) (iblk m c 5 t) (iblk m c 6 t) (open1 t.val (pre m c t.val t.isLt).2.2.1)
    (open1 t.val (pre m c t.val t.isLt).2.2.2) (slot t)

/-- The arrays as the region finds them; after a point each input's buffer at its block and the outputs' at what the point
makes; arrays read by two windows are shared between them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outA m c t
    | ⟨9, _⟩ => k0_pay2 (iblk m c 7 t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outA m c t := by dsimp only [dats]
theorem after0_9 (c : Dev nD) (t : Fin cfg0.N) : (dats m 0 c).after 9 t = k0_pay2 (iblk m c 7 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t))

set_option maxHeartbeats 3200000 in
/-- The body at any point: the inputs hold their blocks, the carried buffers what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ, st_eq m c t.val t.isLt]
  by_cases hz : t.val = 0
  · rw [PhiS_castSucc m c t, PhiS_zero m c _ _ hz, PhiA0_eq]
    iintro ⟨⟨⟨⟨%wa, S0⟩, ⟨%wv, S1⟩, ⟨%ua, S2⟩, ⟨%uv, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [step_zero m c t hz _ (wa, wv, ua, uv), show outA m c t = _ from act_zero _ _ _ _ _ _ ua uv t hz]
    iapply (runA c t (grid0.coords t) rfl _ _ _ _ _ _ _ _ _ _ _ _ _ _ _ _ _ _ _ _ _ _ _ _ _ _ _ _ ((cond1_iff t).2 hz) ((cond2_iff t).2 ⟨by rw [hz]; rfl, by omega⟩) (iblk m c 0 t) (iblk m c 1 t) (iblk m c 2 t) (iblk m c 3 t) (iblk m c 4 t) (iblk m c 5 t) (iblk m c 6 t) (iblk m c 7 t) wa wv ua uv _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    iintro ⟨H0, H1, H2, H3, H4, H5, H6, H7, H8, H9, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [PhiS_castSucc m c t, PhiS_pos m c t.val t.isLt hz]
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    by_cases hw : min t.val 343 % 8 = 0 ∧ t.val < 344
    · iapply (runB c t (grid0.coords t) rfl _ _ _ _ _ _ _ _ _ _ _ _ _ _ _ _ _ _ _ _ _ _ _ _ _ _ _ _ (fun h => hz ((cond1_iff t).1 h)) ((cond2_iff t).2 hw) (iblk m c 0 t) (iblk m c 1 t) (iblk m c 2 t) (iblk m c 3 t) (iblk m c 4 t) (iblk m c 5 t) (iblk m c 6 t) (iblk m c 7 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      isplitl [S3]; · iexact S3
      iintro ⟨H0, H1, H2, H3, H4, H5, H6, H7, H8, H9, S0, S1, S2, S3⟩
      isplitl [S0 S1 S2 S3 Hg]
      · isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iapply (runC c t (grid0.coords t) rfl _ _ _ _ _ _ _ _ _ _ _ _ _ _ _ _ _ _ _ _ _ _ _ _ _ _ _ _ (fun h => hz ((cond1_iff t).1 h)) (fun h => hw ((cond2_iff t).1 h)) (iblk m c 0 t) (iblk m c 1 t) (iblk m c 2 t) (iblk m c 3 t) (iblk m c 4 t) (iblk m c 5 t) (iblk m c 6 t) (iblk m c 7 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [S0]; · iexact S0
      isplitl [S1]; · iexact S1
      isplitl [S2]; · iexact S2
      isplitl [S3]; · iexact S3
      iintro ⟨H0, H1, H2, H3, H4, H5, H6, H7, H8, H9, S0, S1, S2, S3⟩
      isplitl [S0 S1 S2 S3 Hg]
      · isplitl [S0 S1 S2 S3]
        · isplitl [S0]; · iexact S0
          isplitl [S1]; · iexact S1
          isplitl [S2]; · iexact S2
          iexact S3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (344 + 1) (show 344 < grid0.N by rw [N_0]; omega) from rfl, PhiS_succ, PhiA0_eq]
  iintro ⟨⟨S0, S1, S2, S3⟩, Hg⟩
  isplitl [S0 S1 S2 S3]
  · isplitl [S0]; · iexists _; iexact S0
    isplitl [S1]; · iexists _; iexact S1
    isplitl [S2]; · iexists _; iexact S2
    iexists _; iexact S3
  iexact Hg

/-! ## The run and the frame -/

set_option backward.isDefEq.respectTransparency.types false in
/-- Every execution terminates with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelUpIdeal.Blocks

end
-- ==== Proof.UpValue.lean ====
/-
The up projection with the gate's convolution at the extended reals: the held rows are rows of the matrix product, and each
block of activations is the reference's.
-/
module

public import proofs.«01_k».proof.Proof.UpFrame
public import proofs.«01_k».proof.Proof.Gen.ReferenceUpIdeal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelUpIdeal.Blocks

open Cert.KernelUpIdeal Cert.KernelUpIdeal.Gen Cert.ReferenceUpIdeal.Read

/-! ## The product -/

/-- Adding the literal zero changes nothing. -/
theorem pay89_eq (v : Vec Ideal S1024x256 .bf16) : k0_pay89 (F := Ideal) k0_pay10 v = v := by
  funext y
  pointwise [k0_pay89, k0_pay10]
  split
  · split
    · exact add_zero _
    · exact add_zero _
  · refine congrArg v (funext fun a => Fin.ext ?_)
    match a with
    | ⟨0, _⟩ => show 16 + ((y 0).val - 16) = (y 0).val; omega
    | ⟨1, _⟩ => rfl

/-- One block of 256 columns of the rows, the literal zero added. -/
def cols (x : Vec Ideal S1024x4096 .bf16) (n : Fin 16) : Vec Ideal S1024x256 .bf16 :=
  k0_pay89 k0_pay10 (View.ld x (Rect.unit (s := S1024x4096) ![0, 256 * n.val] S1024x256.size (fun a => match a with
    | ⟨0, _⟩ => by show 0 + 1024 ≤ 1024; omega
    | ⟨1, _⟩ => by show 256 * n.val + 256 ≤ 4096; omega)))

theorem lhs_eq (x : Vec Ideal S1024x4096 .bf16) : lhs x = x := by
  funext j
  have hj : (j 1).val < 4096 := (j 1).isLt
  refine (concatenate_ofFn_apply (t := S1024x4096) (s₁ := S1024x256) 1 (cols x)
    concatenates_S1024x256_S1024x256_S1024x256_S1024x256_S1024x256_S1024x256_S1024x256_S1024x256_S1024x256_S1024x256_S1024x256_S1024x256_S1024x256_S1024x256_S1024x256_S1024x256_S1024x4096_d1
    rfl 256 rfl j ⟨(j 1).val / 256, by omega⟩ rfl (ix2 (n0 := 1024) (n1 := 256) (j 0) ⟨(j 1).val % 256, by omega⟩) rfl (fun b hb => ?_)).trans ?_
  · match b with
    | ⟨0, _⟩ => rfl
    | ⟨1, _⟩ => exact absurd rfl hb
  · unfold cols
    rw [pay89_eq]
    refine congrArg x (funext fun a => Fin.ext ?_)
    match a with
    | ⟨0, _⟩ => show 0 + 1 * (j 0).val = (j 0).val; omega
    | ⟨1, _⟩ => show 256 * ((j 1).val / 256) + 1 * ((j 1).val % 256) = (j 1).val; omega

/-- A held block of the weight: columns `o` to `o + 255`. -/
def Winv (x1 : (⟨Cert.ReferenceUpIdeal.S1x4096x22016, .f32⟩ : BufTy).Contents (Elt Ideal)) (o : ℕ) (w : Vec Ideal S4096x256 .bf16) : Prop :=
  ∀ (k : Fin 4096) (b : Fin 256) (i : Cert.ReferenceUpIdeal.S4096x22016.Idx), (i 0).val = k.val → (i 1).val = o + b.val →
    w (ix2 k b) = val_main_v1 (F := Ideal) x1 i

/-- A block of the rows: rows `R` to `R + 1023`. -/
def Xinv (x0 : (⟨Cert.ReferenceUpIdeal.S8192x4096, .bf16⟩ : BufTy).Contents (Elt Ideal)) (R : ℕ) (x : Vec Ideal S1024x4096 .bf16) : Prop :=
  ∀ (a : Fin 1024) (k : Fin 4096) (i : Cert.ReferenceUpIdeal.S8192x4096.Idx), (i 0).val = R + a.val → (i 1).val = k.val → x (ix2 a k) = x0 i

theorem prod_point (x0 : (⟨Cert.ReferenceUpIdeal.S8192x4096, .bf16⟩ : BufTy).Contents (Elt Ideal)) (x1 : (⟨Cert.ReferenceUpIdeal.S1x4096x22016, .f32⟩ : BufTy).Contents (Elt Ideal)) (R o : ℕ)
    (x : Vec Ideal S1024x4096 .bf16) (w : Vec Ideal S4096x256 .bf16) (hx : Xinv x0 R x) (hw : Winv x1 o w) (a : Fin 1024) (b : Fin 256)
    (i : Cert.ReferenceUpIdeal.S8192x22016.Idx) (h0 : (i 0).val = R + a.val) (h1 : (i 1).val = o + b.val) :
    prod x w (ix2 a b) = val_main_v2 (F := Ideal) x0 x1 i := by
  rw [val_main_v2_apply]
  unfold prod
  rw [lhs_eq]
  pointwise []
  refine Finset.sum_congr rfl fun k _ => ?_
  rw [hx a k (lidx_main_v2 i k) h0 rfl, hw k b (ridx_main_v2 i k) rfl h1]
  rfl

/-! ## The padded product of the reference -/

theorem sitofp_zero : (FloatOps.sitofp (F := Ideal) .f32 (0#32) : EReal) = 0 := by
  show (((0#32 : BitVec 32).toInt : ℝ) : EReal) = 0
  simp

theorem v5_low (x0 : (⟨Cert.ReferenceUpIdeal.S8192x4096, .bf16⟩ : BufTy).Contents (Elt Ideal)) (x1 : (⟨Cert.ReferenceUpIdeal.S1x4096x22016, .f32⟩ : BufTy).Contents (Elt Ideal))
    (i : Cert.ReferenceUpIdeal.S8194x22016.Idx) (h : (i 0).val < 2) : val_main_v5 (F := Ideal) x0 x1 i = (0 : EReal) := by
  pointwise [val_main_v5, val_main_call0_v0, val_main_c]
  rw [dif_neg (by omega)]
  exact sitofp_zero

theorem v5_high (x0 : (⟨Cert.ReferenceUpIdeal.S8192x4096, .bf16⟩ : BufTy).Contents (Elt Ideal)) (x1 : (⟨Cert.ReferenceUpIdeal.S1x4096x22016, .f32⟩ : BufTy).Contents (Elt Ideal))
    (i : Cert.ReferenceUpIdeal.S8194x22016.Idx) (j : Cert.ReferenceUpIdeal.S8192x22016.Idx) (h0 : (i 0).val = (j 0).val + 2) (h1 : (i 1).val = (j 1).val) :
    val_main_v5 (F := Ideal) x0 x1 i = val_main_v2 (F := Ideal) x0 x1 j := by
  unfold val_main_v5
  generalize val_main_v2 (F := Ideal) x0 x1 = g
  pointwise []
  have hj : (j 0).val < 8192 := (j 0).isLt
  rw [dif_pos (by omega)]
  refine congrArg g (funext fun a => Fin.ext ?_)
  match a with
  | ⟨0, _⟩ => show (i 0).val - 2 = (j 0).val; omega
  | ⟨1, _⟩ => exact h1

/-! ## The held rows -/

/-- Slot `n % 2` of the held rows from row 6 on: the padded product from row `1024 * (n % 8)`, columns `o + 256 * (n / 8)`
on. -/
def Uinv (x0 : (⟨Cert.ReferenceUpIdeal.S8192x4096, .bf16⟩ : BufTy).Contents (Elt Ideal)) (x1 : (⟨Cert.ReferenceUpIdeal.S1x4096x22016, .f32⟩ : BufTy).Contents (Elt Ideal)) (o n : ℕ) (u : Vec Ideal S2x1032x256 .f32) : Prop :=
  ∀ (p : Fin 2) (a : Fin 1032) (b : Fin 256) (i : Cert.ReferenceUpIdeal.S8194x22016.Idx), p.val = n % 2 → 6 ≤ a.val →
    (i 0).val = 1024 * (n % 8) + a.val - 6 → (i 1).val = o + 256 * (n / 8) + b.val → u (ix3 p a b) = val_main_v5 (F := Ideal) x0 x1 i

theorem zero_bits : (Scalar.ofBits (F := Ideal) .f32 0x00000000#32 : EReal) = 0 := by
  pointwise []

/-- One point's step of the held rows. -/
theorem ustep_inv (x0 : (⟨Cert.ReferenceUpIdeal.S8192x4096, .bf16⟩ : BufTy).Contents (Elt Ideal)) (x1 : (⟨Cert.ReferenceUpIdeal.S1x4096x22016, .f32⟩ : BufTy).Contents (Elt Ideal)) (o n : ℕ) (hn : n ≤ 343)
    (x : Vec Ideal S1024x4096 .bf16) (w : Vec Ideal S4096x256 .bf16) (u : Vec Ideal S2x1032x256 .f32)
    (hx : Xinv x0 (1024 * (n % 8)) x) (hw : Winv x1 (o + 256 * (n / 8)) w) (hu : n % 8 ≠ 0 → Uinv x0 x1 o (n - 1) u) :
    Uinv x0 x1 o n (ustep n u (prod x w)) := by
  intro p a b i hp ha h0 h1
  have hm : min n 343 = n := by omega
  unfold ustep
  rw [if_pos (show (ix3 p a b 0 : Fin _).val = n % 2 from hp), hm]
  by_cases h8 : a.val < 8
  · rw [dif_pos (show (ix3 p a b 1 : Fin _).val < 8 from h8)]
    by_cases hz : n % 8 = 0
    · rw [if_pos hz, v5_low x0 x1 i (by omega)]; exact zero_bits
    · rw [if_neg hz]
      refine hu hz ⟨1 - n % 2, by omega⟩ ⟨1024 + a.val, by omega⟩ b i ?_ ?_ ?_ ?_
      · show 1 - n % 2 = (n - 1) % 2; omega
      · show 6 ≤ 1024 + a.val; omega
      · show (i 0).val = 1024 * ((n - 1) % 8) + (1024 + a.val) - 6; omega
      · rw [h1]; omega
  · rw [dif_neg (show ¬ (ix3 p a b 1 : Fin _).val < 8 from h8)]
    have ha' : a.val < 1032 := a.isLt
    have hi : (i 1).val < 22016 := (i 1).isLt
    rw [v5_high x0 x1 i (ix2 (n0 := 8192) (n1 := 22016) ⟨(i 0).val - 2, by omega⟩ (i 1)) (by show (i 0).val = (i 0).val - 2 + 2; omega) rfl]
    refine prod_point x0 x1 (1024 * (n % 8)) (o + 256 * (n / 8)) x w hx hw ⟨a.val - 8, by omega⟩ b _ ?_ ?_
    · show (i 0).val - 2 = 1024 * (n % 8) + (a.val - 8); omega
    · exact h1

/-- One point's step of a held block of the weight. -/
theorem wstep_inv (x1 : (⟨Cert.ReferenceUpIdeal.S1x4096x22016, .f32⟩ : BufTy).Contents (Elt Ideal)) (o n : ℕ) (hn : n ≤ 343) (w : Vec Ideal S4096x256 .bf16) (x : Vec Ideal S4096x256 .f32)
    (hx : Winv x1 (o + 256 * (n / 8)) x) (hw : n % 8 ≠ 0 → Winv x1 (o + 256 * ((n - 1) / 8)) w) :
    Winv x1 (o + 256 * (n / 8)) (wstep n w x) := by
  intro k b i h0 h1
  have hm : min n 343 = n := by omega
  unfold wstep; rw [hm]
  by_cases hz : n % 8 = 0
  · rw [if_pos ⟨hz, by omega⟩]
    show k0_pay5 x (ix2 k b) = _
    pointwise [k0_pay5]
    exact hx k b i h0 h1
  · rw [if_neg fun h => hz h.1]
    exact hw hz k b i h0 (by rw [h1]; omega)

/-! ## The convolution -/

/-- Three rows of the taps, one of the bias and the held rows make an element of the reference's convolution. -/
theorem conv_point (x0 : (⟨Cert.ReferenceUpIdeal.S8192x4096, .bf16⟩ : BufTy).Contents (Elt Ideal)) (x1 : (⟨Cert.ReferenceUpIdeal.S1x4096x22016, .f32⟩ : BufTy).Contents (Elt Ideal)) (x2 : (⟨Cert.ReferenceUpIdeal.S1x3x22016, .f32⟩ : BufTy).Contents (Elt Ideal)) (x3 : (⟨Cert.ReferenceUpIdeal.S1x22016, .f32⟩ : BufTy).Contents (Elt Ideal)) (o n : ℕ)
    (K : Vec Ideal S3x256 .f32) (B : Vec Ideal S1x256 .f32) (u : Vec Ideal S2x1032x256 .f32) (p : Fin 2) (hp : p.val = n % 2)
    (hK : ∀ (k : Fin 3) (b : Fin 256) (i : Cert.ReferenceUpIdeal.S3x22016.Idx), (i 0).val = k.val → (i 1).val = o + 256 * (n / 8) + b.val → K (ix2 k b) = val_main_v3 (F := Ideal) x2 i)
    (hB : ∀ (b : Fin 256) (i : Cert.ReferenceUpIdeal.S22016.Idx), (i 0).val = o + 256 * (n / 8) + b.val → B (ix2 0 b) = val_main_v4 (F := Ideal) x3 i)
    (hu : Uinv x0 x1 o n u) (r : Fin 1024) (b : Fin 256) (i : Cert.ReferenceUpIdeal.S8192x22016.Idx)
    (h0 : (i 0).val = 1024 * (n % 8) + r.val) (h1 : (i 1).val = o + 256 * (n / 8) + b.val) :
    conv K B u p r b = val_main_v28 (F := Ideal) x0 x1 x2 x3 i := by
  have hi : (i 1).val < 22016 := (i 1).isLt
  have hm : (i 1).val % 22016 = (i 1).val := Nat.mod_eq_of_lt hi
  rw [val_main_v28_apply, val_main_v27_apply, val_main_v26_apply, val_main_v25_apply, val_main_v24_apply, val_main_v23_apply, val_main_v22_apply,
    val_main_v21_apply, val_main_v20_apply, val_main_v19_apply, val_main_v18_apply, val_main_v17_apply, val_main_v16_apply, val_main_v15_apply,
    val_main_v14_apply, val_main_v13_apply, val_main_v12_apply, val_main_v11_apply, val_main_v10_apply, val_main_v9_apply, val_main_v8_apply, val_main_v7_apply, val_main_v6_apply]
  unfold conv
  congr 1
  · congr 1
    · congr 1
      · exact hB b _ h1
      · congr 1
        · exact hK 0 b _ rfl (hm.trans h1)
        · exact hu p ⟨r.val + 6, by omega⟩ b _ hp (by show 6 ≤ r.val + 6; omega) (by show (i 0).val = 1024 * (n % 8) + (r.val + 6) - 6; omega) h1
    · congr 1
      · exact hK 1 b _ rfl (hm.trans h1)
      · exact hu p ⟨r.val + 7, by omega⟩ b _ hp (by show 6 ≤ r.val + 7; omega) (by show 1 + (i 0).val = 1024 * (n % 8) + (r.val + 7) - 6; omega) h1
  · congr 1
    · exact hK 2 b _ rfl (hm.trans h1)
    · exact hu p ⟨r.val + 8, by omega⟩ b _ hp (by show 6 ≤ r.val + 8; omega) (by show 2 + (i 0).val = 1024 * (n % 8) + (r.val + 8) - 6; omega) h1

/-- The gated unit of the reference. -/
theorem v33_glu (x0 : (⟨Cert.ReferenceUpIdeal.S8192x4096, .bf16⟩ : BufTy).Contents (Elt Ideal)) (x1 : (⟨Cert.ReferenceUpIdeal.S1x4096x22016, .f32⟩ : BufTy).Contents (Elt Ideal)) (x2 : (⟨Cert.ReferenceUpIdeal.S1x3x22016, .f32⟩ : BufTy).Contents (Elt Ideal)) (x3 : (⟨Cert.ReferenceUpIdeal.S1x22016, .f32⟩ : BufTy).Contents (Elt Ideal)) (i : Cert.ReferenceUpIdeal.S8192x11008.Idx) :
    val_main_v33 (F := Ideal) x0 x1 x2 x3 i
      = glu (F := Ideal) (val_main_v28 (F := Ideal) x0 x1 x2 x3 (idx_main_v29 i)) (val_main_v28 (F := Ideal) x0 x1 x2 x3 (idx_main_v30 i)) := by
  rw [val_main_v33_apply, val_main_v32_apply, val_main_v31_apply, val_main_v30_apply, val_main_v29_apply, val_main_call1_v5_apply, val_main_call1_v4_apply,
    val_main_call1_v3_apply, val_main_call1_v2_apply, val_main_call1_v1_apply, val_main_call1_v0_apply, val_main_v29_apply, val_main_call1_cst_apply, val_main_call1_cst_0_apply]
  unfold glu
  generalize val_main_v28 (F := Ideal) x0 x1 x2 x3 (idx_main_v29 i) = a
  generalize val_main_v28 (F := Ideal) x0 x1 x2 x3 (idx_main_v30 i) = v
  pointwise [Ideal.logistic]

/-! ## The blocks the points read -/

variable (m : (ℓ : Loc nD τ sig) → Buf (Elt Ideal) ℓ)

/-- Where the blocks lie: the point's own for what is multiplied, the point before's for what is convolved. -/
theorem idx : ∀ t : Fin cfg0.N, win0_0.index t = ![min t.val 343 % 8, 0]
    ∧ win0_1.index t = ![0, min t.val 343 / 8] ∧ win0_2.index t = ![0, 43 + min t.val 343 / 8]
    ∧ win0_3.index t = ![0, (t.val - 1) / 8] ∧ win0_4.index t = ![0, 43 + (t.val - 1) / 8]
    ∧ win0_5.index t = ![0, (t.val - 1) / 8] ∧ win0_6.index t = ![0, 43 + (t.val - 1) / 8]
    ∧ win0_7.index t = ![min t.val 343, 0] ∧ win0_8.index t = ![(t.val - 1) % 8, (t.val - 1) / 8] ∧ win0_9.index t = ![min t.val 343, 0] :=
  (by decide +kernel : ∀ t : Fin grid0.N, _)

theorem lt_345 (t : Fin cfg0.N) : t.val < 345 := lt_of_lt_of_eq t.isLt N_0

theorem iblk0 (c : Dev nD) (t : Fin cfg0.N) : Xinv (m ((c : Thread nD τ).loc main_arg0)) (1024 * (min t.val 343 % 8)) (iblk m c 0 t) := by
  intro a k i h0 h1
  blk_point [iblk, V, idx t, h0, h1]

theorem iblk1 (c : Dev nD) (t : Fin cfg0.N) : Winv (m ((c : Thread nD τ).loc main_arg1)) (0 + 256 * (min t.val 343 / 8)) (iblk m c 1 t) := by
  intro k b i h0 h1
  rw [val_main_v1_apply]
  blk_point [iblk, V, idx t, h0, h1]

theorem iblk2 (c : Dev nD) (t : Fin cfg0.N) : Winv (m ((c : Thread nD τ).loc main_arg1)) (11008 + 256 * (min t.val 343 / 8)) (iblk m c 2 t) := by
  intro k b i h0 h1
  rw [val_main_v1_apply]
  blk_point [iblk, V, idx t, h0, h1]

theorem iblk3 (c : Dev nD) (t : Fin cfg0.N) (k : Fin 3) (b : Fin 256) (i : Cert.ReferenceUpIdeal.S3x22016.Idx) (h0 : (i 0).val = k.val)
    (h1 : (i 1).val = 0 + 256 * ((t.val - 1) / 8) + b.val) : iblk m c 3 t (ix2 k b) = val_main_v3 (F := Ideal) (m ((c : Thread nD τ).loc main_arg2)) i := by
  rw [val_main_v3_apply]
  blk_point [iblk, V, idx t, h0, h1]

theorem iblk4 (c : Dev nD) (t : Fin cfg0.N) (k : Fin 3) (b : Fin 256) (i : Cert.ReferenceUpIdeal.S3x22016.Idx) (h0 : (i 0).val = k.val)
    (h1 : (i 1).val = 11008 + 256 * ((t.val - 1) / 8) + b.val) : iblk m c 4 t (ix2 k b) = val_main_v3 (F := Ideal) (m ((c : Thread nD τ).loc main_arg2)) i := by
  rw [val_main_v3_apply]
  blk_point [iblk, V, idx t, h0, h1]

theorem iblk5 (c : Dev nD) (t : Fin cfg0.N) (b : Fin 256) (i : Cert.ReferenceUpIdeal.S22016.Idx)
    (h0 : (i 0).val = 0 + 256 * ((t.val - 1) / 8) + b.val) : iblk m c 5 t (ix2 0 b) = val_main_v4 (F := Ideal) (m ((c : Thread nD τ).loc main_arg3)) i := by
  rw [val_main_v4_apply]
  blk_point [iblk, V, idx t, h0]

theorem iblk6 (c : Dev nD) (t : Fin cfg0.N) (b : Fin 256) (i : Cert.ReferenceUpIdeal.S22016.Idx)
    (h0 : (i 0).val = 11008 + 256 * ((t.val - 1) / 8) + b.val) : iblk m c 6 t (ix2 0 b) = val_main_v4 (F := Ideal) (m ((c : Thread nD τ).loc main_arg3)) i := by
  rw [val_main_v4_apply]
  blk_point [iblk, V, idx t, h0]

/-! ## The carried buffers -/

/-- After point `n` the held blocks are the point's columns of the weight and the held rows the padded product's. -/
def Inv (c : Dev nD) (n : ℕ) (s : (Vec Ideal S4096x256 .bf16 × Vec Ideal S4096x256 .bf16 × Vec Ideal S2x1032x256 .f32 × Vec Ideal S2x1032x256 .f32)) : Prop :=
  Winv (m ((c : Thread nD τ).loc main_arg1)) (0 + 256 * (n / 8)) s.1 ∧ Winv (m ((c : Thread nD τ).loc main_arg1)) (11008 + 256 * (n / 8)) s.2.1
    ∧ Uinv (m ((c : Thread nD τ).loc main_arg0)) (m ((c : Thread nD τ).loc main_arg1)) 0 n s.2.2.1 ∧ Uinv (m ((c : Thread nD τ).loc main_arg0)) (m ((c : Thread nD τ).loc main_arg1)) 11008 n s.2.2.2

theorem open1_pos (n : ℕ) (hz : n ≠ 0) (u : Vec Ideal S2x1032x256 .f32) : open1 n u = u := by
  unfold open1; exact if_neg hz

theorem step_inv (c : Dev nD) (t : Fin cfg0.N) (ht : t.val ≤ 343) (s : (Vec Ideal S4096x256 .bf16 × Vec Ideal S4096x256 .bf16 × Vec Ideal S2x1032x256 .f32 × Vec Ideal S2x1032x256 .f32))
    (hs : t.val % 8 ≠ 0 → Inv m c (t.val - 1) s) : Inv m c t.val (step m c t s) := by
  have hm : min t.val 343 = t.val := by omega
  have hx := iblk0 m c t
  have h1 := iblk1 m c t
  have h2 := iblk2 m c t
  rw [hm] at hx h1 h2
  have hwa := wstep_inv (m ((c : Thread nD τ).loc main_arg1)) 0 t.val ht s.1 (iblk m c 1 t) h1 fun h => (hs h).1
  have hwv := wstep_inv (m ((c : Thread nD τ).loc main_arg1)) 11008 t.val ht s.2.1 (iblk m c 2 t) h2 fun h => (hs h).2.1
  refine ⟨hwa, hwv, ustep_inv (m ((c : Thread nD τ).loc main_arg0)) (m ((c : Thread nD τ).loc main_arg1)) 0 t.val ht _ _ _ hx hwa fun h => ?_,
    ustep_inv (m ((c : Thread nD τ).loc main_arg0)) (m ((c : Thread nD τ).loc main_arg1)) 11008 t.val ht _ _ _ hx hwv fun h => ?_⟩
  · rw [open1_pos t.val (fun h' => h (by rw [h']))]; exact (hs h).2.2.1
  · rw [open1_pos t.val (fun h' => h (by rw [h']))]; exact (hs h).2.2.2

theorem inv (c : Dev nD) : ∀ (n : ℕ) (hn : n < cfg0.N), n ≤ 343 → Inv m c n (st m c n hn)
  | 0, hn, h => step_inv m c ⟨0, hn⟩ h st0 fun h' => absurd rfl h'
  | n + 1, hn, h => step_inv m c ⟨n + 1, hn⟩ h (st m c n (Nat.lt_of_succ_lt hn)) fun _ => inv c n (Nat.lt_of_succ_lt hn) (by omega)

/-! ## The blocks the points leave -/

theorem emb8 (t : Fin cfg0.N) (y : S1024x256.Idx) : ((((cfg0.win 8).blk t).view.emb y : S8192x11008.Idx) 0).val = 1024 * ((t.val - 1) % 8) + (y 0).val
    ∧ ((((cfg0.win 8).blk t).view.emb y : S8192x11008.Idx) 1).val = 256 * ((t.val - 1) / 8) + (y 1).val := by
  constructor
  · blk_simp [idx t]
    omega
  · blk_simp [idx t]
    omega

/-- A block of activations, at any point but the first, is the reference's. -/
theorem point8 (c : Dev nD) (t : Fin cfg0.N) (hz : t.val ≠ 0) (y : S1024x256.Idx) :
    outA m c t y = val_main_v33 (F := Ideal) (m ((c : Thread nD τ).loc main_arg0)) (m ((c : Thread nD τ).loc main_arg1)) (m ((c : Thread nD τ).loc main_arg2)) (m ((c : Thread nD τ).loc main_arg3)) (((cfg0.win 8).blk t).view.emb y) := by
  have hN := lt_345 t
  obtain ⟨e0, e1⟩ := emb8 t y
  obtain ⟨-, -, ha, hv⟩ := inv m c (t.val - 1) (by omega) (by omega)
  have hs : (slot t).val = (t.val - 1) % 2 := by unfold slot; show 1 - t.val % 2 = (t.val - 1) % 2; omega
  rw [v33_glu]
  unfold outA act
  rw [pre_pos m c t.val t.isLt hz, open1_pos t.val hz, open1_pos t.val hz]
  refine congrArg₂ (glu (F := Ideal)) ?_ ?_
  · exact conv_point (m ((c : Thread nD τ).loc main_arg0)) (m ((c : Thread nD τ).loc main_arg1)) (m ((c : Thread nD τ).loc main_arg2)) (m ((c : Thread nD τ).loc main_arg3)) 0 (t.val - 1) _ _ _ (slot t) hs (iblk3 m c t) (iblk5 m c t) ha (y 0) (y 1) _ e0 (by rw [Nat.zero_add]; exact e1)
  · exact conv_point (m ((c : Thread nD τ).loc main_arg0)) (m ((c : Thread nD τ).loc main_arg1)) (m ((c : Thread nD τ).loc main_arg2)) (m ((c : Thread nD τ).loc main_arg3)) 11008 (t.val - 1) _ _ _ (slot t) hs (iblk4 m c t) (iblk6 m c t) hv (y 0) (y 1) _ e0 (by
      show 11008 + _ = _; rw [Nat.add_assoc]; exact congrArg (11008 + ·) e1)

/-- A block of the other weight is the reference's. -/
theorem point9 (c : Dev nD) (t : Fin cfg0.N) (y : S32x4096.Idx) :
    k0_pay2 (F := Ideal) (iblk m c 7 t) y = val_main_v35 (F := Ideal) (m ((c : Thread nD τ).loc main_arg4)) (((cfg0.win 9).blk t).view.emb y) := by
  pointwise [k0_pay2, val_main_v34, val_main_v35]
  blk_point [iblk, V, idx t]

/-- The first point does not write its block of activations back: the next point has the same block. -/
theorem flush8 : ∀ t : Fin cfg0.N, (cfg0.win 8).flush t = true → t.val ≠ 0 :=
  (by decide +kernel : ∀ t : Fin grid0.N, win0_8.flush t = true → t.val ≠ 0)

/-- The activations after the run. -/
theorem final8 (c : Dev nD) : (dats m 0 c).arrAt 8 (cfgs 0).N = val_main_v33 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t ht y => ?_
  have hz := flush8 t ht
  blk_simp
  rw [after0_8]
  frame_out
  exact point8 m c t hz y

/-- The other weight after the run. -/
theorem final9 (c : Dev nD) : (dats m 0 c).arrAt 9 (cfgs 0).N = val_main_v35 (F := Ideal) (m ((c : Thread nD τ).loc main_arg4)) := by
  refine (dats m 0 c).arrAt_eq_of_covers 9 _ (by decide +kernel) fun t _ y => ?_
  blk_simp
  rw [after0_9]
  frame_out
  exact point9 m c t y

/-- Every execution ends with the two results at the reference's values and the arguments as they were. -/
theorem run_values (ρ) : θ_run defs (onTc (τ := τ) (main (F := Ideal))) ⟨m, fun _ => 0, ρ⟩ (fun r => ∀ c : Dev nD,
      r.2.mem ((c.tc : Thread nD τ).loc main_v5_0) = val_main_v33 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v5_1) = val_main_v35 (F := Ideal) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 8).trans (final8 m c), ((h.1 c).1 9).trans (final9 m c), h.2.1 c⟩)
    (θ_run_and (run_main m ρ) (frame m ρ))

end Cert.KernelUpIdeal.Blocks

end
-- ==== Proof.ClaimsUp.lean ====
/-
The five claims about the channel mixer's up projection and its convolution.
-/
module

public import proofs.«01_k».proof.Defs
public import proofs.«01_k».proof.Proof.UpValue
public import proofs.«01_k».proof.Proof.Gen.KernelUp.Frame
public import proofs.«01_k».proof.Proof.Gen.ReferenceUpIdeal.Read
public import Idealize.ShloMosaic.Lib.Claim
public import Idealize.ShloMosaic.Lib.Quiescent

@[expose] public section

noncomputable section

namespace Cert.Proof.Up

open Idealize.ShloMosaic Idealize.ShloMosaic.TcCoe Idealize.ShloMosaic.Tactic Idealize.SL.Sem

/-- The two programs are one text, so the frame is the other program's run at bit patterns. -/
theorem frame_p : Cert.quiescent_KernelUp := fun m ρ _ =>
  Eq.mp (by sl_kernel_rfl) (Cert.KernelUpIdeal.Blocks.frame (F := Bits) m ρ)

theorem frame_pi : Cert.quiescent_KernelUpIdeal := fun m ρ _ => Cert.KernelUpIdeal.Blocks.frame m ρ

theorem frame_ri : Cert.quiescent_ReferenceUpIdeal := fun m ρ _ =>
  (θ_run Cert.ReferenceUpIdeal.defs _ _).mono (fun r h => ⟨fun c => (h c).2.2, sem_eq_zero_of_no_sems (by decide) r.2⟩)
    (Cert.ReferenceUpIdeal.Value.run (F := Ideal) m ρ)

theorem preserves : Cert.preserves_KernelUp_KernelUpIdeal := trivial

theorem algebraic : Cert.algebraic_KernelUpIdeal_ReferenceUpIdeal := by
  intro m ρ m' ρ' _ hagree
  refine ⟨_, _, Cert.KernelUpIdeal.Blocks.run_values m ρ, ?_⟩
  refine (θ_run Cert.ReferenceUpIdeal.defs _ _).mono (fun _ h c => ⟨(h c).1.trans ?_, (h c).2.1.trans ?_, (h c).2.2⟩)
    (Cert.ReferenceUpIdeal.Value.run (F := Ideal) m' ρ')
  · refine (Cert.ReferenceUpIdeal.Read.val_main_v33_eq m' c).trans ?_
    rw [(hagree c).1, (hagree c).2.1, (hagree c).2.2.1, (hagree c).2.2.2.1]
  · rw [(hagree c).2.2.2.2]
    exact Cert.ReferenceUpIdeal.Read.val_main_v35_eq _

end Cert.Proof.Up

end
-- ==== Proof.FoxState.lean ====
/-
What the kernel of the norm and the forget-gate biases leaves in its output blocks and in its scratch after each grid point.
-/
module

public import proofs.«01_k».proof.Proof.Gen.KernelFoxIdeal.Frame
public import Idealize.ShloMosaic.Lib.Pipeline.ValueKit
public import Idealize.ShloMosaic.Lib.Pipeline.ValueKit.Held
public import Idealize.ShloMosaic.Lib.Pipeline.ReadBack

@[expose] public section

set_option maxRecDepth 100000

noncomputable section

open Idealize.ShloMosaic Idealize.ShloMosaic.TcCoe Idealize.SL.Sem
open Idealize.ShloMosaic.Pipeline (Dat)

namespace Cert.KernelFoxIdeal.Blocks

open Cert.KernelFoxIdeal Cert.KernelFoxIdeal.Gen

variable (m : (ℓ : Loc nD τ sig) → Buf (Elt Ideal) ℓ)

/-- The first grid point. -/
abbrev pt0 : Fin cfg0.N := ⟨0, by decide⟩

/-- The forget gate's weight columns, rounded by the first point and kept. -/
abbrev wf (c : Dev nD) : FVec Ideal S128x4096 .bf16 := k0_pay3 (F := Ideal) (iblk m c 4 pt0)

/-- The first row of the carry. -/
abbrev row0 (v : Vec Ideal S8x128 .f32) : Vec Ideal S1x128 .f32 :=
  View.ld v (Rect.unit ![0, 0] ![1, 128] inb_S8x128_S1x128_0_0)

/-- The forget gate's argument at the rows of one point. -/
abbrev gate (c : Dev nD) (t : Fin cfg0.N) (w : Vec Ideal S128x4096 .bf16) : FVec Ideal S512x128 .f32 :=
  k0_pay6 (F := Ideal) (iblk m c 0 t) (iblk m c 1 t) (iblk m c 2 t) (iblk m c 3 t) w (iblk m c 5 t)

set_option maxHeartbeats 1000000

theorem hA (c : Dev nD) (t : Fin cfg0.N) (h : t.val % 16 = 0) : (outsAt0 m c t.val t.isLt).1
    = k0_pay5 (F := Ideal) (iblk m c 0 t) (iblk m c 1 t) (iblk m c 2 t) (iblk m c 3 t) := by
  rw [outsAt0_A m c t h]
  frame_out

theorem qA (c : Dev nD) (t : Fin cfg0.N) (h : t.val % 16 = 0) : (outsAt0 m c t.val t.isLt).2.1
    = k0_pay2 (F := Ideal) (k0_pay10 (gate m c t (k0_pay3 (F := Ideal) (iblk m c 4 t))) k0_pay7 (row0 (k0_pay4 (F := Ideal)))) (iblk m c 8 t) (iblk m c 9 t) := by
  rw [outsAt0_A m c t h]
  frame_out
  simp (disch := decide) only [↓ View.readCov_skip, ↓ View.readCov_cons_toLoadRect, ↓ View.readCov_fill]

theorem kA (c : Dev nD) (t : Fin cfg0.N) (h : t.val % 16 = 0) : (outsAt0 m c t.val t.isLt).2.2.1
    = k0_pay1 (F := Ideal) (k0_pay10 (gate m c t (k0_pay3 (F := Ideal) (iblk m c 4 t))) k0_pay7 (row0 (k0_pay4 (F := Ideal)))) (iblk m c 6 t) (iblk m c 7 t) := by
  rw [outsAt0_A m c t h]
  frame_out
  simp (disch := decide) only [↓ View.readCov_skip, ↓ View.readCov_cons_toLoadRect, ↓ View.readCov_fill]

theorem wA (c : Dev nD) (t : Fin cfg0.N) (h : t.val % 16 = 0) : (outsAt0 m c t.val t.isLt).2.2.2.1
    = k0_pay3 (F := Ideal) (iblk m c 4 t) := by
  rw [outsAt0_A m c t h]
  frame_out

theorem cA (c : Dev nD) (t : Fin cfg0.N) (h : t.val % 16 = 0) : (outsAt0 m c t.val t.isLt).2.2.2.2
    = k0_pay9 (F := Ideal) (gate m c t (k0_pay3 (F := Ideal) (iblk m c 4 t))) k0_pay7 (row0 (k0_pay4 (F := Ideal))) := by
  rw [outsAt0_A m c t h]
  frame_out
  simp (disch := decide) only [↓ View.readCov_skip, ↓ View.readCov_cons_toLoadRect, ↓ View.readCov_fill]

/-- What the point before left. -/
abbrev prev (c : Dev nD) (t : Fin cfg0.N) := outsAt0 m c (t.val - 1) (Nat.lt_of_le_of_lt (Nat.sub_le _ _) t.isLt)

theorem hB (c : Dev nD) (t : Fin cfg0.N) (h : ¬t.val % 16 = 0) : (outsAt0 m c t.val t.isLt).1
    = k0_pay5 (F := Ideal) (iblk m c 0 t) (iblk m c 1 t) (iblk m c 2 t) (iblk m c 3 t) := by
  rw [outsAt0_B m c t h]
  frame_out

theorem qB (c : Dev nD) (t : Fin cfg0.N) (h : ¬t.val % 16 = 0) : (outsAt0 m c t.val t.isLt).2.1
    = k0_pay2 (F := Ideal) (k0_pay10 (gate m c t (prev m c t).2.2.2.1) k0_pay7 (row0 (prev m c t).2.2.2.2)) (iblk m c 8 t) (iblk m c 9 t) := by
  rw [outsAt0_B m c t h]
  frame_out
  simp only [read_unread_whole]

theorem kB (c : Dev nD) (t : Fin cfg0.N) (h : ¬t.val % 16 = 0) : (outsAt0 m c t.val t.isLt).2.2.1
    = k0_pay1 (F := Ideal) (k0_pay10 (gate m c t (prev m c t).2.2.2.1) k0_pay7 (row0 (prev m c t).2.2.2.2)) (iblk m c 6 t) (iblk m c 7 t) := by
  rw [outsAt0_B m c t h]
  frame_out
  simp only [read_unread_whole]

theorem wB (c : Dev nD) (t : Fin cfg0.N) (h : ¬t.val % 16 = 0) : (outsAt0 m c t.val t.isLt).2.2.2.1 = (prev m c t).2.2.2.1 := by
  rw [outsAt0_B m c t h]
  rfl

theorem cB (c : Dev nD) (t : Fin cfg0.N) (h : ¬t.val % 16 = 0) : (outsAt0 m c t.val t.isLt).2.2.2.2
    = k0_pay9 (F := Ideal) (gate m c t (prev m c t).2.2.2.1) k0_pay7 (row0 (prev m c t).2.2.2.2) := by
  rw [outsAt0_B m c t h]
  frame_out
  simp only [read_unread_whole]

end Cert.KernelFoxIdeal.Blocks

end
-- ==== Proof.FoxMath.lean ====
/-
Arithmetic on the extended reals that are real numbers, and running sums.
-/
module

public import Idealize.ShloMosaic.PureOps.Ideal
public import Idealize.ShloMosaic.Lib.IdealHost
public import Idealize.ShloMosaic.Lib.Pipeline.ValueKit

@[expose] public section

noncomputable section

namespace Cert.Fox

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, by simp⟩
theorem IsReal.one : IsReal 1 := ⟨1, by simp⟩

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.neg {x : EReal} : IsReal x → IsReal (-x) := by
  rintro ⟨a, rfl⟩; exact ⟨-a, (EReal.coe_neg a).symm⟩

theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

theorem IsReal.sub_self {x : EReal} : IsReal x → x - x = 0 := by
  rintro ⟨a, rfl⟩; rw [← EReal.coe_sub]; simp

/-- A number whose absolute value is below infinity is real. -/
theorem isReal_of_abs {x : EReal} (h : max x (-x) < ⊤) : IsReal x := by
  induction x using EReal.rec with
  | bot => simp at h
  | top => simp at h
  | coe r => exact ⟨r, rfl⟩

/-- Nonnegative real numbers. -/
def IsNonneg (x : EReal) : Prop := ∃ r : ℝ, 0 ≤ r ∧ x = (r : EReal)

theorem IsNonneg.sq {x : EReal} : IsReal x → IsNonneg (x * x) := by
  rintro ⟨a, rfl⟩; exact ⟨a * a, mul_self_nonneg a, (EReal.coe_mul a a).symm⟩

theorem IsNonneg.sum {ι : Type} (s : Finset ι) (f : ι → EReal) (h : ∀ i ∈ s, IsNonneg (f i)) : IsNonneg (∑ i ∈ s, f i) := by
  classical
  induction s using Finset.induction_on with
  | empty => exact ⟨0, le_refl _, by simp⟩
  | insert a s ha ih =>
    rw [Finset.sum_insert ha]
    obtain ⟨p, hp, ep⟩ := h a (Finset.mem_insert_self a s)
    obtain ⟨q, hq, eq⟩ := ih fun i hi => h i (Finset.mem_insert_of_mem hi)
    exact ⟨p + q, add_nonneg hp hq, by rw [ep, eq, EReal.coe_add]⟩

theorem ofBits_4096 : Ideal.ofBits .f32 0x45800000#32 = ((4096 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- The norm's epsilon is a positive real. -/
theorem ofBits_eps : ∃ r : ℝ, 0 < r ∧ Ideal.ofBits .f32 0x358637BD#32 = (r : EReal) := by
  refine ⟨_, ?_, by simp [Ideal.ofBits, Ideal.ieee, -EReal.coe_mul]; rfl⟩
  positivity

/-- The reciprocal root of a mean of squares plus a positive number is real. -/
theorem isReal_rsqrt {x : EReal} (h : IsNonneg x) :
    IsReal (Ideal.rsqrt (Ideal.div x (Ideal.ofBits .f32 0x45800000#32) + Ideal.ofBits .f32 0x358637BD#32)) := by
  obtain ⟨r, hr, rfl⟩ := h
  obtain ⟨e, he, ee⟩ := ofBits_eps
  rw [ofBits_4096, ee, Ideal.div_coe (by norm_num), ← EReal.coe_mul, ← EReal.coe_add, Ideal.rsqrt_coe,
    if_neg (by have : 0 ≤ r * (1 / 4096) := by positivity
               linarith), if_neg (by have : 0 ≤ r * (1 / 4096) := by positivity
                                     exact ne_of_gt (by linarith))]
  exact ⟨_, rfl⟩

theorem coe_max (a b : ℝ) : ((max a b : ℝ) : EReal) = max (a : EReal) b :=
  Monotone.map_max (f := fun r : ℝ => (r : EReal)) fun _ _ h => EReal.coe_le_coe_iff.2 h

theorem coe_min (a b : ℝ) : ((min a b : ℝ) : EReal) = min (a : EReal) b :=
  Monotone.map_min (f := fun r : ℝ => (r : EReal)) fun _ _ h => EReal.coe_le_coe_iff.2 h

/-- The two spellings of the logarithm of the logistic function, at a real number. -/
theorem log_sigmoid {z : EReal} (h : IsReal z) :
    min z 0 - Ideal.log1p (Ideal.exp (0 - max z (-z)))
        = -(max (-z) 0 + Ideal.log1p (Ideal.exp (-(max (-z - 0) (-(-z - 0))))))
      ∧ IsReal (min z 0 - Ideal.log1p (Ideal.exp (0 - max z (-z)))) := by
  obtain ⟨r, rfl⟩ := h
  have e1 : (0 : EReal) - max (r : EReal) (-(r : EReal)) = ((-|r| : ℝ) : EReal) := by
    rw [← EReal.coe_neg, ← coe_max, ← EReal.coe_zero, ← EReal.coe_sub, zero_sub]; rfl
  have e2 : -(max (-(r : EReal) - 0) (-(-(r : EReal) - 0))) = ((-|r| : ℝ) : EReal) := by
    rw [← EReal.coe_zero, ← EReal.coe_neg, ← EReal.coe_sub, ← EReal.coe_neg, ← coe_max, ← EReal.coe_neg, sub_zero, neg_neg, max_comm]; rfl
  have e3 : Ideal.log1p (Ideal.exp ((-|r| : ℝ) : EReal)) = ((Real.log (1 + Real.exp (-|r|)) : ℝ) : EReal) := by
    have hp : 0 < 1 + Real.exp (-|r|) := by positivity
    rw [Ideal.exp_coe]
    show Ideal.log (1 + _) = _
    rw [← EReal.coe_one, ← EReal.coe_add, Ideal.log_coe, if_neg (not_le.mpr hp)]
  rw [e1, e2, e3, ← EReal.coe_zero, ← EReal.coe_neg, ← coe_max, ← coe_min, ← EReal.coe_add, ← EReal.coe_neg,
    ← EReal.coe_sub]
  refine ⟨congrArg _ ?_, _, rfl⟩
  have : max (-r) 0 = -min r 0 := by
    rcases le_total r 0 with h | h
    · rw [max_eq_left (by linarith), min_eq_left h]
    · rw [max_eq_right (by linarith), min_eq_right h, neg_zero]
  rw [this]; ring

/-- A left fold by addition is a sum. -/
theorem foldl_add {ι : Type} (g : ι → EReal) : ∀ (l : List ι) (v : EReal),
    l.foldl (fun r n => r + g n) v = v + (l.map g).sum
  | [], v => by simp
  | a :: l, v => by rw [List.foldl_cons, foldl_add g l, List.map_cons, List.sum_cons, add_assoc]

/-- The sum over the window of a running sum is the sum of a prefix. -/
theorem sum_window (N : ℕ) (f : ℕ → EReal) (r : ℕ) (hr : r < N) :
    (∑ n : Fin N, if N - 1 ≤ r + n.val then f (r + n.val - (N - 1)) else 0) = ∑ i ∈ Finset.range (r + 1), f i := by
  rw [Fin.sum_univ_eq_sum_range (fun n => if N - 1 ≤ r + n then f (r + n - (N - 1)) else 0) N,
    ← Finset.sum_filter]
  refine Finset.sum_nbij' (fun n => r + n - (N - 1)) (fun i => i + (N - 1) - r) ?_ ?_ ?_ ?_ ?_
  · intro n hn; simp only [Finset.mem_filter, Finset.mem_range] at hn ⊢; omega
  · intro n hn; simp only [Finset.mem_filter, Finset.mem_range] at hn ⊢; omega
  · intro n hn; simp only [Finset.mem_filter, Finset.mem_range] at hn; omega
  · intro n hn; simp only [Finset.mem_range] at hn; omega
  · intro n hn; rfl

/-- A product with a triangle of ones is the sum of a prefix. -/
theorem sum_triangle (f : Fin 512 → EReal) (F : ℕ → EReal) (base : ℕ) (hf : ∀ k : Fin 512, f k = F (base + k.val)) (r : ℕ) (hr : r < 512) :
    (∑ i ∈ Finset.range base, F i) + (∑ k : Fin 512, if k.val ≤ r then f k else 0) = ∑ i ∈ Finset.range (base + r + 1), F i := by
  rw [show base + r + 1 = base + (r + 1) by omega, Finset.sum_range_add]
  congr 1
  simp only [hf]
  rw [Fin.sum_univ_eq_sum_range (fun k => if k ≤ r then F (base + k) else 0) 512, ← Finset.sum_filter]
  refine Finset.sum_congr ?_ fun _ _ => rfl
  ext k; simp only [Finset.mem_filter, Finset.mem_range]; omega

end Cert.Fox

end
-- ==== Proof.FoxRef.lean ====
/-
The reference's forget gates and their running sums at the extended reals, where the arguments are real numbers.
-/
module

public import proofs.«01_k».proof.Proof.Gen.ReferenceFoxIdeal.Read
public import proofs.«01_k».proof.Proof.FoxMath

@[expose] public section

set_option maxRecDepth 16384

noncomputable section

open Idealize.ShloMosaic Idealize.ShloMosaic.TcCoe Idealize.SL.Sem

namespace Cert.Fox

open Cert.ReferenceFoxIdeal Cert.ReferenceFoxIdeal.Read

variable (x0 : (⟨S8192x4096, .f32⟩ : BufTy).Contents (Elt Ideal)) (x1 x2 x3 : (⟨S1x4096, .f32⟩ : BufTy).Contents (Elt Ideal))
  (x4 : (⟨S1x4096x14352, .f32⟩ : BufTy).Contents (Elt Ideal)) (x5 : (⟨S1x16, .f32⟩ : BufTy).Contents (Elt Ideal))

/-- All arguments are real numbers. -/
structure Real6 : Prop where
  h0 : ∀ i, IsReal (x0 i)
  h1 : ∀ i, IsReal (x1 i)
  h2 : ∀ i, IsReal (x2 i)
  h3 : ∀ i, IsReal (x3 i)
  h4 : ∀ i, IsReal (x4 i)
  h5 : ∀ i, IsReal (x5 i)

variable {x0 x1 x2 x3 x4 x5} (H : Real6 x0 x1 x2 x3 x4 x5)

include H

theorem nonneg_v2 (i) : IsNonneg (val_main_v2 (F := Ideal) x0 i) := by
  rw [val_main_v2_apply, val_main_cst_apply]
  have e : (FloatOps.ofBits (F := Ideal) .f32 0x00000000#32 : Ideal .f32) = (0 : EReal) := Ideal.ofBits_zero_f32
  rw [e]
  show IsNonneg ((0 : EReal) + _)
  rw [zero_add]
  refine IsNonneg.sum _ _ fun k _ => ?_
  rw [val_main_v1_apply]
  exact IsNonneg.sq (H.h0 _)

theorem real_v8 (i) : IsReal (val_main_v8 (F := Ideal) x0 i) := by
  rw [val_main_v8_apply, val_main_v7_apply, val_main_v5_apply, val_main_v3_apply, val_main_v4_apply, val_main_v6_apply]
  exact isReal_rsqrt (nonneg_v2 H _)

theorem real_v19 (i) : IsReal (val_main_v19 (F := Ideal) x0 x1 x2 x3 i) := by
  rw [val_main_v19_apply, val_main_v17_apply, val_main_v13_apply, val_main_v10_apply, val_main_v9_apply, val_main_v12_apply,
    val_main_v11_apply, val_main_v0_apply, val_main_v16_apply, val_main_v15_apply, val_main_v14_apply, val_main_cst_2_apply, val_main_v18_apply]
  have e : (FloatOps.ofBits (F := Ideal) .f32 0x3F800000#32 : Ideal .f32) = (1 : EReal) := Ideal.ofBits_one_f32
  rw [e]
  exact ((((H.h0 _).mul (real_v8 H _)).mul (H.h1 _)).mul (IsReal.one.add (H.h2 _))).add (H.h3 _)

/-- The forget gate's argument is a real number. -/
theorem real_v26 (i) : IsReal (val_main_v26 (F := Ideal) x0 x1 x2 x3 x4 x5 i) := by
  rw [val_main_v26_apply, val_main_v22_apply, val_main_v21_apply, val_main_v25_apply, val_main_v24_apply, val_main_v23_apply]
  refine IsReal.add (IsReal.sum _ _ fun k _ => ?_) (H.h5 _)
  rw [val_main_v20_apply]
  exact (real_v19 H _).mul (H.h4 _)

/-- The logarithm of the forget gate, as the kernel spells it. -/
theorem v27_eq (i) : val_main_v27 (F := Ideal) x0 x1 x2 x3 x4 x5 i
      = min (val_main_v26 (F := Ideal) x0 x1 x2 x3 x4 x5 i) 0
        - Ideal.log1p (Ideal.exp (0 - max (val_main_v26 (F := Ideal) x0 x1 x2 x3 x4 x5 i) (-(val_main_v26 (F := Ideal) x0 x1 x2 x3 x4 x5 i)))) := by
  rw [(log_sigmoid (real_v26 H i)).1]
  rw [val_main_v27_apply, val_main_call0_v1_apply, val_main_call0_call0_v4_apply, val_main_call0_call0_v11_apply, val_main_call0_call0_v10_apply,
    val_main_call0_call0_v9_apply, val_main_call0_call0_v8_apply, val_main_call0_call0_v7_apply, val_main_call0_call0_v1_apply,
    val_main_call0_call0_v3_apply, val_main_call0_call0_v2_apply, val_main_call0_call0_v0_apply, val_main_call0_v0_apply,
    val_main_call0_call0_cst_apply]
  generalize val_main_v26 (F := Ideal) x0 x1 x2 x3 x4 x5 i = z
  generalize val_main_call0_call0_v6 (F := Ideal) x0 x1 x2 x3 x4 x5 i = w
  have e : (FloatOps.ofBits (F := Ideal) .f32 0x00000000#32 : Ideal .f32) = (0 : EReal) := Ideal.ofBits_zero_f32
  rw [e]
  have hs : ∀ (a : EReal) (u v : Ideal .f32), Scalar.select (FloatOps.cmpf (F := Ideal) (φ := .f32) .une a a) u v = v := fun a u v => by
    simp [Scalar.select, FloatOps.cmpf, Ideal.cmp]
  rw [hs]
  rfl

theorem real_v27 (i) : IsReal (val_main_v27 (F := Ideal) x0 x1 x2 x3 x4 x5 i) := by
  rw [v27_eq H]; exact (log_sigmoid (real_v26 H i)).2

omit H

/-- The logarithm of one head's forget gate at a position, 0 past the end. -/
def LF (x0 : (⟨S8192x4096, .f32⟩ : BufTy).Contents (Elt Ideal)) (x1 x2 x3 : (⟨S1x4096, .f32⟩ : BufTy).Contents (Elt Ideal))
    (x4 : (⟨S1x4096x14352, .f32⟩ : BufTy).Contents (Elt Ideal)) (x5 : (⟨S1x16, .f32⟩ : BufTy).Contents (Elt Ideal)) (h : Fin 16) (n : ℕ) : EReal :=
  if hn : n < 8192 then val_main_v27 (F := Ideal) x0 x1 x2 x3 x4 x5 (fun a => match a with
    | ⟨0, _⟩ => ⟨n, hn⟩
    | ⟨1, _⟩ => h) else 0

/-- The running sum of the logarithms. -/
def CUM (x0 : (⟨S8192x4096, .f32⟩ : BufTy).Contents (Elt Ideal)) (x1 x2 x3 : (⟨S1x4096, .f32⟩ : BufTy).Contents (Elt Ideal))
    (x4 : (⟨S1x4096x14352, .f32⟩ : BufTy).Contents (Elt Ideal)) (x5 : (⟨S1x16, .f32⟩ : BufTy).Contents (Elt Ideal)) (h : Fin 16) (n : ℕ) : EReal :=
  ∑ i ∈ Finset.range n, LF x0 x1 x2 x3 x4 x5 h i

include H

theorem real_LF (h : Fin 16) (n : ℕ) : IsReal (LF x0 x1 x2 x3 x4 x5 h n) := by
  unfold LF
  split
  · exact real_v27 H _
  · exact IsReal.zero

theorem real_CUM (h : Fin 16) (n : ℕ) : IsReal (CUM x0 x1 x2 x3 x4 x5 h n) :=
  IsReal.sum _ _ fun i _ => real_LF H h i

omit H

/-- Positions of a window of one column. -/
def winEquiv (N : ℕ) : (⟨2, ![N, 1]⟩ : Shape).Idx ≃ Fin N where
  toFun w := w 0
  invFun n := fun a => match a with
    | ⟨0, _⟩ => n
    | ⟨1, _⟩ => ⟨0, Nat.one_pos⟩
  left_inv w := funext fun a => match a with
    | ⟨0, _⟩ => rfl
    | ⟨1, _⟩ => Fin.ext (by have : (w 1).val < 1 := (w 1).isLt; show 0 = (w 1).val; omega)
  right_inv n := rfl

/-- A window sum over all rows up to the own one is the sum of a prefix of the column. -/
theorem reduceWindow_prefix (N M L : ℕ) (hL : L = N - 1) {u : Shape} (x : FVec Ideal (⟨2, ![N, M]⟩ : Shape) .f32) (init : u.Idx → Ideal .f32)
    (h : Shape.ReduceWindows (⟨2, ![N, M]⟩ : Shape) ![N, 1] ![1, 1] ![L, 0] ![0, 0] ⟨2, ![N, M]⟩) (hu : 0 < u.numel)
    (h0 : init (Shape.Idx.first hu) = (0 : EReal)) (j : (⟨2, ![N, M]⟩ : Shape).Idx) (f : ℕ → EReal)
    (hf : ∀ i : (⟨2, ![N, M]⟩ : Shape).Idx, i 1 = j 1 → x i = f (i 0).val) :
    Host.reduceWindowAdd (F := Ideal) (s := ⟨2, ![N, M]⟩) (t := ⟨2, ![N, M]⟩) ![N, 1] ![1, 1] ![L, 0] ![0, 0] x init h hu j
      = ∑ i ∈ Finset.range ((j 0).val + 1), f i := by
  subst hL
  rw [← sum_window N f (j 0).val (j 0).isLt, ← Equiv.sum_comp (winEquiv N),
    ← Equiv.sum_comp (Shape.rowMajor (⟨2, ![N, 1]⟩ : Shape)).symm, Fin.sum_univ_def, ← zero_add (List.sum _), ← h0, ← foldl_add]
  unfold Host.reduceWindowAdd
  rw [Ideal.hostReduceWindowAdd_def]
  unfold Ideal.hostReduceWindowAdd Host.reduceWindow
  simp only []
  congr 1
  funext r n
  congr 1
  obtain ⟨w, hw⟩ : ∃ w, (Shape.rowMajor (⟨2, ![N, 1]⟩ : Shape)).symm n = w := ⟨_, rfl⟩
  simp only [hw]
  have hw1 : (w 1).val = 0 := by have : (w 1).val < 1 := (w 1).isLt; omega
  have hw0 : (w 0).val < N := (w 0).isLt
  have hj0 : (j 0).val < N := (j 0).isLt
  have hj1 : (j 1).val < M := (j 1).isLt
  by_cases hc : N - 1 ≤ (j 0).val + (w 0).val
  · rw [dif_pos, if_pos (show N - 1 ≤ (j 0).val + (winEquiv N w).val from hc), hf]
    · show f _ = f _
      congr 1
      show (j 0).val * 1 + (w 0).val - (N - 1) = (j 0).val + (w 0).val - (N - 1)
      omega
    · apply Fin.ext
      show (j 1).val * 1 + (w 1).val - 0 = (j 1).val
      omega
    · intro a
      match a with
      | ⟨0, _⟩ => show N - 1 ≤ (j 0).val * 1 + (w 0).val ∧ (j 0).val * 1 + (w 0).val - (N - 1) < N; omega
      | ⟨1, _⟩ => show 0 ≤ (j 1).val * 1 + (w 1).val ∧ (j 1).val * 1 + (w 1).val - 0 < M; omega
  · rw [dif_neg, if_neg (show ¬N - 1 ≤ (j 0).val + (winEquiv N w).val from hc), h0]
    intro hin
    have := hin 0
    change N - 1 ≤ (j 0).val * 1 + (w 0).val ∧ (j 0).val * 1 + (w 0).val - (N - 1) < N at this
    omega

theorem v28_eq (j : S8192x16.Idx) :
    val_main_v28 (F := Ideal) x0 x1 x2 x3 x4 x5 j = CUM x0 x1 x2 x3 x4 x5 (j 1) ((j 0).val + 1) := by
  unfold val_main_v28
  have key := reduceWindow_prefix 8192 16 8191 rfl (val_main_v27 (F := Ideal) x0 x1 x2 x3 x4 x5) (val_main_call1_call0_v0 (F := Ideal))
    Cert.ReferenceFoxIdeal.Gen.reduceWindows_S8192x16_S8192x16_w8192s1p8191_0_w1s1p0_0 Cert.ReferenceFoxIdeal.Gen.h_S_ ?_ j (LF x0 x1 x2 x3 x4 x5 (j 1)) ?_
  · exact key
  · rw [val_main_call1_call0_v0_apply, val_main_call1_call0_cst_apply]; exact Ideal.ofBits_zero_f32
  · intro i hi
    have hn : (i 0).val < 8192 := (i 0).isLt
    refine Eq.trans ?_ (dif_pos hn).symm
    refine congrArg _ (funext fun a => ?_)
    match a with
    | ⟨0, _⟩ => rfl
    | ⟨1, _⟩ => exact hi

/-- The running sum over the logarithm of two. -/
theorem v31_eq (j : S8192x16.Idx) :
    val_main_v31 (F := Ideal) x0 x1 x2 x3 x4 x5 j = CUM x0 x1 x2 x3 x4 x5 (j 1) ((j 0).val + 1) * (((Real.log 2)⁻¹ : ℝ) : EReal) := by
  rw [val_main_v31_apply, v28_eq, val_main_v30_apply, val_main_v29_apply, val_main_cst_3_apply]
  generalize CUM x0 x1 x2 x3 x4 x5 (j 1) ((j 0).val + 1) = z
  show Ideal.div z (Ideal.log (Ideal.ofBits .f32 0x40000000#32)) = _
  have h2 : Real.log 2 ≠ 0 := Real.log_ne_zero_of_pos_of_ne_one (by norm_num) (by norm_num)
  rw [ofBits_two, Ideal.log_coe, if_neg (by norm_num), Ideal.div_coe h2, one_div]

end Cert.Fox

end
-- ==== Proof.FoxHost.lean ====
/-
The arrays that the host lays out before the kernel of the norm and the forget-gate biases.
-/
module

public import proofs.«01_k».proof.Proof.FoxState

@[expose] public section

set_option maxRecDepth 100000
set_option maxHeartbeats 1000000

noncomputable section

open Idealize.ShloMosaic Idealize.ShloMosaic.TcCoe Idealize.SL.Sem
open Idealize.ShloMosaic.Pipeline (Dat)

namespace Cert.KernelFoxIdeal.Blocks

open Cert.KernelFoxIdeal Cert.KernelFoxIdeal.Gen

variable (m : (ℓ : Loc nD τ sig) → Buf (Elt Ideal) ℓ)

theorem V_v4 (c : Dev nD) : V m c main_v4
    = shapeCast S1x4096 (shapeCast S4096 (m ((c : Thread nD τ).loc main_arg1) : (⟨S1x4096, .f32⟩ : BufTy).Contents (Elt Ideal)) shapeCasts_S1x4096_S4096) shapeCasts_S4096_S1x4096 := by
  rfl

theorem V_v6 (c : Dev nD) : V m c main_v6
    = transpose S14352x4096 [1, 0] (shapeCast S4096x14352 (m ((c : Thread nD τ).loc main_arg4) : (⟨S1x4096x14352, .f32⟩ : BufTy).Contents (Elt Ideal)) shapeCasts_S1x4096x14352_S4096x14352) transposes_S4096x14352_S14352x4096_1_0 := by
  rfl

theorem V_v2 (c : Dev nD) : V m c main_v2
    = shapeCast S1x128 (pad S128 ![0] ![112] ![0] (shapeCast S16 (m ((c : Thread nD τ).loc main_arg5) : (⟨S1x16, .f32⟩ : BufTy).Contents (Elt Ideal)) shapeCasts_S1x16_S16)
        (sitofp (F := Ideal) .f32 (constantI S_ 32 0#32)) pads_S16_S128_01120 h_S_) shapeCasts_S128_S1x128 := by
  rfl

theorem v4_apply (c : Dev nD) (i : S1x4096.Idx) : V m c main_v4 i = m ((c : Thread nD τ).loc main_arg1) i := by
  rw [V_v4 m c]
  pointwise []

theorem rows_apply (x : (⟨S1x4096x14352, .f32⟩ : BufTy).Contents (Elt Ideal)) (i : S14352x4096.Idx) (k : S4096x14352.Idx) (j : S1x4096x14352.Idx)
    (k0 : (k 0).val = (i 1).val) (k1 : (k 1).val = (i 0).val) (h1 : (j 1).val = (i 1).val) (h2 : (j 2).val = (i 0).val) :
    transpose S14352x4096 [1, 0] (shapeCast S4096x14352 x shapeCasts_S1x4096x14352_S4096x14352) transposes_S4096x14352_S14352x4096_1_0 i = x j := by
  refine (transpose_apply [1, 0] (shapeCast S4096x14352 x shapeCasts_S1x4096x14352_S4096x14352) transposes_S4096x14352_S14352x4096_1_0 i k
    (fun a => match a with
    | ⟨0, _⟩ => k1
    | ⟨1, _⟩ => k0)).trans (shapeCast_apply x shapeCasts_S1x4096x14352_S4096x14352 k j ?_)
  rewrite [Shape.rowMajor_val_three, Shape.rowMajor_val_two]
  have h0 : (j 0).val < 1 := (j 0).isLt
  show ((j 0).val * 4096 + (j 1).val) * 14352 + (j 2).val = (k 0).val * 14352 + (k 1).val
  omega

theorem v6_apply (c : Dev nD) (i : S14352x4096.Idx) (j : S1x4096x14352.Idx) (h1 : (j 1).val = (i 1).val) (h2 : (j 2).val = (i 0).val) :
    V m c main_v6 i = m ((c : Thread nD τ).loc main_arg4) j :=
  (congrFun (V_v6 m c) i).trans (rows_apply _ i (ValueIdx.ix2 (i 1) (i 0)) j rfl rfl h1 h2)

theorem v2_apply (c : Dev nD) (i : S1x128.Idx) (h : (i 1).val < 16) : V m c main_v2 i = m ((c : Thread nD τ).loc main_arg5) (ValueIdx.ix2 0 ⟨(i 1).val, h⟩) := by
  rw [V_v2 m c]
  pointwise []
  rw [dif_pos h]
  rfl

/-- The table that places the keys' pieces. -/
def tabK : (⟨S384x2048, .bf16⟩ : BufTy).Contents (Elt Ideal) :=
  truncf (F := Ideal) .bf16 (shapeCast S384x2048 (select (andi (cmpi .eq (iotaInDim S3x128x16x128 32 1) (iotaInDim S3x128x16x128 32 2))
      (cmpi .eq (iotaInDim S3x128x16x128 32 3) (addi (iotaInDim S3x128x16x128 32 0) (broadcastInDim S3x128x16x128 ![] bcast_S_S3x128x16x128 (constantI S_ 32 3#32)))))
    (broadcastInDim S3x128x16x128 ![] bcast_S_S3x128x16x128 (constant (F := Ideal) S_ .f32 0xBF800000#32))
    (broadcastInDim S3x128x16x128 ![] bcast_S_S3x128x16x128 (constant (F := Ideal) S_ .f32 0x00000000#32))) shapeCasts_S3x128x16x128_S384x2048) bitsLt_bf16_f32

theorem V_v27 (c : Dev nD) : V m c main_v27 = tabK := by
  unfold tabK; rfl

/-- The table that places the queries' pieces. -/
def tabQ : (⟨S128x384, .bf16⟩ : BufTy).Contents (Elt Ideal) :=
  truncf (F := Ideal) .bf16 (shapeCast S128x384 (select (andi (cmpi .eq (iotaInDim S16x8x3x128 32 3) (iotaInDim S16x8x3x128 32 0))
      (cmpi .eq (iotaInDim S16x8x3x128 32 1) (iotaInDim S16x8x3x128 32 2)))
    (broadcastInDim S16x8x3x128 ![] bcast_S_S16x8x3x128 (constant (F := Ideal) S_ .f32 0x3F800000#32))
    (broadcastInDim S16x8x3x128 ![] bcast_S_S16x8x3x128 (constant (F := Ideal) S_ .f32 0x00000000#32))) shapeCasts_S16x8x3x128_S128x384) bitsLt_bf16_f32

theorem V_v28 (c : Dev nD) : V m c main_v28 = tabQ := by
  unfold tabQ; rfl

theorem V_cst (c : Dev nD) : V m c main_cst = fun i => FloatOps.ofBits (F := Ideal) .f32 (lit0 (S1x2048.rowMajor i)) := by
  rfl

theorem V_cst_0 (c : Dev nD) : V m c main_cst_0 = fun i => FloatOps.ofBits (F := Ideal) .f32 (lit1 (S128x1.rowMajor i)) := by
  rfl

theorem cmpi_ofNat (a b : ℕ) (ha : a < 4294967296) (hb : b < 4294967296) :
    IntOp.cmpi .eq (BitVec.ofNat 32 a) (BitVec.ofNat 32 b) = if a = b then 1#1 else 0#1 := by
  by_cases p : a = b
  · simp [IntOp.cmpi, p]
  · have h : BitVec.ofNat 32 a ≠ BitVec.ofNat 32 b := fun h => p (by
      have := congrArg BitVec.toNat h
      simpa [BitVec.toNat_ofNat, Nat.mod_eq_of_lt ha, Nat.mod_eq_of_lt hb] using this)
    have h' : (BitVec.ofNat 32 a == BitVec.ofNat 32 b) = false := beq_eq_false_iff_ne.2 h
    simp [IntOp.cmpi, p, h']

theorem sel_and {α : Type} (a b d e : ℕ) (ha : a < 4294967296) (hb : b < 4294967296) (hd : d < 4294967296) (he : e < 4294967296) (x y : α) :
    Scalar.select (IntOp.andi (IntOp.cmpi .eq (BitVec.ofNat 32 a) (BitVec.ofNat 32 b)) (IntOp.cmpi .eq (BitVec.ofNat 32 d) (BitVec.ofNat 32 e))) x y
      = if a = b ∧ d = e then x else y := by
  rw [cmpi_ofNat _ _ ha hb, cmpi_ofNat _ _ hd he]
  by_cases p : a = b <;> by_cases q : d = e <;> simp [Scalar.select, IntOp.andi, p, q]

theorem tabK_apply (i : S384x2048.Idx) : tabK i = if (i 0).val % 128 = (i 1).val / 128 ∧ (i 1).val % 128 = (i 0).val / 128 + 3 then (-1 : EReal) else 0 := by
  have h0 : (i 0).val < 384 := (i 0).isLt
  have h1 : (i 1).val < 2048 := (i 1).isLt
  have e : Ideal.ofBits .f32 3212836864#32 = (-1 : EReal) := by
    simp [Ideal.ofBits, Ideal.ieee, -EReal.coe_mul]; norm_num
  pointwise [tabK]
  rw [show IntOp.addi (BitVec.ofNat 32 ((i 0).val / 128)) 3#32 = BitVec.ofNat 32 ((i 0).val / 128 + 3) from (BitVec.ofNat_add _ _).symm,
    sel_and _ _ _ _ (by omega) (by omega) (by omega) (by omega), e]

theorem tabQ_apply (i : S128x384.Idx) : tabQ i = if (i 1).val % 128 = (i 0).val / 8 ∧ (i 0).val % 8 = (i 1).val / 128 then (1 : EReal) else 0 := by
  have h0 : (i 0).val < 128 := (i 0).isLt
  have h1 : (i 1).val < 384 := (i 1).isLt
  pointwise [tabQ]
  exact sel_and _ _ _ _ (by omega) (by omega) (by omega) (by omega) _ _

theorem lit0_eq : ∀ i : Fin 2048, lit0 i = if i.val % 128 < 3 then 0x3F800000#32 else 0x00000000#32 := by
  decide +kernel

theorem lit1_eq : ∀ i : Fin 128, lit1 i = if 3 ≤ i.val % 8 ∧ i.val % 8 < 6 then 0x3F800000#32 else 0x00000000#32 := by
  decide +kernel

end Cert.KernelFoxIdeal.Blocks

end
-- ==== Proof.FoxPoint.lean ====
/-
The values of the norm and of the forget gate's argument at one grid point, at the extended reals.
-/
module

public import proofs.«01_k».proof.Proof.FoxState
public import proofs.«01_k».proof.Proof.FoxRef
public import proofs.«01_k».proof.Proof.FoxHost

@[expose] public section

set_option maxRecDepth 100000
set_option maxHeartbeats 1000000

noncomputable section

open Idealize.ShloMosaic Idealize.ShloMosaic.TcCoe Idealize.SL.Sem
open Idealize.ShloMosaic.Pipeline (Dat)

namespace Cert.KernelFoxIdeal.Blocks

open Cert.KernelFoxIdeal Cert.KernelFoxIdeal.Gen Cert.ReferenceFoxIdeal.Read

variable (m : (ℓ : Loc nD τ sig) → Buf (Elt Ideal) ℓ)

/-- Where the blocks lie: 16 blocks of 512 rows; the forget gate's weight columns start at column 6144 of the projection. -/
theorem idx : ∀ t : Fin cfg0.N, win0_0.index t = ![t.val, 0] ∧ win0_1.index t = ![0, 0]
    ∧ win0_2.index t = ![0, 0] ∧ win0_3.index t = ![0, 0] ∧ win0_4.index t = ![6144, 0] ∧ win0_5.index t = ![0, 0]
    ∧ win0_6.index t = ![0, 0] ∧ win0_7.index t = ![0, 0] ∧ win0_8.index t = ![0, 0] ∧ win0_9.index t = ![0, 0]
    ∧ win0_10.index t = ![t.val, 0] ∧ win0_11.index t = ![0, t.val] ∧ win0_12.index t = ![t.val, 0] ∧ t.val < 16 :=
  (by decide +kernel : ∀ t : Fin grid0.N, _)

theorem b0 (c : Dev nD) (t : Fin cfg0.N) (y : S512x4096.Idx) (j : S8192x4096.Idx) (h0 : (j 0).val = 512 * t.val + (y 0).val) (h1 : (j 1).val = (y 1).val) :
    iblk m c 0 t y = m ((c : Thread nD τ).loc main_arg0) j := by
  refine (congrFun (V_main_arg0 m c) _).trans (congrArg (m ((c : Thread nD τ).loc main_arg0)) (funext fun a => Fin.ext ?_))
  match a with
  | ⟨0, _⟩ =>
    refine (Pipeline.Window.rect_emb_val_off win0_0 t y 0).trans ?_
    rw [(idx t).1]; exact (congrArg (· + (y 0).val) (Nat.mul_comm _ _)).trans h0.symm
  | ⟨1, _⟩ =>
    refine (Pipeline.Window.rect_emb_val_off win0_0 t y 1).trans ?_
    rw [(idx t).1]; exact (Nat.zero_add _).trans h1.symm

theorem b1 (c : Dev nD) (t : Fin cfg0.N) (y : S1x4096.Idx) :
    iblk m c 1 t y = m ((c : Thread nD τ).loc main_arg1) y := by
  refine (v4_apply m c _).trans (congrArg (m ((c : Thread nD τ).loc main_arg1)) (funext fun a => Fin.ext ?_))
  match a with
  | ⟨0, _⟩ =>
    refine (Pipeline.Window.rect_emb_val_off win0_1 t y 0).trans ?_
    rw [(idx t).2.1]; exact Nat.zero_add _
  | ⟨1, _⟩ =>
    refine (Pipeline.Window.rect_emb_val_off win0_1 t y 1).trans ?_
    rw [(idx t).2.1]; exact Nat.zero_add _

theorem b2 (c : Dev nD) (t : Fin cfg0.N) (y : S1x4096.Idx) :
    iblk m c 2 t y = m ((c : Thread nD τ).loc main_arg2) y := by
  refine (congrFun (V_main_arg2 m c) _).trans (congrArg (m ((c : Thread nD τ).loc main_arg2)) (funext fun a => Fin.ext ?_))
  match a with
  | ⟨0, _⟩ =>
    refine (Pipeline.Window.rect_emb_val_off win0_2 t y 0).trans ?_
    rw [(idx t).2.2.1]; exact Nat.zero_add _
  | ⟨1, _⟩ =>
    refine (Pipeline.Window.rect_emb_val_off win0_2 t y 1).trans ?_
    rw [(idx t).2.2.1]; exact Nat.zero_add _

theorem b3 (c : Dev nD) (t : Fin cfg0.N) (y : S1x4096.Idx) :
    iblk m c 3 t y = m ((c : Thread nD τ).loc main_arg3) y := by
  refine (congrFun (V_main_arg3 m c) _).trans (congrArg (m ((c : Thread nD τ).loc main_arg3)) (funext fun a => Fin.ext ?_))
  match a with
  | ⟨0, _⟩ =>
    refine (Pipeline.Window.rect_emb_val_off win0_3 t y 0).trans ?_
    rw [(idx t).2.2.2.1]; exact Nat.zero_add _
  | ⟨1, _⟩ =>
    refine (Pipeline.Window.rect_emb_val_off win0_3 t y 1).trans ?_
    rw [(idx t).2.2.2.1]; exact Nat.zero_add _

theorem b4 (c : Dev nD) (t : Fin cfg0.N) (y : S128x4096.Idx) (j : S1x4096x14352.Idx) (h1 : (j 1).val = (y 1).val) (h2 : (j 2).val = 6144 + (y 0).val) :
    iblk m c 4 t y = m ((c : Thread nD τ).loc main_arg4) j := by
  refine v6_apply m c _ j ?_ ?_
  · refine h1.trans (Eq.symm ((Pipeline.Window.rect_emb_val_off win0_4 t y 1).trans ?_))
    rw [(idx t).2.2.2.2.1]; exact Nat.zero_add _
  · refine h2.trans (Eq.symm ((Pipeline.Window.rect_emb_val_off win0_4 t y 0).trans ?_))
    rw [(idx t).2.2.2.2.1]; rfl

theorem b5 (c : Dev nD) (t : Fin cfg0.N) (y : S1x128.Idx) (j : S1x16.Idx) (h1 : (j 1).val = (y 1).val) :
    iblk m c 5 t y = m ((c : Thread nD τ).loc main_arg5) j := by
  have e0 : (((cfg0.win 5).blk t).view.emb y 1).val = (y 1).val := by
    refine (Pipeline.Window.rect_emb_val_off win0_5 t y 1).trans ?_
    rw [(idx t).2.2.2.2.2.1]; exact Nat.zero_add _
  have hj : (j 1).val < 16 := (j 1).isLt
  refine (v2_apply m c _ (by rw [e0]; omega)).trans (congrArg (m ((c : Thread nD τ).loc main_arg5)) (funext fun a => Fin.ext ?_))
  match a with
  | ⟨0, _⟩ =>
    have hz : (j 0).val < 1 := (j 0).isLt
    show 0 = (j 0).val
    omega
  | ⟨1, _⟩ => exact e0.trans h1.symm

/-- One element of the normed rows a grid point leaves is the reference's element there. -/
theorem h_point (c : Dev nD) (t : Fin cfg0.N) (y : S512x4096.Idx) :
    k0_pay5 (F := Ideal) (iblk m c 0 t) (iblk m c 1 t) (iblk m c 2 t) (iblk m c 3 t) y
      = val_main_v55 (F := Ideal) (m ((c : Thread nD τ).loc main_arg0)) (m ((c : Thread nD τ).loc main_arg1)) (m ((c : Thread nD τ).loc main_arg2)) (m ((c : Thread nD τ).loc main_arg3))
          (((cfg0.win 10).blk t).view.emb y) := by
  pointwise [k0_pay5, val_main_v55, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_cst_2, val_main_v14, val_main_v15, val_main_v16, val_main_v17, val_main_v18, val_main_v19]
  blk_point [iblk, V, idx t]
  refine (b1 m c t _).trans (congrArg (m ((c : Thread nD τ).loc main_arg1)) (funext fun a => Fin.ext ?_))
  match a with
  | ⟨0, _⟩ => rfl
  | ⟨1, _⟩ =>
    refine Eq.symm ((Pipeline.Window.rect_emb_val_off win0_10 t y 1).trans ?_)
    rw [(idx t).2.2.2.2.2.2.2.2.2.2.1]; exact Nat.zero_add _

/-- The normed rows after the run. -/
theorem h_final (c : Dev nD) : (dats m 0 c).arrAt 10 (cfgs 0).N
    = val_main_v55 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10]
  by_cases h : t.val % 16 = 0
  · rw [hA m c t h]; exact h_point m c t y
  · rw [hB m c t h]; exact h_point m c t y

theorem gate_congr {a a' g g' s s' d d' w w' : Fin 4096 → EReal} {b b' : EReal} (p q : EReal) (h0 : ∀ x, a x = a' x) (h1 : ∀ x, g x = g' x)
    (h2 : ∀ x, s x = s' x) (h3 : ∀ x, d x = d' x) (h4 : ∀ x, w x = w' x) (h5 : b = b') :
    (∑ x, (a x * Ideal.rsqrt (Ideal.div (∑ x, a x * a x) p + q) * g x * (1 + s x) + d x) * w x) + b
      = (∑ x, (a' x * Ideal.rsqrt (Ideal.div (∑ x, a' x * a' x) p + q) * g' x * (1 + s' x) + d' x) * w' x) + b' := by
  rw [funext h0, funext h1, funext h2, funext h3, funext h4, h5]

/-- The forget gate's argument, in the lanes of the heads. -/
theorem gate_point (c : Dev nD) (t : Fin cfg0.N) (y : S512x128.Idx) (j : Cert.ReferenceFoxIdeal.S8192x16.Idx) (h0 : (j 0).val = 512 * t.val + (y 0).val) (h1 : (j 1).val = (y 1).val) :
    gate m c t (wf m c) y
      = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  pointwise [gate, wf, k0_pay6, k0_pay5, k0_pay3, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_cst_2, val_main_v14, val_main_v15, val_main_v16, val_main_v17, val_main_v18, val_main_v19, val_main_v20, val_main_v21, val_main_v22, val_main_v23, val_main_v24, val_main_v25, val_main_v26]
  have e0 : ∀ x : Fin 4096, iblk m c 0 t (ValueIdx.ix2 (y 0) x) = m ((c : Thread nD τ).loc main_arg0) (ValueIdx.ix2 (j 0) x) := fun x => b0 m c t _ _ h0 rfl
  have e1 : ∀ x : Fin 4096, iblk m c 1 t (ValueIdx.ix2 0 x) = m ((c : Thread nD τ).loc main_arg1) (ValueIdx.ix2 0 x) := fun x => b1 m c t _
  have e2 : ∀ x : Fin 4096, iblk m c 2 t (ValueIdx.ix2 0 x) = m ((c : Thread nD τ).loc main_arg2) (ValueIdx.ix2 0 x) := fun x => b2 m c t _
  have e3 : ∀ x : Fin 4096, iblk m c 3 t (ValueIdx.ix2 0 x) = m ((c : Thread nD τ).loc main_arg3) (ValueIdx.ix2 0 x) := fun x => b3 m c t _
  have hj : (j 1).val < 16 := (j 1).isLt
  have e4 : ∀ x : Fin 4096, iblk m c 4 pt0 (ValueIdx.ix2 (y 1) x) = m ((c : Thread nD τ).loc main_arg4) (ValueIdx.ix3 0 x ⟨6144 + (j 1).val, by omega⟩) := fun x => b4 m c pt0 _ _ rfl (congrArg (6144 + ·) h1)
  have e5 : iblk m c 5 t (ValueIdx.ix2 0 (y 1)) = m ((c : Thread nD τ).loc main_arg5) (ValueIdx.ix2 0 (j 1)) := b5 m c t _ _ h1
  exact gate_congr _ _ e0 e1 e2 e3 e4 e5

end Cert.KernelFoxIdeal.Blocks

end
-- ==== Proof.FoxPays.lean ====
/-
What the running sums and the biases of one grid point are, at the extended reals.
-/
module

public import proofs.«01_k».proof.Proof.FoxState
public import proofs.«01_k».proof.Proof.FoxRef
public import proofs.«01_k».proof.Proof.FoxHost

@[expose] public section

set_option maxRecDepth 100000
set_option maxHeartbeats 1000000

noncomputable section

open Idealize.ShloMosaic Idealize.ShloMosaic.TcCoe Idealize.SL.Sem
open Idealize.ShloMosaic.Pipeline (Dat)

namespace Cert.KernelFoxIdeal.Blocks

open Cert.KernelFoxIdeal Cert.KernelFoxIdeal.Gen Cert.Fox

variable (m : (ℓ : Loc nD τ sig) → Buf (Elt Ideal) ℓ)

/-- The logarithm of the forget gate, as the kernel forms it. -/
def lg (z : EReal) : EReal := min z 0 - Ideal.log1p (Ideal.exp (0 - max z (-z)))

theorem toInt_small (a : ℕ) (h : a < 512) : (BitVec.ofNat 32 a).toInt = a := by
  have e : (BitVec.ofNat 32 a).toNat = a := by rw [BitVec.toNat_ofNat]; exact Nat.mod_eq_of_lt (by omega)
  rw [BitVec.toInt_eq_toNat_of_lt (by rw [e]; omega), e]

theorem cmpi_sle (a b : ℕ) (ha : a < 512) (hb : b < 512) :
    IntOp.cmpi .sle (BitVec.ofNat 32 a) (BitVec.ofNat 32 b) = if a ≤ b then 1#1 else 0#1 := by
  by_cases h : a ≤ b <;> simp [IntOp.cmpi, BitVec.sle, toInt_small, ha, hb, h]

/-- The product with the triangle of ones, the two remainders being 0. -/
theorem tri (z : Fin 512 → EReal) (r : ℕ) (hr : r < 512) (v : EReal) (hz : ∀ k, IsReal (z k)) :
    ((∑ x : Fin 512, Scalar.select (IntOp.cmpi .sle (BitVec.ofNat 32 x.val) (BitVec.ofNat 32 r)) (lg (z x)) (0 : EReal))
      + (∑ x : Fin 512, Scalar.select (IntOp.cmpi .sle (BitVec.ofNat 32 x.val) (BitVec.ofNat 32 r)) (lg (z x) - lg (z x)) (0 : EReal))
      + (∑ x : Fin 512, Scalar.select (IntOp.cmpi .sle (BitVec.ofNat 32 x.val) (BitVec.ofNat 32 r)) (lg (z x) - lg (z x) - (lg (z x) - lg (z x))) (0 : EReal))) + v
      = (∑ k : Fin 512, if k.val ≤ r then lg (z k) else 0) + v := by
  have hs : ∀ x : Fin 512, lg (z x) - lg (z x) = 0 := fun x => (log_sigmoid (hz x)).2.sub_self
  have h0 : ∀ x : Fin 512, Scalar.select (IntOp.cmpi .sle (BitVec.ofNat 32 x.val) (BitVec.ofNat 32 r)) (0 : EReal) (0 : EReal) = 0 := fun x => by
    rw [cmpi_sle _ _ x.isLt hr]; by_cases h : x.val ≤ r <;> simp [Scalar.select, h]
  have h1 : ∀ x : Fin 512, Scalar.select (IntOp.cmpi .sle (BitVec.ofNat 32 x.val) (BitVec.ofNat 32 r)) (lg (z x)) (0 : EReal)
      = if x.val ≤ r then lg (z x) else 0 := fun x => by
    rw [cmpi_sle _ _ x.isLt hr]; by_cases h : x.val ≤ r <;> simp [Scalar.select, h]
  simp only [hs, h1, sub_zero, h0, Finset.sum_const_zero, add_zero]

theorem pay8_point (g : FVec Ideal S512x128 .f32) (v : Vec Ideal S1x128 .f32) (y : S512x128.Idx) (hz : ∀ k : Fin 512, IsReal (g (ValueIdx.ix2 k (y 1)))) :
    k0_pay8 (F := Ideal) g k0_pay7 v y
      = (∑ k : Fin 512, if k.val ≤ (y 0).val then lg (g (ValueIdx.ix2 k (y 1))) else 0) + v (ValueIdx.ix2 0 (y 1)) := by
  refine Eq.trans ?_ (tri (fun k => g (ValueIdx.ix2 k (y 1))) (y 0).val (y 0).isLt (v (ValueIdx.ix2 0 (y 1))) hz)
  pointwise [k0_pay8, k0_pay7]
  rfl

theorem pay9_point (g : FVec Ideal S512x128 .f32) (v : Vec Ideal S1x128 .f32) (y : S8x128.Idx) :
    k0_pay9 (F := Ideal) g k0_pay7 v y = k0_pay8 (F := Ideal) g k0_pay7 v (ValueIdx.ix2 511 (y 1)) := by
  pointwise [k0_pay9]
  rfl

/-- The base change of the logarithm, at the extended reals. -/
def lb : EReal := (((Real.log 2)⁻¹ : ℝ) : EReal)

theorem named_lb : Named.named (F := Ideal) κ "log2_e" (φ := .f32) 0x3FB8AA3B#32 = lb :=
  IdealRules.named_const.ideal_named_scalar _ _ _ _ rfl

theorem pay10_point (g : FVec Ideal S512x128 .f32) (v : Vec Ideal S1x128 .f32) (y : S512x384.Idx) (z : EReal)
    (hz : k0_pay8 (F := Ideal) g k0_pay7 v (ValueIdx.ix2 (y 0) ⟨(y 1).val % 128, Nat.mod_lt _ (by decide)⟩) = z) (hr : IsReal z) :
    k0_pay10 (F := Ideal) g k0_pay7 v y = if (y 1).val < 128 then z * lb else 0 := by
  have hy : (y 1).val < 384 := (y 1).isLt
  have hl : IsReal (z * lb) := hr.mul ⟨_, rfl⟩
  pointwise [k0_pay10]
  rw [named_lb]
  by_cases h : (y 1).val < 128
  · rw [if_pos h]
    refine (dif_pos h).trans ?_
    rw [← hz]
    refine congrArg (fun j => k0_pay8 (F := Ideal) g k0_pay7 v (ValueIdx.ix2 (y 0) j) * lb) (Fin.ext (Nat.mod_eq_of_lt h).symm)
  · rw [if_neg h]
    refine (dif_neg h).trans ?_
    by_cases h' : (y 1).val - 128 < 128
    · refine (dif_pos h').trans ?_
      have e : k0_pay8 (F := Ideal) g k0_pay7 v (ValueIdx.ix2 (y 0) ⟨(y 1).val - 128, h'⟩) = z := by
        rw [← hz]; exact congrArg (fun j => k0_pay8 (F := Ideal) g k0_pay7 v (ValueIdx.ix2 (y 0) j)) (Fin.ext (by show (y 1).val - 128 = (y 1).val % 128; omega))
      refine Eq.trans (congrArg (fun w : EReal => w * lb - w * lb) e) hl.sub_self
    · refine (dif_neg h').trans ?_
      have e : k0_pay8 (F := Ideal) g k0_pay7 v (ValueIdx.ix2 (y 0) ⟨(y 1).val - 128 - 128, by omega⟩) = z := by
        rw [← hz]; exact congrArg (fun j => k0_pay8 (F := Ideal) g k0_pay7 v (ValueIdx.ix2 (y 0) j)) (Fin.ext (by show (y 1).val - 128 - 128 = (y 1).val % 128; omega))
      refine Eq.trans (congrArg (fun w : EReal => w * lb - w * lb - (w * lb - w * lb)) e) ?_
      show z * lb - z * lb - (z * lb - z * lb) = 0
      rw [hl.sub_self, sub_zero]

theorem pay1_point (p : FVec Ideal S512x384 .bf16) (w : Vec Ideal S384x2048 .bf16) (b : Vec Ideal S1x2048 .f32) (y : S512x2048.Idx) :
    k0_pay1 (F := Ideal) p w b y = (∑ q : Fin 384, p (ValueIdx.ix2 (y 0) q) * w (ValueIdx.ix2 q (y 1))) + b (ValueIdx.ix2 0 (y 1)) := by
  pointwise [k0_pay1]
  rfl

theorem pay2_point (p : FVec Ideal S512x384 .bf16) (w : Vec Ideal S128x384 .bf16) (b : Vec Ideal S128x1 .f32) (y : S128x512.Idx) :
    k0_pay2 (F := Ideal) p w b y = (∑ q : Fin 384, w (ValueIdx.ix2 (y 0) q) * p (ValueIdx.ix2 (y 1) q)) + b (ValueIdx.ix2 (y 0) 0) := by
  pointwise [k0_pay2]
  rfl

theorem row0_apply (v : Vec Ideal S8x128 .f32) (i : S1x128.Idx) : row0 v i = v (ValueIdx.ix2 0 (i 1)) := by
  refine congrArg v (funext fun a => Fin.ext ?_)
  have h : (i 0).val < 1 := (i 0).isLt
  match a with
  | ⟨0, _⟩ =>
    show 0 + 1 * (i 0).val = 0
    omega
  | ⟨1, _⟩ =>
    show 0 + 1 * (i 1).val = (i 1).val
    omega

theorem pay4_apply (i : S8x128.Idx) : k0_pay4 (F := Ideal) i = 0 := by
  pointwise [k0_pay4]

/-- Only the head's own entry of the keys' table can count. -/
theorem collapseK (C : Fin 384 → EReal) (h l : ℕ) (hh : h < 16) (hz : ∀ q : Fin 384, 128 ≤ q.val → q.val % 128 = h → C q = 0) :
    (∑ q : Fin 384, C q * (if q.val % 128 = h ∧ l = q.val / 128 + 3 then (-1 : EReal) else 0)) = if l = 3 then -(C ⟨h, by omega⟩) else 0 := by
  rw [Finset.sum_eq_single (⟨h, by omega⟩ : Fin 384)]
  · by_cases hl : l = 3
    · rw [if_pos hl, if_pos ⟨Nat.mod_eq_of_lt (by show h < 128; omega), by show l = h / 128 + 3; rw [hl, Nat.div_eq_of_lt (by omega : h < 128)]⟩, mul_neg, mul_one]
    · rw [if_neg hl, if_neg (fun e => hl (by have e2 : l = h / 128 + 3 := e.2; omega)), mul_zero]
  · intro q _ hq
    by_cases e : q.val % 128 = h ∧ l = q.val / 128 + 3
    · rw [hz q (by by_contra hlt; exact hq (Fin.ext (by show q.val = h; omega))) e.1, zero_mul]
    · rw [if_neg e, mul_zero]
  · intro hn; exact absurd (Finset.mem_univ _) hn

/-- Only the head's own entry of the queries' table can count. -/
theorem collapseQ (C : Fin 384 → EReal) (h l : ℕ) (hh : h < 16) (hz : ∀ q : Fin 384, 128 ≤ q.val → q.val % 128 = h → C q = 0) :
    (∑ q : Fin 384, (if q.val % 128 = h ∧ l = q.val / 128 then (1 : EReal) else 0) * C q) = if l = 0 then C ⟨h, by omega⟩ else 0 := by
  rw [Finset.sum_eq_single (⟨h, by omega⟩ : Fin 384)]
  · by_cases hl : l = 0
    · rw [if_pos hl, if_pos ⟨Nat.mod_eq_of_lt (by show h < 128; omega), by show l = h / 128; rw [hl, Nat.div_eq_of_lt (by omega : h < 128)]⟩, one_mul]
    · rw [if_neg hl, if_neg (fun e => hl (by have e2 : l = h / 128 := e.2; omega)), zero_mul]
  · intro q _ hq
    by_cases e : q.val % 128 = h ∧ l = q.val / 128
    · rw [hz q (by by_contra hlt; exact hq (Fin.ext (by show q.val = h; omega))) e.1, mul_zero]
    · rw [if_neg e, zero_mul]
  · intro hn; exact absurd (Finset.mem_univ _) hn

end Cert.KernelFoxIdeal.Blocks

end
-- ==== Proof.FoxBiasRef.lean ====
/-
What the biases of the reference are at one element.
-/
module

public import proofs.«01_k».proof.Proof.Gen.ReferenceFoxIdeal.Read
public import proofs.«01_k».proof.Proof.FoxRef

@[expose] public section

set_option maxRecDepth 16384
set_option maxHeartbeats 1000000

noncomputable section

open Idealize.ShloMosaic Idealize.ShloMosaic.TcCoe Idealize.SL.Sem

namespace Cert.Fox

open Cert.ReferenceFoxIdeal Cert.ReferenceFoxIdeal.Read

theorem pad0 (k : S_.Idx) : val_main_call2_v0 (F := Ideal) k = (0 : EReal) := by
  show ((((0#32 : BitVec 32).toInt : ℝ)) : EReal) = 0
  simp

theorem pad0' : val_main_call2_v0 (F := Ideal) (Shape.Idx.first Cert.ReferenceFoxIdeal.Gen.h_S_) = (0 : EReal) := pad0 _

theorem kpick (a l : ℕ) (w u z : EReal) (ha : a < 16) (hu : u = 0) (hw : w = -z) :
    (if _ : a < 16 ∧ l < 6 then
      if _ : l < 1 then (1 : EReal)
      else if _ : l - 1 < 1 then 1
      else if _ : l - 1 - 1 < 1 then 1
      else if _ : l - 1 - 1 - 1 < 1 then w
      else if _ : l - 1 - 1 - 1 - 1 < 1 then 0 else 0
    else u) = if l < 3 then 1 else if l = 3 then -z else 0 := by
  subst hu; subst hw
  rcases (by omega : l = 0 ∨ l = 1 ∨ l = 2 ∨ l = 3 ∨ l = 4 ∨ l = 5 ∨ 6 ≤ l) with h | h | h | h | h | h | h
  iterate 6 (subst h; simp [ha])
  simp [show ¬l < 6 by omega, show ¬l < 3 by omega, show ¬l = 3 by omega]

theorem qpick (l : ℕ) (w z : EReal) (hl : l < 8) (hw : w = z) :
    (if _ : l < 1 then w
      else if _ : l - 1 < 1 then 0
      else if _ : l - 1 - 1 < 1 then 0
      else if _ : l - 1 - 1 - 1 < 1 then 1
      else if _ : l - 1 - 1 - 1 - 1 < 1 then 1
      else if _ : l - 1 - 1 - 1 - 1 - 1 < 1 then 1
      else if _ : l - 1 - 1 - 1 - 1 - 1 - 1 < 1 then 0 else 0) = if l = 0 then z else if 3 ≤ l ∧ l < 6 then 1 else 0 := by
  subst hw
  rcases (by omega : l = 0 ∨ l = 1 ∨ l = 2 ∨ l = 3 ∨ l = 4 ∨ l = 5 ∨ l = 6 ∨ l = 7) with h | h | h | h | h | h | h | h
  iterate 8 (subst h; simp)

/-- A key's piece: 1, 1, 1, then minus the running sum, then 0 up to 128. -/
theorem kref_point (x0 : (⟨S8192x4096, .f32⟩ : BufTy).Contents (Elt Ideal)) (x1 x2 x3 : (⟨S1x4096, .f32⟩ : BufTy).Contents (Elt Ideal))
    (x4 : (⟨S1x4096x14352, .f32⟩ : BufTy).Contents (Elt Ideal)) (x5 : (⟨S1x16, .f32⟩ : BufTy).Contents (Elt Ideal)) (j : S8192x2048.Idx)
    (z : EReal) (hz : ∀ i : S8192x16.Idx, (i 0).val = (j 0).val → (i 1).val = (j 1).val / 128 → val_main_v31 (F := Ideal) x0 x1 x2 x3 x4 x5 i = z) :
    val_main_v56 (F := Ideal) x0 x1 x2 x3 x4 x5 j = if (j 1).val % 128 < 3 then 1 else if (j 1).val % 128 = 3 then -z else 0 := by
  have hj : (j 1).val < 2048 := (j 1).isLt
  pointwise [val_main_v56, val_main_v54, val_main_v53, val_main_v52, val_main_v51, val_main_v50, val_main_v49, val_main_v48, val_main_v47, val_main_v46, val_main_v45, val_main_v33, val_main_v32, val_main_cst_4, val_main_cst_5]
  exact kpick _ _ _ _ z (by omega) pad0' (congrArg Neg.neg (hz (ValueIdx.ix2 (j 0) ⟨(j 1).val / 128, by omega⟩) rfl rfl))

/-- A query's piece: the running sum, 0, 0, then 1, 1, 1, then 0, 0. -/
theorem qref_point (x0 : (⟨S8192x4096, .f32⟩ : BufTy).Contents (Elt Ideal)) (x1 x2 x3 : (⟨S1x4096, .f32⟩ : BufTy).Contents (Elt Ideal))
    (x4 : (⟨S1x4096x14352, .f32⟩ : BufTy).Contents (Elt Ideal)) (x5 : (⟨S1x16, .f32⟩ : BufTy).Contents (Elt Ideal)) (j : S128x8192.Idx)
    (z : EReal) (hz : ∀ i : S8192x16.Idx, (i 0).val = (j 1).val → (i 1).val = (j 0).val / 8 → val_main_v31 (F := Ideal) x0 x1 x2 x3 x4 x5 i = z) :
    val_main_v44 (F := Ideal) x0 x1 x2 x3 x4 x5 j = if (j 0).val % 8 = 0 then z else if 3 ≤ (j 0).val % 8 ∧ (j 0).val % 8 < 6 then 1 else 0 := by
  have hj : (j 0).val < 128 := (j 0).isLt
  pointwise [val_main_v44, val_main_v43, val_main_v42, val_main_v41, val_main_v40, val_main_v39, val_main_v38, val_main_v37, val_main_v36, val_main_v35, val_main_v34, val_main_v33, val_main_v32, val_main_cst_4, val_main_cst_5]
  exact qpick _ _ z (by omega) (hz (ValueIdx.ix2 (j 1) ⟨(j 0).val / 8, by omega⟩) rfl rfl)

end Cert.Fox

end
-- ==== Proof.FoxCum.lean ====
/-
The running sums the kernel carries from one grid point to the next.
-/
module

public import proofs.«01_k».proof.Proof.FoxPoint
public import proofs.«01_k».proof.Proof.FoxPays
public import proofs.«01_k».proof.Proof.FoxBiasRef

@[expose] public section

set_option maxRecDepth 100000
set_option maxHeartbeats 1000000

noncomputable section

open Idealize.ShloMosaic Idealize.ShloMosaic.TcCoe Idealize.SL.Sem
open Idealize.ShloMosaic.Pipeline (Dat)

namespace Cert.KernelFoxIdeal.Blocks

open Cert.KernelFoxIdeal Cert.KernelFoxIdeal.Gen Cert.Fox

variable (m : (ℓ : Loc nD τ sig) → Buf (Elt Ideal) ℓ)

/-- The running sum of one head at the program's arguments. -/
abbrev cum (c : Dev nD) (h : Fin 16) (n : ℕ) : EReal :=
  CUM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) h n

/-- The arguments are real numbers. -/
abbrev RealArgs (c : Dev nD) : Prop :=
  Real6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- A carry holds the sums of the rows before a point, in the lanes of the heads. -/
def Carries (c : Dev nD) (t : ℕ) (v : Vec Ideal S1x128 .f32) : Prop :=
  ∀ (i : S1x128.Idx) (h : Fin 16), h.val = (i 1).val → v i = cum m c h (512 * t)

variable {m}

theorem gate_real {c : Dev nD} (H : RealArgs m c) (t : Fin cfg0.N) (h : Fin 16) (k : Fin 512) (l : Fin 128) (hl : h.val = l.val) :
    IsReal (gate m c t (wf m c) (ValueIdx.ix2 k l))
      ∧ lg (gate m c t (wf m c) (ValueIdx.ix2 k l)) = LF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) h (512 * t.val + k.val) := by
  have ht : t.val < 16 := (idx t).2.2.2.2.2.2.2.2.2.2.2.2.2
  have hk : k.val < 512 := k.isLt
  have hn : 512 * t.val + k.val < 8192 := by omega
  have e := gate_point m c t (ValueIdx.ix2 k l) (fun a => match a with
    | ⟨0, _⟩ => ⟨512 * t.val + k.val, hn⟩
    | ⟨1, _⟩ => h) rfl hl
  rw [e]
  refine ⟨real_v26 H _, Eq.trans ?_ (dif_pos hn).symm⟩
  exact (v27_eq H _).symm

/-- The sums of one point, in the lanes of the heads. -/
theorem cum_point {c : Dev nD} (H : RealArgs m c) (t : Fin cfg0.N) (v : Vec Ideal S1x128 .f32) (hv : Carries m c t.val v) (y : S512x128.Idx) (h : Fin 16) (hl : h.val = (y 1).val) :
    k0_pay8 (F := Ideal) (gate m c t (wf m c)) k0_pay7 v y = cum m c h (512 * t.val + (y 0).val + 1) := by
  rw [pay8_point _ _ _ fun k => (gate_real H t h k (y 1) hl).1, hv _ h hl, add_comm]
  exact sum_triangle _ _ _ (fun k => (gate_real H t h k (y 1) hl).2) _ (y 0).isLt

/-- What a point leaves carries to the next. -/
theorem carry_point {c : Dev nD} (H : RealArgs m c) (t : Fin cfg0.N) (v : Vec Ideal S1x128 .f32) (hv : Carries m c t.val v) :
    Carries m c (t.val + 1) (row0 (k0_pay9 (F := Ideal) (gate m c t (wf m c)) k0_pay7 v)) := by
  intro i h hl
  rw [row0_apply, pay9_point, cum_point H t v hv _ h hl]
  exact congrArg (cum m c h) (by show 512 * t.val + 511 + 1 = 512 * (t.val + 1); omega)

theorem carry_first (c : Dev nD) : Carries m c 0 (row0 (k0_pay4 (F := Ideal))) := by
  intro i h hl
  rw [row0_apply, pay4_apply]
  exact (Finset.sum_range_zero _).symm

/-- After each point the scratch holds the weight and the carry. -/
theorem state {c : Dev nD} (H : RealArgs m c) : ∀ (n : ℕ) (hn : n < cfg0.N), (outsAt0 m c n hn).2.2.2.1 = wf m c
    ∧ Carries m c (n + 1) (row0 (outsAt0 m c n hn).2.2.2.2)
  | 0, hn => by
    have w := wA m c ⟨0, hn⟩ rfl
    have k := cA m c ⟨0, hn⟩ rfl
    refine ⟨w, ?_⟩
    have k' : (outsAt0 m c 0 hn).2.2.2.2 = k0_pay9 (F := Ideal) (gate m c pt0 (wf m c)) k0_pay7 (row0 (k0_pay4 (F := Ideal))) := k
    rw [k']
    exact carry_point H pt0 _ (carry_first c)
  | n + 1, hn => by
    have ht : n + 1 < 16 := (idx ⟨n + 1, hn⟩).2.2.2.2.2.2.2.2.2.2.2.2.2
    have hne : ¬(n + 1) % 16 = 0 := by omega
    obtain ⟨w0, k0⟩ := state H n (Nat.lt_of_succ_lt hn)
    have w : (outsAt0 m c (n + 1) hn).2.2.2.1 = (outsAt0 m c n (Nat.lt_of_succ_lt hn)).2.2.2.1 := wB m c ⟨n + 1, hn⟩ hne
    have k : (outsAt0 m c (n + 1) hn).2.2.2.2 = k0_pay9 (F := Ideal) (gate m c ⟨n + 1, hn⟩ (outsAt0 m c n (Nat.lt_of_succ_lt hn)).2.2.2.1) k0_pay7 (row0 (outsAt0 m c n (Nat.lt_of_succ_lt hn)).2.2.2.2) :=
      cB m c ⟨n + 1, hn⟩ hne
    refine ⟨w.trans w0, ?_⟩
    rw [k, w0]
    exact carry_point H ⟨n + 1, hn⟩ _ k0

/-- The biases of a point, from a carry. -/
theorem biases {c : Dev nD} (H : RealArgs m c) (t : Fin cfg0.N) : ∃ v, Carries m c t.val v
    ∧ (outsAt0 m c t.val t.isLt).2.1 = k0_pay2 (F := Ideal) (k0_pay10 (gate m c t (wf m c)) k0_pay7 v) (iblk m c 8 t) (iblk m c 9 t)
    ∧ (outsAt0 m c t.val t.isLt).2.2.1 = k0_pay1 (F := Ideal) (k0_pay10 (gate m c t (wf m c)) k0_pay7 v) (iblk m c 6 t) (iblk m c 7 t) := by
  have ht : t.val < 16 := (idx t).2.2.2.2.2.2.2.2.2.2.2.2.2
  by_cases h : t.val % 16 = 0
  · have e : t = pt0 := Fin.ext (by show t.val = 0; omega)
    subst e
    exact ⟨_, carry_first c, qA m c pt0 h, kA m c pt0 h⟩
  · obtain ⟨w, k⟩ := state H (t.val - 1) (Nat.lt_of_le_of_lt (Nat.sub_le _ _) t.isLt)
    have e : t.val - 1 + 1 = t.val := by omega
    rw [e] at k
    refine ⟨_, k, ?_, ?_⟩
    · rw [qB m c t h]; show k0_pay2 (F := Ideal) (k0_pay10 (gate m c t (prev m c t).2.2.2.1) _ _) _ _ = _; rw [w]
    · rw [kB m c t h]; show k0_pay1 (F := Ideal) (k0_pay10 (gate m c t (prev m c t).2.2.2.1) _ _) _ _ = _; rw [w]

/-- The pieces of a head's sum: the sum to the base 2, then 0 and 0. -/
theorem piece {c : Dev nD} (H : RealArgs m c) (t : Fin cfg0.N) (v : Vec Ideal S1x128 .f32) (hv : Carries m c t.val v) (r : Fin 512) (q : Fin 384) (h : Fin 16)
    (hq : q.val % 128 = h.val) :
    k0_pay10 (F := Ideal) (gate m c t (wf m c)) k0_pay7 v (ValueIdx.ix2 r q) = if q.val < 128 then cum m c h (512 * t.val + r.val + 1) * lb else 0 :=
  pay10_point _ _ (ValueIdx.ix2 r q) _ (cum_point H t v hv _ h hq.symm) (real_CUM H _ _)

end Cert.KernelFoxIdeal.Blocks

end
-- ==== Proof.FoxBias.lean ====
/-
The biases the kernel leaves, at the extended reals.
-/
module

public import proofs.«01_k».proof.Proof.FoxCum

@[expose] public section

set_option maxRecDepth 100000
set_option maxHeartbeats 1000000

noncomputable section

open Idealize.ShloMosaic Idealize.ShloMosaic.TcCoe Idealize.SL.Sem
open Idealize.ShloMosaic.Pipeline (Dat)

namespace Cert.KernelFoxIdeal.Blocks

open Cert.KernelFoxIdeal Cert.KernelFoxIdeal.Gen Cert.Fox Cert.ReferenceFoxIdeal.Read

variable (m : (ℓ : Loc nD τ sig) → Buf (Elt Ideal) ℓ)

/-- The keys' table, whole at every point … -/
theorem b6 (c : Dev nD) (t : Fin cfg0.N) (y : S384x2048.Idx) :
    iblk m c 6 t y = if (y 0).val % 128 = (y 1).val / 128 ∧ (y 1).val % 128 = (y 0).val / 128 + 3 then (-1 : EReal) else 0 := by
  refine ((congrFun (V_v27 m c) _).trans (congrArg tabK (funext fun a => Fin.ext ?_))).trans (tabK_apply y)
  match a with
  | ⟨0, _⟩ =>
    refine (Pipeline.Window.rect_emb_val_off win0_6 t y 0).trans ?_
    rw [(idx t).2.2.2.2.2.2.1]; exact Nat.zero_add _
  | ⟨1, _⟩ =>
    refine (Pipeline.Window.rect_emb_val_off win0_6 t y 1).trans ?_
    rw [(idx t).2.2.2.2.2.2.1]; exact Nat.zero_add _

/-- … the keys' constants … -/
theorem b7 (c : Dev nD) (t : Fin cfg0.N) (y : S1x2048.Idx) :
    iblk m c 7 t y = if (y 1).val % 128 < 3 then (1 : EReal) else 0 := by
  have e : iblk m c 7 t y = FloatOps.ofBits (F := Ideal) .f32 (lit0 (S1x2048.rowMajor y)) := by
    refine (congrFun (V_cst m c) _).trans (congrArg (fun j : S1x2048.Idx => FloatOps.ofBits (F := Ideal) .f32 (lit0 (S1x2048.rowMajor j))) (funext fun a => Fin.ext ?_))
    match a with
    | ⟨0, _⟩ =>
      refine (Pipeline.Window.rect_emb_val_off win0_7 t y 0).trans ?_
      rw [(idx t).2.2.2.2.2.2.2.1]; exact Nat.zero_add _
    | ⟨1, _⟩ =>
      refine (Pipeline.Window.rect_emb_val_off win0_7 t y 1).trans ?_
      rw [(idx t).2.2.2.2.2.2.2.1]; exact Nat.zero_add _
  have h0 : (y 0).val < 1 := (y 0).isLt
  have r : (S1x2048.rowMajor y).val = (y 1).val := by
    rw [Shape.rowMajor_val_two]; show (y 0).val * 2048 + (y 1).val = (y 1).val; omega
  refine e.trans ((congrArg (FloatOps.ofBits (F := Ideal) .f32) (lit0_eq (S1x2048.rowMajor y))).trans ?_)
  rw [r]
  by_cases h : (y 1).val % 128 < 3
  · rw [if_pos h, if_pos h]; exact Ideal.ofBits_one_f32
  · rw [if_neg h, if_neg h]; exact Ideal.ofBits_zero_f32

/-- … the queries' table … -/
theorem b8 (c : Dev nD) (t : Fin cfg0.N) (y : S128x384.Idx) :
    iblk m c 8 t y = if (y 1).val % 128 = (y 0).val / 8 ∧ (y 0).val % 8 = (y 1).val / 128 then (1 : EReal) else 0 := by
  refine ((congrFun (V_v28 m c) _).trans (congrArg tabQ (funext fun a => Fin.ext ?_))).trans (tabQ_apply y)
  match a with
  | ⟨0, _⟩ =>
    refine (Pipeline.Window.rect_emb_val_off win0_8 t y 0).trans ?_
    rw [(idx t).2.2.2.2.2.2.2.2.1]; exact Nat.zero_add _
  | ⟨1, _⟩ =>
    refine (Pipeline.Window.rect_emb_val_off win0_8 t y 1).trans ?_
    rw [(idx t).2.2.2.2.2.2.2.2.1]; exact Nat.zero_add _

/-- … and the queries' constants. -/
theorem b9 (c : Dev nD) (t : Fin cfg0.N) (y : S128x1.Idx) :
    iblk m c 9 t y = if 3 ≤ (y 0).val % 8 ∧ (y 0).val % 8 < 6 then (1 : EReal) else 0 := by
  have e : iblk m c 9 t y = FloatOps.ofBits (F := Ideal) .f32 (lit1 (S128x1.rowMajor y)) := by
    refine (congrFun (V_cst_0 m c) _).trans (congrArg (fun j : S128x1.Idx => FloatOps.ofBits (F := Ideal) .f32 (lit1 (S128x1.rowMajor j))) (funext fun a => Fin.ext ?_))
    match a with
    | ⟨0, _⟩ =>
      refine (Pipeline.Window.rect_emb_val_off win0_9 t y 0).trans ?_
      rw [(idx t).2.2.2.2.2.2.2.2.2.1]; exact Nat.zero_add _
    | ⟨1, _⟩ =>
      refine (Pipeline.Window.rect_emb_val_off win0_9 t y 1).trans ?_
      rw [(idx t).2.2.2.2.2.2.2.2.2.1]; exact Nat.zero_add _
  have h0 : (y 1).val < 1 := (y 1).isLt
  have r : (S128x1.rowMajor y).val = (y 0).val := by
    rw [Shape.rowMajor_val_two]; show (y 0).val * 1 + (y 1).val = (y 0).val; omega
  refine e.trans ((congrArg (FloatOps.ofBits (F := Ideal) .f32) (lit1_eq (S128x1.rowMajor y))).trans ?_)
  rw [r]
  by_cases h : 3 ≤ (y 0).val % 8 ∧ (y 0).val % 8 < 6
  · rw [if_pos h, if_pos h]; exact Ideal.ofBits_one_f32
  · rw [if_neg h, if_neg h]; exact Ideal.ofBits_zero_f32

variable {m}

/-- The keys' biases of one point. -/
theorem k_point {c : Dev nD} (H : RealArgs m c) (t : Fin cfg0.N) (v : Vec Ideal S1x128 .f32) (hv : Carries m c t.val v) (y : S512x2048.Idx)
    (j : Cert.ReferenceFoxIdeal.S8192x2048.Idx) (h0 : (j 0).val = 512 * t.val + (y 0).val) (h1 : (j 1).val = (y 1).val) :
    k0_pay1 (F := Ideal) (k0_pay10 (gate m c t (wf m c)) k0_pay7 v) (iblk m c 6 t) (iblk m c 7 t) y
      = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  have hy : (y 1).val < 2048 := (y 1).isLt
  have hh : (y 1).val / 128 < 16 := by omega
  have hr := kref_point (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j
    (cum m c ⟨(y 1).val / 128, hh⟩ (512 * t.val + (y 0).val + 1) * lb) (fun i i0 i1 => by
      rw [v31_eq, i0, h0, show i 1 = (⟨(y 1).val / 128, hh⟩ : Fin 16) from Fin.ext (by rw [i1, h1])]; rfl)
  rw [hr, h1, pay1_point, b7]
  have hs : (∑ q : Fin 384, k0_pay10 (F := Ideal) (gate m c t (wf m c)) k0_pay7 v (ValueIdx.ix2 (y 0) q) * iblk m c 6 t (ValueIdx.ix2 q (y 1)))
      = if (y 1).val % 128 = 3 then -(cum m c ⟨(y 1).val / 128, hh⟩ (512 * t.val + (y 0).val + 1) * lb) else 0 := by
    have hp := fun (q : Fin 384) (e : q.val % 128 = (y 1).val / 128) => piece H t v hv (y 0) q ⟨(y 1).val / 128, hh⟩ e
    refine (Finset.sum_congr rfl fun q _ => congrArg (_ * ·) (b6 m c t (ValueIdx.ix2 q (y 1)))).trans ?_
    refine (collapseK (fun q => k0_pay10 (F := Ideal) (gate m c t (wf m c)) k0_pay7 v (ValueIdx.ix2 (y 0) q)) ((y 1).val / 128) ((y 1).val % 128) hh
      fun q hq e => (hp q e).trans (if_neg (by omega))).trans ?_
    refine congrArg (fun w : EReal => if (y 1).val % 128 = 3 then -w else 0) ?_
    exact (hp ⟨(y 1).val / 128, by omega⟩ (Nat.mod_eq_of_lt (by show (y 1).val / 128 < 128; omega))).trans (if_pos (by show (y 1).val / 128 < 128; omega))
  refine (congrArg (· + _) hs).trans ?_
  show _ + (if (y 1).val % 128 < 3 then (1 : EReal) else 0) = _
  by_cases a : (y 1).val % 128 < 3
  · rw [if_pos a, if_pos a, if_neg (by omega), zero_add]
  · rw [if_neg a, if_neg a, add_zero]

/-- The queries' biases of one point. -/
theorem q_point {c : Dev nD} (H : RealArgs m c) (t : Fin cfg0.N) (v : Vec Ideal S1x128 .f32) (hv : Carries m c t.val v) (y : S128x512.Idx)
    (j : Cert.ReferenceFoxIdeal.S128x8192.Idx) (h0 : (j 0).val = (y 0).val) (h1 : (j 1).val = 512 * t.val + (y 1).val) :
    k0_pay2 (F := Ideal) (k0_pay10 (gate m c t (wf m c)) k0_pay7 v) (iblk m c 8 t) (iblk m c 9 t) y
      = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  have hy : (y 0).val < 128 := (y 0).isLt
  have hh : (y 0).val / 8 < 16 := by omega
  have hr := qref_point (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j
    (cum m c ⟨(y 0).val / 8, hh⟩ (512 * t.val + (y 1).val + 1) * lb) (fun i i0 i1 => by
      rw [v31_eq, i0, h1, show i 1 = (⟨(y 0).val / 8, hh⟩ : Fin 16) from Fin.ext (by rw [i1, h0])]; rfl)
  rw [hr, h0, pay2_point, b9]
  have hs : (∑ q : Fin 384, @HMul.hMul EReal EReal EReal instHMul (iblk m c 8 t (ValueIdx.ix2 (y 0) q)) (k0_pay10 (F := Ideal) (gate m c t (wf m c)) k0_pay7 v (ValueIdx.ix2 (y 1) q)))
      = if (y 0).val % 8 = 0 then cum m c ⟨(y 0).val / 8, hh⟩ (512 * t.val + (y 1).val + 1) * lb else 0 := by
    have hp := fun (q : Fin 384) (e : q.val % 128 = (y 0).val / 8) => piece H t v hv (y 1) q ⟨(y 0).val / 8, hh⟩ e
    refine (Finset.sum_congr rfl fun q _ => congrArg (fun w : EReal => @HMul.hMul EReal EReal EReal instHMul w (k0_pay10 (F := Ideal) (gate m c t (wf m c)) k0_pay7 v (ValueIdx.ix2 (y 1) q))) (b8 m c t (ValueIdx.ix2 (y 0) q))).trans ?_
    refine (collapseQ (fun q => k0_pay10 (F := Ideal) (gate m c t (wf m c)) k0_pay7 v (ValueIdx.ix2 (y 1) q)) ((y 0).val / 8) ((y 0).val % 8) hh
      fun q hq e => (hp q e).trans (if_neg (by omega))).trans ?_
    refine congrArg (fun w : EReal => if (y 0).val % 8 = 0 then w else 0) ?_
    exact (hp ⟨(y 0).val / 8, by omega⟩ (Nat.mod_eq_of_lt (by show (y 0).val / 8 < 128; omega))).trans (if_pos (by show (y 0).val / 8 < 128; omega))
  refine (congrArg (· + _) hs).trans ?_
  show _ + (if 3 ≤ (y 0).val % 8 ∧ (y 0).val % 8 < 6 then (1 : EReal) else 0) = _
  by_cases a : (y 0).val % 8 = 0
  · rw [if_pos a, if_pos a, if_neg (by omega), add_zero]
  · rw [if_neg a, if_neg a, zero_add]

/-- The keys' biases after the run. -/
theorem k_final {c : Dev nD} (H : RealArgs m c) : (dats m 0 c).arrAt 12 (cfgs 0).N
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t _ y => ?_
  blk_simp
  rw [after0_12]
  obtain ⟨v, hv, _, e⟩ := biases H t
  rw [e]
  refine k_point H t v hv y _ ?_ ?_
  · refine (Pipeline.Window.rect_emb_val_off win0_12 t y 0).trans ?_
    rw [(idx t).2.2.2.2.2.2.2.2.2.2.2.2.1]; exact congrArg (· + (y 0).val) (Nat.mul_comm _ _)
  · refine (Pipeline.Window.rect_emb_val_off win0_12 t y 1).trans ?_
    rw [(idx t).2.2.2.2.2.2.2.2.2.2.2.2.1]; exact Nat.zero_add _

/-- The queries' biases after the run. -/
theorem q_final {c : Dev nD} (H : RealArgs m c) : (dats m 0 c).arrAt 11 (cfgs 0).N
    = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t _ y => ?_
  blk_simp
  rw [after0_11]
  obtain ⟨v, hv, e, _⟩ := biases H t
  rw [e]
  refine q_point H t v hv y _ ?_ ?_
  · refine (Pipeline.Window.rect_emb_val_off win0_11 t y 0).trans ?_
    rw [(idx t).2.2.2.2.2.2.2.2.2.2.2.1]; exact Nat.zero_add _
  · refine (Pipeline.Window.rect_emb_val_off win0_11 t y 1).trans ?_
    rw [(idx t).2.2.2.2.2.2.2.2.2.2.2.1]; exact congrArg (· + (y 1).val) (Nat.mul_comm _ _)

end Cert.KernelFoxIdeal.Blocks

end
-- ==== Proof.FoxPre.lean ====
/-
The precondition `all_finite` read back: every element of every argument is a real number.
-/
module

public import proofs.«01_k».proof.Pre_all_finite
public import proofs.«01_k».proof.Proof.FoxRef
public import Idealize.ShloMosaic.Lib.ReduceAll

@[expose] public section

set_option maxRecDepth 16384

noncomputable section

open Idealize.ShloMosaic

namespace Cert.Pre_all_finite

instance facts : Cert.Pre_all_finite.Facts where
  bcast_S_S8192x4096 := by decide
  reducesTo_S8192x4096_S_d0_1 := by decide
  h_S_ := by decide
  bcast_S_S1x4096 := by decide
  reducesTo_S1x4096_S_d0_1 := by decide
  bcast_S_S1x4096x14352 := by decide
  reducesTo_S1x4096x14352_S_d0_1_2 := by decide
  bcast_S_S1x16 := by decide
  reducesTo_S1x16_S_d0_1 := by decide

open Cert.Fox Facts

theorem ofBits_inf : Ideal.ofBits .f32 0x7F800000#32 = (⊤ : EReal) := by
  simp [Ideal.ofBits, Ideal.ieee]

instance : Subsingleton S_.Idx := ⟨fun a b => funext fun x => x.elim0⟩

/-- One element below infinity in absolute value. -/
theorem real_elem {s : Shape} (x : FVec Ideal s .f32) (hb : S_.BroadcastsInDim s (![] : Fin 0 → Fin s.rank)) (i : s.Idx)
    (e : cmpf .olt (Host.absf x) (broadcastInDim s ![] hb (constant (F := Ideal) S_ .f32 0x7F800000#32)) i = 1#1) : IsReal (x i) := by
  refine isReal_of_abs ?_
  have e' : BitVec.ofBool (decide (max (x i : EReal) (-(x i : EReal)) < Ideal.ofBits .f32 0x7F800000#32)) = 1#1 := e
  rw [ofBits_inf] at e'
  by_contra h
  rw [decide_eq_false h] at e'
  exact absurd e' (by decide)

theorem real_all {s : Shape} {axes : List (Fin s.rank)} (x : FVec Ideal s .f32) (hb : S_.BroadcastsInDim s (![] : Fin 0 → Fin s.rank)) (h : s.ReducesTo axes S_) (j : S_.Idx)
    (e : Host.reduce IntOp.andi (cmpf .olt (Host.absf x) (broadcastInDim s ![] hb (constant (F := Ideal) S_ .f32 0x7F800000#32))) (constantI S_ 1 1#1) h h_S_ j = 1#1) (i : s.Idx) :
    IsReal (x i) :=
  real_elem x hb i (Host.reduce_andi_all _ _ h h_S_ j e i)

/-- The arguments the precondition admits are real numbers. -/
theorem real_of_pre (x0 : FVec Ideal S8192x4096 .f32) (x1 x2 x3 : FVec Ideal S1x4096 .f32) (x4 : FVec Ideal S1x4096x14352 .f32) (x5 : FVec Ideal S1x16 .f32)
    (h : fn (F := Ideal) x0 x1 x2 x3 x4 x5 = fun _ => 1#1) : Real6 x0 x1 x2 x3 x4 x5 := by
  have e := congrFun h (fun a => a.elim0)
  dsimp only [fn, fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_all x0 _ _ _ e0, real_all x1 _ _ _ e1, real_all x2 _ _ _ e2, real_all x3 _ _ _ e3, real_all x4 _ _ _ e4, real_all x5 _ _ _ e5⟩

end Cert.Pre_all_finite

end
-- ==== Proof.ClaimsFox.lean ====
/-
The claims about the mixer's norm with the forget-gate biases.
-/
module

public import proofs.«01_k».proof.Defs
public import proofs.«01_k».proof.Proof.FoxBias
public import proofs.«01_k».proof.Proof.FoxPre
public import proofs.«01_k».proof.Proof.Gen.KernelFox.Frame
public import Idealize.ShloMosaic.Lib.Claim
public import Idealize.ShloMosaic.Lib.Quiescent

@[expose] public section

set_option maxRecDepth 100000

noncomputable section

open Idealize.ShloMosaic Idealize.ShloMosaic.TcCoe Idealize.SL.Sem

namespace Cert.KernelFoxIdeal.Blocks

open Cert.KernelFoxIdeal Cert.KernelFoxIdeal.Gen
open Idealize.ShloMosaic.Pipeline (Dat)

/-- The run: each output array is what its blocks make of it, and the arguments are as launched. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v29_0) = (dats m 0 c).arrAt 10 cfg0.N
      ∧ r.2.mem ((c : Thread nD τ).loc main_v29_1) = (dats m 0 c).arrAt 11 cfg0.N
      ∧ r.2.mem ((c : Thread nD τ).loc main_v29_2) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 10, (h c).1 11, (h c).1 12,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelFoxIdeal.Blocks

namespace Cert.Proof.Fox

theorem frame_p : Cert.quiescent_KernelFox := fun m ρ _ => Cert.KernelFox.Gen.frame m ρ

theorem frame_pi : Cert.quiescent_KernelFoxIdeal := fun m ρ _ => Cert.KernelFoxIdeal.Gen.frame m ρ

theorem frame_pi_pre : Cert.quiescent_KernelFoxIdeal_pre_all_finite := fun m ρ _ => Cert.KernelFoxIdeal.Gen.frame m ρ

theorem frame_ri : Cert.quiescent_ReferenceFoxIdeal := fun m ρ _ =>
  (θ_run Cert.ReferenceFoxIdeal.defs _ _).mono (fun r h => ⟨fun c => (h c).2.2.2, sem_eq_zero_of_no_sems (by decide) r.2⟩)
    (Cert.ReferenceFoxIdeal.Value.run (F := Ideal) m ρ)

theorem frame_ri_pre : Cert.quiescent_ReferenceFoxIdeal_pre_all_finite := fun m ρ _ => frame_ri m ρ trivial

theorem preserves : Cert.preserves_KernelFox_KernelFoxIdeal :=
  IdealRules.named_const.statement Cert.KernelFoxIdeal.κ "log2_e" .f32 0x3FB8AA3B#32 (((Real.log 2)⁻¹ : ℝ) : EReal) rfl

/-- The kernel's three output arrays and the reference's results are the same arrays, for arguments that are real numbers. -/
theorem algebraic : Cert.algebraic_KernelFoxIdeal_ReferenceFoxIdeal_pre_all_finite := by
  intro m ρ m' ρ' hpre hagree
  refine ⟨_, _, _, Cert.KernelFoxIdeal.Blocks.run_blocks m ρ, ?_⟩
  refine (θ_run Cert.ReferenceFoxIdeal.defs _ _).mono (fun _ h c => ⟨(h c).1.trans ?_, (h c).2.1.trans ?_, (h c).2.2.1.trans ?_, (h c).2.2.2⟩)
    (Cert.ReferenceFoxIdeal.Value.run (F := Ideal) m' ρ')
  · rw [(hagree c).1, (hagree c).2.1, (hagree c).2.2.1, (hagree c).2.2.2.1]
    exact (Cert.ReferenceFoxIdeal.Read.val_main_v55_eq _ _ _ _).trans (Cert.KernelFoxIdeal.Blocks.h_final m c).symm
  · rw [Cert.ReferenceFoxIdeal.Read.val_main_v44_eq m' c, (hagree c).1, (hagree c).2.1, (hagree c).2.2.1, (hagree c).2.2.2.1, (hagree c).2.2.2.2.1, (hagree c).2.2.2.2.2]
    exact (Cert.KernelFoxIdeal.Blocks.q_final (Cert.Pre_all_finite.real_of_pre _ _ _ _ _ _ (hpre c))).symm
  · rw [Cert.ReferenceFoxIdeal.Read.val_main_v56_eq m' c, (hagree c).1, (hagree c).2.1, (hagree c).2.2.1, (hagree c).2.2.2.1, (hagree c).2.2.2.2.1, (hagree c).2.2.2.2.2]
    exact (Cert.KernelFoxIdeal.Blocks.k_final (Cert.Pre_all_finite.real_of_pre _ _ _ _ _ _ (hpre c))).symm

end Cert.Proof.Fox

end
-- ==== Proof.lean ====
/-
The claims of every call, put together.
-/
module

public import proofs.«01_k».proof.Defs
public import proofs.«01_k».proof.Proof.Gen.KernelQIdeal.Value
public import proofs.«01_k».proof.Proof.Gen.ReferenceQIdeal.Run
public import proofs.«01_k».proof.Proof.Gen.ReferenceQIdeal.Read
public import proofs.«01_k».proof.Proof.Gen.KernelQ
public import proofs.«01_k».proof.Proof.Gen.KernelQ.Skeleton
public import proofs.«01_k».proof.Proof.Gen.KernelQ.Launch
public import proofs.«01_k».proof.Proof.Gen.KernelQ.Points
public import proofs.«01_k».proof.Proof.Gen.KernelQ.Frame
public import proofs.«01_k».proof.Proof.Gen.KernelQIdeal
public import proofs.«01_k».proof.Proof.Gen.KernelQIdeal.Skeleton
public import proofs.«01_k».proof.Proof.Gen.KernelQIdeal.Launch
public import proofs.«01_k».proof.Proof.Gen.KernelQIdeal.Points
public import proofs.«01_k».proof.Proof.Gen.KernelQIdeal.Frame
public import proofs.«01_k».proof.Proof.Gen.ReferenceQIdeal
public import proofs.«01_k».proof.Proof.Gen.KernelKIdeal.Value
public import proofs.«01_k».proof.Proof.Gen.ReferenceKIdeal.Run
public import proofs.«01_k».proof.Proof.Gen.ReferenceKIdeal.Read
public import proofs.«01_k».proof.Proof.Gen.KernelK
public import proofs.«01_k».proof.Proof.Gen.KernelK.Skeleton
public import proofs.«01_k».proof.Proof.Gen.KernelK.Launch
public import proofs.«01_k».proof.Proof.Gen.KernelK.Points
public import proofs.«01_k».proof.Proof.Gen.KernelK.Frame
public import proofs.«01_k».proof.Proof.Gen.KernelKIdeal
public import proofs.«01_k».proof.Proof.Gen.KernelKIdeal.Skeleton
public import proofs.«01_k».proof.Proof.Gen.KernelKIdeal.Launch
public import proofs.«01_k».proof.Proof.Gen.KernelKIdeal.Points
public import proofs.«01_k».proof.Proof.Gen.KernelKIdeal.Frame
public import proofs.«01_k».proof.Proof.Gen.ReferenceKIdeal
public import proofs.«01_k».proof.Proof.Gen.KernelVIdeal.Value
public import proofs.«01_k».proof.Proof.Gen.ReferenceVIdeal.Run
public import proofs.«01_k».proof.Proof.Gen.ReferenceVIdeal.Read
public import proofs.«01_k».proof.Proof.Gen.KernelV
public import proofs.«01_k».proof.Proof.Gen.KernelV.Skeleton
public import proofs.«01_k».proof.Proof.Gen.KernelV.Launch
public import proofs.«01_k».proof.Proof.Gen.KernelV.Points
public import proofs.«01_k».proof.Proof.Gen.KernelV.Frame
public import proofs.«01_k».proof.Proof.Gen.KernelVIdeal
public import proofs.«01_k».proof.Proof.Gen.KernelVIdeal.Skeleton
public import proofs.«01_k».proof.Proof.Gen.KernelVIdeal.Launch
public import proofs.«01_k».proof.Proof.Gen.KernelVIdeal.Points
public import proofs.«01_k».proof.Proof.Gen.KernelVIdeal.Frame
public import proofs.«01_k».proof.Proof.Gen.ReferenceVIdeal
public import proofs.«01_k».proof.Proof.Gen.KernelQfIdeal.Value
public import proofs.«01_k».proof.Proof.Gen.ReferenceQfIdeal.Run
public import proofs.«01_k».proof.Proof.Gen.ReferenceQfIdeal.Read
public import proofs.«01_k».proof.Proof.Gen.KernelQf
public import proofs.«01_k».proof.Proof.Gen.KernelQf.Skeleton
public import proofs.«01_k».proof.Proof.Gen.KernelQf.Launch
public import proofs.«01_k».proof.Proof.Gen.KernelQf.Points
public import proofs.«01_k».proof.Proof.Gen.KernelQf.Frame
public import proofs.«01_k».proof.Proof.Gen.KernelQfIdeal
public import proofs.«01_k».proof.Proof.Gen.KernelQfIdeal.Skeleton
public import proofs.«01_k».proof.Proof.Gen.KernelQfIdeal.Launch
public import proofs.«01_k».proof.Proof.Gen.KernelQfIdeal.Points
public import proofs.«01_k».proof.Proof.Gen.KernelQfIdeal.Frame
public import proofs.«01_k».proof.Proof.Gen.ReferenceQfIdeal
public import proofs.«01_k».proof.Proof.Gen.KernelIIdeal.Value
public import proofs.«01_k».proof.Proof.Gen.ReferenceIIdeal.Run
public import proofs.«01_k».proof.Proof.Gen.ReferenceIIdeal.Read
public import proofs.«01_k».proof.Proof.Gen.KernelI
public import proofs.«01_k».proof.Proof.Gen.KernelI.Skeleton
public import proofs.«01_k».proof.Proof.Gen.KernelI.Launch
public import proofs.«01_k».proof.Proof.Gen.KernelI.Points
public import proofs.«01_k».proof.Proof.Gen.KernelI.Frame
public import proofs.«01_k».proof.Proof.Gen.KernelIIdeal
public import proofs.«01_k».proof.Proof.Gen.KernelIIdeal.Skeleton
public import proofs.«01_k».proof.Proof.Gen.KernelIIdeal.Launch
public import proofs.«01_k».proof.Proof.Gen.KernelIIdeal.Points
public import proofs.«01_k».proof.Proof.Gen.KernelIIdeal.Frame
public import proofs.«01_k».proof.Proof.Gen.ReferenceIIdeal
public import proofs.«01_k».proof.Proof.Gen.KernelGIdeal.Value
public import proofs.«01_k».proof.Proof.Gen.ReferenceGIdeal.Run
public import proofs.«01_k».proof.Proof.Gen.ReferenceGIdeal.Read
public import proofs.«01_k».proof.Proof.Gen.KernelG
public import proofs.«01_k».proof.Proof.Gen.KernelG.Skeleton
public import proofs.«01_k».proof.Proof.Gen.KernelG.Launch
public import proofs.«01_k».proof.Proof.Gen.KernelG.Points
public import proofs.«01_k».proof.Proof.Gen.KernelG.Frame
public import proofs.«01_k».proof.Proof.Gen.KernelGIdeal
public import proofs.«01_k».proof.Proof.Gen.KernelGIdeal.Skeleton
public import proofs.«01_k».proof.Proof.Gen.KernelGIdeal.Launch
public import proofs.«01_k».proof.Proof.Gen.KernelGIdeal.Points
public import proofs.«01_k».proof.Proof.Gen.KernelGIdeal.Frame
public import proofs.«01_k».proof.Proof.Gen.ReferenceGIdeal
public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.ReferenceDownIdeal
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.KernelNormIdeal.Value
public import proofs.«01_k».proof.Proof.Gen.ReferenceNormIdeal.Run
public import proofs.«01_k».proof.Proof.Gen.ReferenceNormIdeal.Read
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.ReferenceNormIdeal
public import proofs.«01_k».proof.Proof.Gen.KernelFinalIdeal.Value
public import proofs.«01_k».proof.Proof.Gen.ReferenceFinalIdeal.Run
public import proofs.«01_k».proof.Proof.Gen.ReferenceFinalIdeal.Read
public import proofs.«01_k».proof.Proof.Gen.KernelFinal
public import proofs.«01_k».proof.Proof.Gen.KernelFinal.Skeleton
public import proofs.«01_k».proof.Proof.Gen.KernelFinal.Launch
public import proofs.«01_k».proof.Proof.Gen.KernelFinal.Points
public import proofs.«01_k».proof.Proof.Gen.KernelFinal.Frame
public import proofs.«01_k».proof.Proof.Gen.KernelFinalIdeal
public import proofs.«01_k».proof.Proof.Gen.KernelFinalIdeal.Skeleton
public import proofs.«01_k».proof.Proof.Gen.KernelFinalIdeal.Launch
public import proofs.«01_k».proof.Proof.Gen.KernelFinalIdeal.Points
public import proofs.«01_k».proof.Proof.Gen.KernelFinalIdeal.Frame
public import proofs.«01_k».proof.Proof.Gen.ReferenceFinalIdeal
public import proofs.«01_k».proof.Proof.Gen.KernelAdaIdeal.Value
public import proofs.«01_k».proof.Proof.Gen.ReferenceAdaIdeal.Run
public import proofs.«01_k».proof.Proof.Gen.ReferenceAdaIdeal.Read
public import proofs.«01_k».proof.Proof.Gen.KernelAda
public import proofs.«01_k».proof.Proof.Gen.KernelAda.Skeleton
public import proofs.«01_k».proof.Proof.Gen.KernelAda.Launch
public import proofs.«01_k».proof.Proof.Gen.KernelAda.Points
public import proofs.«01_k».proof.Proof.Gen.KernelAda.Frame
public import proofs.«01_k».proof.Proof.Gen.KernelAdaIdeal
public import proofs.«01_k».proof.Proof.Gen.KernelAdaIdeal.Skeleton
public import proofs.«01_k».proof.Proof.Gen.KernelAdaIdeal.Launch
public import proofs.«01_k».proof.Proof.Gen.KernelAdaIdeal.Points
public import proofs.«01_k».proof.Proof.Gen.KernelAdaIdeal.Frame
public import proofs.«01_k».proof.Proof.Gen.ReferenceAdaIdeal
public import proofs.«01_k».proof.Proof.Gen.ReferenceUpIdeal.Run
public import proofs.«01_k».proof.Proof.Gen.ReferenceUpIdeal.Read
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.ReferenceUpIdeal
public import proofs.«01_k».proof.Proof.Gen.ReferenceFoxIdeal.Run
public import proofs.«01_k».proof.Proof.Gen.ReferenceFoxIdeal.Read
public import proofs.«01_k».proof.Proof.Gen.KernelFox
public import proofs.«01_k».proof.Proof.Gen.KernelFox.Skeleton
public import proofs.«01_k».proof.Proof.Gen.KernelFox.Launch
public import proofs.«01_k».proof.Proof.Gen.KernelFox.Points
public import proofs.«01_k».proof.Proof.Gen.KernelFox.Frame
public import proofs.«01_k».proof.Proof.Gen.KernelFoxIdeal
public import proofs.«01_k».proof.Proof.Gen.KernelFoxIdeal.Skeleton
public import proofs.«01_k».proof.Proof.Gen.KernelFoxIdeal.Launch
public import proofs.«01_k».proof.Proof.Gen.KernelFoxIdeal.Points
public import proofs.«01_k».proof.Proof.Gen.KernelFoxIdeal.Frame
public import proofs.«01_k».proof.Proof.Gen.ReferenceFoxIdeal
public import proofs.«01_k».proof.Proof.ClaimsQ
public import proofs.«01_k».proof.Proof.ClaimsK
public import proofs.«01_k».proof.Proof.ClaimsV
public import proofs.«01_k».proof.Proof.ClaimsQf
public import proofs.«01_k».proof.Proof.ClaimsI
public import proofs.«01_k».proof.Proof.ClaimsG
public import proofs.«01_k».proof.Proof.ClaimsDown
public import proofs.«01_k».proof.Proof.ClaimsOut
public import proofs.«01_k».proof.Proof.ClaimsNorm
public import proofs.«01_k».proof.Proof.ClaimsFinal
public import proofs.«01_k».proof.Proof.ClaimsAda
public import proofs.«01_k».proof.Proof.ClaimsUp
public import proofs.«01_k».proof.Proof.ClaimsFox
public import Idealize.ShloMosaic.Adequacy
public import Idealize.ShloMosaic.Init

@[expose] public section

noncomputable section

namespace Cert.Proof

theorem claim : Cert.Claim := ⟨
  Cert.KernelQ.Gen.facts, Cert.KernelQIdeal.Gen.facts, Cert.ReferenceQIdeal.Gen.facts,
  Cert.KernelK.Gen.facts, Cert.KernelKIdeal.Gen.facts, Cert.ReferenceKIdeal.Gen.facts,
  Cert.KernelV.Gen.facts, Cert.KernelVIdeal.Gen.facts, Cert.ReferenceVIdeal.Gen.facts,
  Cert.KernelQf.Gen.facts, Cert.KernelQfIdeal.Gen.facts, Cert.ReferenceQfIdeal.Gen.facts,
  Cert.KernelI.Gen.facts, Cert.KernelIIdeal.Gen.facts, Cert.ReferenceIIdeal.Gen.facts,
  Cert.KernelG.Gen.facts, Cert.KernelGIdeal.Gen.facts, Cert.ReferenceGIdeal.Gen.facts,
  Cert.KernelDown.Gen.facts, Cert.KernelDownIdeal.Gen.facts, Cert.ReferenceDownIdeal.Gen.facts,
  Cert.KernelOut.Gen.facts, Cert.KernelOutIdeal.Gen.facts, Cert.ReferenceOutIdeal.Gen.facts,
  Cert.KernelNorm.Gen.facts, Cert.KernelNormIdeal.Gen.facts, Cert.ReferenceNormIdeal.Gen.facts,
  Cert.KernelFinal.Gen.facts, Cert.KernelFinalIdeal.Gen.facts, Cert.ReferenceFinalIdeal.Gen.facts,
  Cert.KernelAda.Gen.facts, Cert.KernelAdaIdeal.Gen.facts, Cert.ReferenceAdaIdeal.Gen.facts,
  Cert.KernelUp.Gen.facts, Cert.KernelUpIdeal.Gen.facts, Cert.ReferenceUpIdeal.Gen.facts,
  Cert.KernelFox.Gen.facts, Cert.KernelFoxIdeal.Gen.facts, Cert.ReferenceFoxIdeal.Gen.facts, Cert.Pre_all_finite.facts,
  Q.frame_p, Q.frame_pi, Q.frame_ri,
  K.frame_p, K.frame_pi, K.frame_ri,
  V.frame_p, V.frame_pi, V.frame_ri,
  Qf.frame_p, Qf.frame_pi, Qf.frame_ri,
  I.frame_p, I.frame_pi, I.frame_ri,
  G.frame_p, G.frame_pi, G.frame_ri,
  Down.frame_p, Down.frame_pi, Down.frame_ri,
  Out.frame_p, Out.frame_pi, Out.frame_ri,
  Norm.frame_p, Norm.frame_pi, Norm.frame_ri,
  Final.frame_p, Final.frame_pi, Final.frame_ri,
  Ada.frame_p, Ada.frame_pi, Ada.frame_ri,
  Up.frame_p, Up.frame_pi, Up.frame_ri,
  Fox.frame_p, Fox.frame_pi, Fox.frame_pi_pre, Fox.frame_ri, Fox.frame_ri_pre,
  Q.preserves, Q.algebraic,
  K.preserves, K.algebraic,
  V.preserves, V.algebraic,
  Qf.preserves, Qf.algebraic,
  I.preserves, I.algebraic,
  G.preserves, G.algebraic,
  Down.preserves, Down.algebraic,
  Out.preserves, Out.algebraic,
  Norm.preserves, Norm.algebraic,
  Final.preserves, Final.algebraic,
  Ada.preserves, Ada.algebraic,
  Up.preserves, Up.algebraic,
  Fox.preserves, Fox.algebraic⟩

end Cert.Proof

end
